-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_attention_finite [hPre_attention_finite : Cert.Pre_attention_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_attention_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).1 = (fun _ => 1#1)
    ∧ (Cert.Pre_attention_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.1 = (fun _ => 1#1)
    ∧ (Cert.Pre_attention_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.2.1 = (fun _ => 1#1)
    ∧ (Cert.Pre_attention_finite.fn (F := Ideal) (m ((c.tc : Thread Cert.AttentionIdeal.nD Cert.AttentionIdeal.τ).loc Cert.AttentionIdeal.main_arg0)) (m ((c.tc : Thread Cert.AttentionIdeal.nD Cert.AttentionIdeal.τ).loc Cert.AttentionIdeal.main_arg1)) (m ((c.tc : Thread Cert.AttentionIdeal.nD Cert.AttentionIdeal.τ).loc Cert.AttentionIdeal.main_arg2)) (m ((c.tc : Thread Cert.AttentionIdeal.nD Cert.AttentionIdeal.τ).loc Cert.AttentionIdeal.main_arg3)) (m ((c.tc : Thread Cert.AttentionIdeal.nD Cert.AttentionIdeal.τ).loc Cert.AttentionIdeal.main_arg4))).2.2.2 = (fun _ => 1#1)

def Pre_AttentionReferenceIdeal (m : (ℓ : Loc Cert.AttentionReferenceIdeal.nD Cert.AttentionReferenceIdeal.τ Cert.AttentionReferenceIdeal.sig) → Buf (Elt Ideal) ℓ) : Prop :=
  True

def Pre_AttentionReferenceIdeal_attention_finite [hPre_attention_finite : Cert.Pre_attention_finite.Facts] (m : (ℓ : Loc Cert.AttentionReferenceIdeal.nD Cert.AttentionReferenceIdeal.τ Cert.AttentionReferenceIdeal.sig) → Buf (Elt Ideal) ℓ) : Prop :=
  ∀ c : Dev Cert.AttentionReferenceIdeal.nD,
    (Cert.Pre_attention_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4))).1 = (fun _ => 1#1)
    ∧ (Cert.Pre_attention_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4))).2.1 = (fun _ => 1#1)
    ∧ (Cert.Pre_attention_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4))).2.2.1 = (fun _ => 1#1)
    ∧ (Cert.Pre_attention_finite.fn (F := Ideal) (m ((c.tc : Thread Cert.AttentionReferenceIdeal.nD Cert.AttentionReferenceIdeal.τ).loc Cert.AttentionReferenceIdeal.main_arg0)) (m ((c.tc : Thread Cert.AttentionReferenceIdeal.nD Cert.AttentionReferenceIdeal.τ).loc Cert.AttentionReferenceIdeal.main_arg1)) (m ((c.tc : Thread Cert.AttentionReferenceIdeal.nD Cert.AttentionReferenceIdeal.τ).loc Cert.AttentionReferenceIdeal.main_arg2)) (m ((c.tc : Thread Cert.AttentionReferenceIdeal.nD Cert.AttentionReferenceIdeal.τ).loc Cert.AttentionReferenceIdeal.main_arg3)) (m ((c.tc : Thread Cert.AttentionReferenceIdeal.nD Cert.AttentionReferenceIdeal.τ).loc Cert.AttentionReferenceIdeal.main_arg4))).2.2.2 = (fun _ => 1#1)

def Pre_AttnPrep (m : (ℓ : Loc Cert.AttnPrep.nD Cert.AttnPrep.τ Cert.AttnPrep.sig) → Buf (Elt Bits) ℓ) : Prop :=
  True

def Pre_AttnPrepIdeal (m : (ℓ : Loc Cert.AttnPrepIdeal.nD Cert.AttnPrepIdeal.τ Cert.AttnPrepIdeal.sig) → Buf (Elt Ideal) ℓ) : Prop :=
  True

def Pre_AttnPrepIdeal_prep_finite [hPre_prep_finite : Cert.Pre_prep_finite.Facts] (m : (ℓ : Loc Cert.AttnPrepIdeal.nD Cert.AttnPrepIdeal.τ Cert.AttnPrepIdeal.sig) → Buf (Elt Ideal) ℓ) : Prop :=
  ∀ c : Dev Cert.AttnPrepIdeal.nD,
    (Cert.Pre_prep_finite.fn (F := Ideal) (m ((c.tc : Thread Cert.AttnPrepIdeal.nD Cert.AttnPrepIdeal.τ).loc Cert.AttnPrepIdeal.main_arg0)) (m ((c.tc : Thread Cert.AttnPrepIdeal.nD Cert.AttnPrepIdeal.τ).loc Cert.AttnPrepIdeal.main_arg1)) (m ((c.tc : Thread Cert.AttnPrepIdeal.nD Cert.AttnPrepIdeal.τ).loc Cert.AttnPrepIdeal.main_arg2))) = (fun _ => 1#1)

def Pre_AttnPrepReferenceIdeal (m : (ℓ : Loc Cert.AttnPrepReferenceIdeal.nD Cert.AttnPrepReferenceIdeal.τ Cert.AttnPrepReferenceIdeal.sig) → Buf (Elt Ideal) ℓ) : Prop :=
  True

def Pre_AttnPrepReferenceIdeal_prep_finite [hPre_prep_finite : Cert.Pre_prep_finite.Facts] (m : (ℓ : Loc Cert.AttnPrepReferenceIdeal.nD Cert.AttnPrepReferenceIdeal.τ Cert.AttnPrepReferenceIdeal.sig) → Buf (Elt Ideal) ℓ) : Prop :=
  ∀ c : Dev Cert.AttnPrepReferenceIdeal.nD,
    (Cert.Pre_prep_finite.fn (F := Ideal) (m ((c.tc : Thread Cert.AttnPrepReferenceIdeal.nD Cert.AttnPrepReferenceIdeal.τ).loc Cert.AttnPrepReferenceIdeal.main_arg0)) (m ((c.tc : Thread Cert.AttnPrepReferenceIdeal.nD Cert.AttnPrepReferenceIdeal.τ).loc Cert.AttnPrepReferenceIdeal.main_arg1)) (m ((c.tc : Thread Cert.AttnPrepReferenceIdeal.nD Cert.AttnPrepReferenceIdeal.τ).loc Cert.AttnPrepReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2)
      ∧ r.2.mem ((c.tc : Thread Cert.Attention.nD Cert.Attention.τ).loc Cert.Attention.main_arg3) = m ((c.tc : Thread Cert.Attention.nD Cert.Attention.τ).loc Cert.Attention.main_arg3)
      ∧ r.2.mem ((c.tc : Thread Cert.Attention.nD Cert.Attention.τ).loc Cert.Attention.main_arg4) = m ((c.tc : Thread Cert.Attention.nD Cert.Attention.τ).loc Cert.Attention.main_arg4))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionIdeal_pre_attention_finite [hAttentionIdeal : Cert.AttentionIdeal.Facts] [hPre_attention_finite : Cert.Pre_attention_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_attention_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ r.2.sem = fun _ => 0)

def quiescent_AttentionReferenceIdeal [hAttentionReferenceIdeal : Cert.AttentionReferenceIdeal.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4))
      ∧ r.2.sem = fun _ => 0)

def quiescent_AttentionReferenceIdeal_pre_attention_finite [hAttentionReferenceIdeal : Cert.AttentionReferenceIdeal.Facts] [hPre_attention_finite : Cert.Pre_attention_finite.Facts] : Prop :=
  ∀ (m : (ℓ : Loc Cert.AttentionReferenceIdeal.nD Cert.AttentionReferenceIdeal.τ Cert.AttentionReferenceIdeal.sig) → Buf (Elt Ideal) ℓ) (g : Dev Cert.AttentionReferenceIdeal.nD → PrngReg), Pre_AttentionReferenceIdeal_attention_finite m →
    θ_run (Cert.AttentionReferenceIdeal.defs (F := Ideal)) (onTc (τ := Cert.AttentionReferenceIdeal.τ) (Cert.AttentionReferenceIdeal.main (F := Ideal))) ⟨m, fun _ => 0, g⟩ (fun r => (∀ c : Dev Cert.AttentionReferenceIdeal.nD,
      r.2.mem ((c.tc : Thread Cert.AttentionReferenceIdeal.nD Cert.AttentionReferenceIdeal.τ).loc Cert.AttentionReferenceIdeal.main_arg0) = m ((c.tc : Thread Cert.AttentionReferenceIdeal.nD Cert.AttentionReferenceIdeal.τ).loc Cert.AttentionReferenceIdeal.main_arg0)
      ∧ r.2.mem ((c.tc : Thread Cert.AttentionReferenceIdeal.nD Cert.AttentionReferenceIdeal.τ).loc Cert.AttentionReferenceIdeal.main_arg1) = m ((c.tc : Thread Cert.AttentionReferenceIdeal.nD Cert.AttentionReferenceIdeal.τ).loc Cert.AttentionReferenceIdeal.main_arg1)
      ∧ r.2.mem ((c.tc : Thread Cert.AttentionReferenceIdeal.nD Cert.AttentionReferenceIdeal.τ).loc Cert.AttentionReferenceIdeal.main_arg2) = m ((c.tc : Thread Cert.AttentionReferenceIdeal.nD Cert.AttentionReferenceIdeal.τ).loc Cert.AttentionReferenceIdeal.main_arg2)
      ∧ r.2.mem ((c.tc : Thread Cert.AttentionReferenceIdeal.nD Cert.AttentionReferenceIdeal.τ).loc Cert.AttentionReferenceIdeal.main_arg3) = m ((c.tc : Thread Cert.AttentionReferenceIdeal.nD Cert.AttentionReferenceIdeal.τ).loc Cert.AttentionReferenceIdeal.main_arg3)
      ∧ r.2.mem ((c.tc : Thread Cert.AttentionReferenceIdeal.nD Cert.AttentionReferenceIdeal.τ).loc Cert.AttentionReferenceIdeal.main_arg4) = m ((c.tc : Thread Cert.AttentionReferenceIdeal.nD Cert.AttentionReferenceIdeal.τ).loc Cert.AttentionReferenceIdeal.main_arg4))
      ∧ r.2.sem = fun _ => 0)

def quiescent_AttnPrep [hAttnPrep : Cert.AttnPrep.Facts] : Prop :=
  ∀ (m : (ℓ : Loc Cert.AttnPrep.nD Cert.AttnPrep.τ Cert.AttnPrep.sig) → Buf (Elt Bits) ℓ) (g : Dev Cert.AttnPrep.nD → PrngReg), Pre_AttnPrep m →
    θ_run (Cert.AttnPrep.defs (F := Bits)) (onTc (τ := Cert.AttnPrep.τ) (Cert.AttnPrep.main (F := Bits))) ⟨m, fun _ => 0, g⟩ (fun r => (∀ c : Dev Cert.AttnPrep.nD,
      r.2.mem ((c.tc : Thread Cert.AttnPrep.nD Cert.AttnPrep.τ).loc Cert.AttnPrep.main_arg0) = m ((c.tc : Thread Cert.AttnPrep.nD Cert.AttnPrep.τ).loc Cert.AttnPrep.main_arg0)
      ∧ r.2.mem ((c.tc : Thread Cert.AttnPrep.nD Cert.AttnPrep.τ).loc Cert.AttnPrep.main_arg1) = m ((c.tc : Thread Cert.AttnPrep.nD Cert.AttnPrep.τ).loc Cert.AttnPrep.main_arg1)
      ∧ r.2.mem ((c.tc : Thread Cert.AttnPrep.nD Cert.AttnPrep.τ).loc Cert.AttnPrep.main_arg2) = m ((c.tc : Thread Cert.AttnPrep.nD Cert.AttnPrep.τ).loc Cert.AttnPrep.main_arg2))
      ∧ r.2.sem = fun _ => 0)

def quiescent_AttnPrepIdeal [hAttnPrepIdeal : Cert.AttnPrepIdeal.Facts] : Prop :=
  ∀ (m : (ℓ : Loc Cert.AttnPrepIdeal.nD Cert.AttnPrepIdeal.τ Cert.AttnPrepIdeal.sig) → Buf (Elt Ideal) ℓ) (g : Dev Cert.AttnPrepIdeal.nD → PrngReg), Pre_AttnPrepIdeal m →
    θ_run (Cert.AttnPrepIdeal.defs (F := Ideal)) (onTc (τ := Cert.AttnPrepIdeal.τ) (Cert.AttnPrepIdeal.main (F := Ideal))) ⟨m, fun _ => 0, g⟩ (fun r => (∀ c : Dev Cert.AttnPrepIdeal.nD,
      r.2.mem ((c.tc : Thread Cert.AttnPrepIdeal.nD Cert.AttnPrepIdeal.τ).loc Cert.AttnPrepIdeal.main_arg0) = m ((c.tc : Thread Cert.AttnPrepIdeal.nD Cert.AttnPrepIdeal.τ).loc Cert.AttnPrepIdeal.main_arg0)
      ∧ r.2.mem ((c.tc : Thread Cert.AttnPrepIdeal.nD Cert.AttnPrepIdeal.τ).loc Cert.AttnPrepIdeal.main_arg1) = m ((c.tc : Thread Cert.AttnPrepIdeal.nD Cert.AttnPrepIdeal.τ).loc Cert.AttnPrepIdeal.main_arg1)
      ∧ r.2.mem ((c.tc : Thread Cert.AttnPrepIdeal.nD Cert.AttnPrepIdeal.τ).loc Cert.AttnPrepIdeal.main_arg2) = m ((c.tc : Thread Cert.AttnPrepIdeal.nD Cert.AttnPrepIdeal.τ).loc Cert.AttnPrepIdeal.main_arg2))
      ∧ r.2.sem = fun _ => 0)

def quiescent_AttnPrepIdeal_pre_prep_finite [hAttnPrepIdeal : Cert.AttnPrepIdeal.Facts] [hPre_prep_finite : Cert.Pre_prep_finite.Facts] : Prop :=
  ∀ (m : (ℓ : Loc Cert.AttnPrepIdeal.nD Cert.AttnPrepIdeal.τ Cert.AttnPrepIdeal.sig) → Buf (Elt Ideal) ℓ) (g : Dev Cert.AttnPrepIdeal.nD → PrngReg), Pre_AttnPrepIdeal_prep_finite m →
    θ_run (Cert.AttnPrepIdeal.defs (F := Ideal)) (onTc (τ := Cert.AttnPrepIdeal.τ) (Cert.AttnPrepIdeal.main (F := Ideal))) ⟨m, fun _ => 0, g⟩ (fun r => (∀ c : Dev Cert.AttnPrepIdeal.nD,
      r.2.mem ((c.tc : Thread Cert.AttnPrepIdeal.nD Cert.AttnPrepIdeal.τ).loc Cert.AttnPrepIdeal.main_arg0) = m ((c.tc : Thread Cert.AttnPrepIdeal.nD Cert.AttnPrepIdeal.τ).loc Cert.AttnPrepIdeal.main_arg0)
      ∧ r.2.mem ((c.tc : Thread Cert.AttnPrepIdeal.nD Cert.AttnPrepIdeal.τ).loc Cert.AttnPrepIdeal.main_arg1) = m ((c.tc : Thread Cert.AttnPrepIdeal.nD Cert.AttnPrepIdeal.τ).loc Cert.AttnPrepIdeal.main_arg1)
      ∧ r.2.mem ((c.tc : Thread Cert.AttnPrepIdeal.nD Cert.AttnPrepIdeal.τ).loc Cert.AttnPrepIdeal.main_arg2) = m ((c.tc : Thread Cert.AttnPrepIdeal.nD Cert.AttnPrepIdeal.τ).loc Cert.AttnPrepIdeal.main_arg2))
      ∧ r.2.sem = fun _ => 0)

def quiescent_AttnPrepReferenceIdeal [hAttnPrepReferenceIdeal : Cert.AttnPrepReferenceIdeal.Facts] : Prop :=
  ∀ (m : (ℓ : Loc Cert.AttnPrepReferenceIdeal.nD Cert.AttnPrepReferenceIdeal.τ Cert.AttnPrepReferenceIdeal.sig) → Buf (Elt Ideal) ℓ) (g : Dev Cert.AttnPrepReferenceIdeal.nD → PrngReg), Pre_AttnPrepReferenceIdeal m →
    θ_run (Cert.AttnPrepReferenceIdeal.defs (F := Ideal)) (onTc (τ := Cert.AttnPrepReferenceIdeal.τ) (Cert.AttnPrepReferenceIdeal.main (F := Ideal))) ⟨m, fun _ => 0, g⟩ (fun r => (∀ c : Dev Cert.AttnPrepReferenceIdeal.nD,
      r.2.mem ((c.tc : Thread Cert.AttnPrepReferenceIdeal.nD Cert.AttnPrepReferenceIdeal.τ).loc Cert.AttnPrepReferenceIdeal.main_arg0) = m ((c.tc : Thread Cert.AttnPrepReferenceIdeal.nD Cert.AttnPrepReferenceIdeal.τ).loc Cert.AttnPrepReferenceIdeal.main_arg0)
      ∧ r.2.mem ((c.tc : Thread Cert.AttnPrepReferenceIdeal.nD Cert.AttnPrepReferenceIdeal.τ).loc Cert.AttnPrepReferenceIdeal.main_arg1) = m ((c.tc : Thread Cert.AttnPrepReferenceIdeal.nD Cert.AttnPrepReferenceIdeal.τ).loc Cert.AttnPrepReferenceIdeal.main_arg1)
      ∧ r.2.mem ((c.tc : Thread Cert.AttnPrepReferenceIdeal.nD Cert.AttnPrepReferenceIdeal.τ).loc Cert.AttnPrepReferenceIdeal.main_arg2) = m ((c.tc : Thread Cert.AttnPrepReferenceIdeal.nD Cert.AttnPrepReferenceIdeal.τ).loc Cert.AttnPrepReferenceIdeal.main_arg2))
      ∧ r.2.sem = fun _ => 0)

def quiescent_AttnPrepReferenceIdeal_pre_prep_finite [hAttnPrepReferenceIdeal : Cert.AttnPrepReferenceIdeal.Facts] [hPre_prep_finite : Cert.Pre_prep_finite.Facts] : Prop :=
  ∀ (m : (ℓ : Loc Cert.AttnPrepReferenceIdeal.nD Cert.AttnPrepReferenceIdeal.τ Cert.AttnPrepReferenceIdeal.sig) → Buf (Elt Ideal) ℓ) (g : Dev Cert.AttnPrepReferenceIdeal.nD → PrngReg), Pre_AttnPrepReferenceIdeal_prep_finite m →
    θ_run (Cert.AttnPrepReferenceIdeal.defs (F := Ideal)) (onTc (τ := Cert.AttnPrepReferenceIdeal.τ) (Cert.AttnPrepReferenceIdeal.main (F := Ideal))) ⟨m, fun _ => 0, g⟩ (fun r => (∀ c : Dev Cert.AttnPrepReferenceIdeal.nD,
      r.2.mem ((c.tc : Thread Cert.AttnPrepReferenceIdeal.nD Cert.AttnPrepReferenceIdeal.τ).loc Cert.AttnPrepReferenceIdeal.main_arg0) = m ((c.tc : Thread Cert.AttnPrepReferenceIdeal.nD Cert.AttnPrepReferenceIdeal.τ).loc Cert.AttnPrepReferenceIdeal.main_arg0)
      ∧ r.2.mem ((c.tc : Thread Cert.AttnPrepReferenceIdeal.nD Cert.AttnPrepReferenceIdeal.τ).loc Cert.AttnPrepReferenceIdeal.main_arg1) = m ((c.tc : Thread Cert.AttnPrepReferenceIdeal.nD Cert.AttnPrepReferenceIdeal.τ).loc Cert.AttnPrepReferenceIdeal.main_arg1)
      ∧ r.2.mem ((c.tc : Thread Cert.AttnPrepReferenceIdeal.nD Cert.AttnPrepReferenceIdeal.τ).loc Cert.AttnPrepReferenceIdeal.main_arg2) = m ((c.tc : Thread Cert.AttnPrepReferenceIdeal.nD Cert.AttnPrepReferenceIdeal.τ).loc Cert.AttnPrepReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v314) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v14_0)) (v1 : (c : Dev Cert.InProjIdeal.nD) → Buf (Elt Ideal) ((c.tc : Thread Cert.InProjIdeal.nD Cert.InProjIdeal.τ).loc Cert.InProjIdeal.main_v14_1)) (v2 : (c : Dev Cert.InProjIdeal.nD) → Buf (Elt Ideal) ((c.tc : Thread Cert.InProjIdeal.nD Cert.InProjIdeal.τ).loc Cert.InProjIdeal.main_v14_2)) (v3 : (c : Dev Cert.InProjIdeal.nD) → Buf (Elt Ideal) ((c.tc : Thread Cert.InProjIdeal.nD Cert.InProjIdeal.τ).loc Cert.InProjIdeal.main_v14_3)) (v4 : (c : Dev Cert.InProjIdeal.nD) → Buf (Elt Ideal) ((c.tc : Thread Cert.InProjIdeal.nD Cert.InProjIdeal.τ).loc Cert.InProjIdeal.main_v14_4)) (v5 : (c : Dev Cert.InProjIdeal.nD) → Buf (Elt Ideal) ((c.tc : Thread Cert.InProjIdeal.nD Cert.InProjIdeal.τ).loc Cert.InProjIdeal.main_v14_5)) (v6 : (c : Dev Cert.InProjIdeal.nD) → Buf (Elt Ideal) ((c.tc : Thread Cert.InProjIdeal.nD Cert.InProjIdeal.τ).loc Cert.InProjIdeal.main_v14_6)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14_0) = v0 c
          ∧ r.2.mem ((c.tc : Thread Cert.InProjIdeal.nD Cert.InProjIdeal.τ).loc Cert.InProjIdeal.main_v14_1) = v1 c
          ∧ r.2.mem ((c.tc : Thread Cert.InProjIdeal.nD Cert.InProjIdeal.τ).loc Cert.InProjIdeal.main_v14_2) = v2 c
          ∧ r.2.mem ((c.tc : Thread Cert.InProjIdeal.nD Cert.InProjIdeal.τ).loc Cert.InProjIdeal.main_v14_3) = v3 c
          ∧ r.2.mem ((c.tc : Thread Cert.InProjIdeal.nD Cert.InProjIdeal.τ).loc Cert.InProjIdeal.main_v14_4) = v4 c
          ∧ r.2.mem ((c.tc : Thread Cert.InProjIdeal.nD Cert.InProjIdeal.τ).loc Cert.InProjIdeal.main_v14_5) = v5 c
          ∧ r.2.mem ((c.tc : Thread Cert.InProjIdeal.nD Cert.InProjIdeal.τ).loc Cert.InProjIdeal.main_v14_6) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v25) = v0 c
          ∧ r.2.mem ((c.tc : Thread Cert.InProjReferenceIdeal.nD Cert.InProjReferenceIdeal.τ).loc Cert.InProjReferenceIdeal.main_v26) = v1 c
          ∧ r.2.mem ((c.tc : Thread Cert.InProjReferenceIdeal.nD Cert.InProjReferenceIdeal.τ).loc Cert.InProjReferenceIdeal.main_v27) = v2 c
          ∧ r.2.mem ((c.tc : Thread Cert.InProjReferenceIdeal.nD Cert.InProjReferenceIdeal.τ).loc Cert.InProjReferenceIdeal.main_v28) = v3 c
          ∧ r.2.mem ((c.tc : Thread Cert.InProjReferenceIdeal.nD Cert.InProjReferenceIdeal.τ).loc Cert.InProjReferenceIdeal.main_v29) = v4 c
          ∧ r.2.mem ((c.tc : Thread Cert.InProjReferenceIdeal.nD Cert.InProjReferenceIdeal.τ).loc Cert.InProjReferenceIdeal.main_v30) = v5 c
          ∧ r.2.mem ((c.tc : Thread Cert.InProjReferenceIdeal.nD Cert.InProjReferenceIdeal.τ).loc Cert.InProjReferenceIdeal.main_v31) = v6 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_Attention_AttentionIdeal : Prop :=
  IdealRules.named_const.Statement Cert.AttentionIdeal.κ "mask" .f32 0xF149F2CA#32 ⊥
  ∧ IdealRules.named_const.Statement Cert.AttentionIdeal.κ "log2_scale" .f32 0x3E8293EE#32 (((Real.sqrt 32)⁻¹ * (Real.log 2)⁻¹ : ℝ) : EReal)

def algebraic_AttentionIdeal_AttentionReferenceIdeal_pre_attention_finite [hAttentionIdeal : Cert.AttentionIdeal.Facts] [hAttentionReferenceIdeal : Cert.AttentionReferenceIdeal.Facts] [hPre_attention_finite : Cert.Pre_attention_finite.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionReferenceIdeal.nD Cert.AttentionReferenceIdeal.τ Cert.AttentionReferenceIdeal.sig) → Buf (Elt Ideal) ℓ) (g' : Dev Cert.AttentionReferenceIdeal.nD → PrngReg), Pre_AttentionIdeal_attention_finite m →
    (∀ c : Dev Cert.AttentionIdeal.nD,
      m' ((c.tc : Thread Cert.AttentionReferenceIdeal.nD Cert.AttentionReferenceIdeal.τ).loc Cert.AttentionReferenceIdeal.main_arg0) = m ((c.tc : Thread Cert.AttentionIdeal.nD Cert.AttentionIdeal.τ).loc Cert.AttentionIdeal.main_arg0)
      ∧ m' ((c.tc : Thread Cert.AttentionReferenceIdeal.nD Cert.AttentionReferenceIdeal.τ).loc Cert.AttentionReferenceIdeal.main_arg1) = m ((c.tc : Thread Cert.AttentionIdeal.nD Cert.AttentionIdeal.τ).loc Cert.AttentionIdeal.main_arg1)
      ∧ m' ((c.tc : Thread Cert.AttentionReferenceIdeal.nD Cert.AttentionReferenceIdeal.τ).loc Cert.AttentionReferenceIdeal.main_arg2) = m ((c.tc : Thread Cert.AttentionIdeal.nD Cert.AttentionIdeal.τ).loc Cert.AttentionIdeal.main_arg2)
      ∧ m' ((c.tc : Thread Cert.AttentionReferenceIdeal.nD Cert.AttentionReferenceIdeal.τ).loc Cert.AttentionReferenceIdeal.main_arg3) = m ((c.tc : Thread Cert.AttentionIdeal.nD Cert.AttentionIdeal.τ).loc Cert.AttentionIdeal.main_arg3)
      ∧ m' ((c.tc : Thread Cert.AttentionReferenceIdeal.nD Cert.AttentionReferenceIdeal.τ).loc Cert.AttentionReferenceIdeal.main_arg4) = m ((c.tc : Thread Cert.AttentionIdeal.nD Cert.AttentionIdeal.τ).loc Cert.AttentionIdeal.main_arg4)) →
    ∃ (v0 : (c : Dev Cert.AttentionIdeal.nD) → Buf (Elt Ideal) ((c.tc : Thread Cert.AttentionIdeal.nD Cert.AttentionIdeal.τ).loc Cert.AttentionIdeal.main_v7)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v7) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4))
      ∧ θ_run (Cert.AttentionReferenceIdeal.defs (F := Ideal)) (onTc (τ := Cert.AttentionReferenceIdeal.τ) (Cert.AttentionReferenceIdeal.main (F := Ideal))) ⟨m', fun _ => 0, g'⟩ (fun r => ∀ c : Dev Cert.AttentionReferenceIdeal.nD,
          r.2.mem ((c.tc : Thread Cert.AttentionReferenceIdeal.nD Cert.AttentionReferenceIdeal.τ).loc Cert.AttentionReferenceIdeal.main_v71) = v0 c
          ∧ r.2.mem ((c.tc : Thread Cert.AttentionReferenceIdeal.nD Cert.AttentionReferenceIdeal.τ).loc Cert.AttentionReferenceIdeal.main_arg0) = m' ((c.tc : Thread Cert.AttentionReferenceIdeal.nD Cert.AttentionReferenceIdeal.τ).loc Cert.AttentionReferenceIdeal.main_arg0)
          ∧ r.2.mem ((c.tc : Thread Cert.AttentionReferenceIdeal.nD Cert.AttentionReferenceIdeal.τ).loc Cert.AttentionReferenceIdeal.main_arg1) = m' ((c.tc : Thread Cert.AttentionReferenceIdeal.nD Cert.AttentionReferenceIdeal.τ).loc Cert.AttentionReferenceIdeal.main_arg1)
          ∧ r.2.mem ((c.tc : Thread Cert.AttentionReferenceIdeal.nD Cert.AttentionReferenceIdeal.τ).loc Cert.AttentionReferenceIdeal.main_arg2) = m' ((c.tc : Thread Cert.AttentionReferenceIdeal.nD Cert.AttentionReferenceIdeal.τ).loc Cert.AttentionReferenceIdeal.main_arg2)
          ∧ r.2.mem ((c.tc : Thread Cert.AttentionReferenceIdeal.nD Cert.AttentionReferenceIdeal.τ).loc Cert.AttentionReferenceIdeal.main_arg3) = m' ((c.tc : Thread Cert.AttentionReferenceIdeal.nD Cert.AttentionReferenceIdeal.τ).loc Cert.AttentionReferenceIdeal.main_arg3)
          ∧ r.2.mem ((c.tc : Thread Cert.AttentionReferenceIdeal.nD Cert.AttentionReferenceIdeal.τ).loc Cert.AttentionReferenceIdeal.main_arg4) = m' ((c.tc : Thread Cert.AttentionReferenceIdeal.nD Cert.AttentionReferenceIdeal.τ).loc Cert.AttentionReferenceIdeal.main_arg4))

def preserves_AttnPrep_AttnPrepIdeal : Prop :=
  True

def algebraic_AttnPrepIdeal_AttnPrepReferenceIdeal_pre_prep_finite [hAttnPrepIdeal : Cert.AttnPrepIdeal.Facts] [hAttnPrepReferenceIdeal : Cert.AttnPrepReferenceIdeal.Facts] [hPre_prep_finite : Cert.Pre_prep_finite.Facts] : Prop :=
  ∀ (m : (ℓ : Loc Cert.AttnPrepIdeal.nD Cert.AttnPrepIdeal.τ Cert.AttnPrepIdeal.sig) → Buf (Elt Ideal) ℓ) (g : Dev Cert.AttnPrepIdeal.nD → PrngReg)
    (m' : (ℓ : Loc Cert.AttnPrepReferenceIdeal.nD Cert.AttnPrepReferenceIdeal.τ Cert.AttnPrepReferenceIdeal.sig) → Buf (Elt Ideal) ℓ) (g' : Dev Cert.AttnPrepReferenceIdeal.nD → PrngReg), Pre_AttnPrepIdeal_prep_finite m →
    (∀ c : Dev Cert.AttnPrepIdeal.nD,
      m' ((c.tc : Thread Cert.AttnPrepReferenceIdeal.nD Cert.AttnPrepReferenceIdeal.τ).loc Cert.AttnPrepReferenceIdeal.main_arg0) = m ((c.tc : Thread Cert.AttnPrepIdeal.nD Cert.AttnPrepIdeal.τ).loc Cert.AttnPrepIdeal.main_arg0)
      ∧ m' ((c.tc : Thread Cert.AttnPrepReferenceIdeal.nD Cert.AttnPrepReferenceIdeal.τ).loc Cert.AttnPrepReferenceIdeal.main_arg1) = m ((c.tc : Thread Cert.AttnPrepIdeal.nD Cert.AttnPrepIdeal.τ).loc Cert.AttnPrepIdeal.main_arg1)
      ∧ m' ((c.tc : Thread Cert.AttnPrepReferenceIdeal.nD Cert.AttnPrepReferenceIdeal.τ).loc Cert.AttnPrepReferenceIdeal.main_arg2) = m ((c.tc : Thread Cert.AttnPrepIdeal.nD Cert.AttnPrepIdeal.τ).loc Cert.AttnPrepIdeal.main_arg2)) →
    ∃ (v0 : (c : Dev Cert.AttnPrepIdeal.nD) → Buf (Elt Ideal) ((c.tc : Thread Cert.AttnPrepIdeal.nD Cert.AttnPrepIdeal.τ).loc Cert.AttnPrepIdeal.main_v40_3)) (v1 : (c : Dev Cert.AttnPrepIdeal.nD) → Buf (Elt Ideal) ((c.tc : Thread Cert.AttnPrepIdeal.nD Cert.AttnPrepIdeal.τ).loc Cert.AttnPrepIdeal.main_v40_4)),
      θ_run (Cert.AttnPrepIdeal.defs (F := Ideal)) (onTc (τ := Cert.AttnPrepIdeal.τ) (Cert.AttnPrepIdeal.main (F := Ideal))) ⟨m, fun _ => 0, g⟩ (fun r => ∀ c : Dev Cert.AttnPrepIdeal.nD,
          r.2.mem ((c.tc : Thread Cert.AttnPrepIdeal.nD Cert.AttnPrepIdeal.τ).loc Cert.AttnPrepIdeal.main_v40_3) = v0 c
          ∧ r.2.mem ((c.tc : Thread Cert.AttnPrepIdeal.nD Cert.AttnPrepIdeal.τ).loc Cert.AttnPrepIdeal.main_v40_4) = v1 c
          ∧ r.2.mem ((c.tc : Thread Cert.AttnPrepIdeal.nD Cert.AttnPrepIdeal.τ).loc Cert.AttnPrepIdeal.main_arg0) = m ((c.tc : Thread Cert.AttnPrepIdeal.nD Cert.AttnPrepIdeal.τ).loc Cert.AttnPrepIdeal.main_arg0)
          ∧ r.2.mem ((c.tc : Thread Cert.AttnPrepIdeal.nD Cert.AttnPrepIdeal.τ).loc Cert.AttnPrepIdeal.main_arg1) = m ((c.tc : Thread Cert.AttnPrepIdeal.nD Cert.AttnPrepIdeal.τ).loc Cert.AttnPrepIdeal.main_arg1)
          ∧ r.2.mem ((c.tc : Thread Cert.AttnPrepIdeal.nD Cert.AttnPrepIdeal.τ).loc Cert.AttnPrepIdeal.main_arg2) = m ((c.tc : Thread Cert.AttnPrepIdeal.nD Cert.AttnPrepIdeal.τ).loc Cert.AttnPrepIdeal.main_arg2))
      ∧ θ_run (Cert.AttnPrepReferenceIdeal.defs (F := Ideal)) (onTc (τ := Cert.AttnPrepReferenceIdeal.τ) (Cert.AttnPrepReferenceIdeal.main (F := Ideal))) ⟨m', fun _ => 0, g'⟩ (fun r => ∀ c : Dev Cert.AttnPrepReferenceIdeal.nD,
          r.2.mem ((c.tc : Thread Cert.AttnPrepReferenceIdeal.nD Cert.AttnPrepReferenceIdeal.τ).loc Cert.AttnPrepReferenceIdeal.main_v50) = v0 c
          ∧ r.2.mem ((c.tc : Thread Cert.AttnPrepReferenceIdeal.nD Cert.AttnPrepReferenceIdeal.τ).loc Cert.AttnPrepReferenceIdeal.main_v3) = v1 c
          ∧ r.2.mem ((c.tc : Thread Cert.AttnPrepReferenceIdeal.nD Cert.AttnPrepReferenceIdeal.τ).loc Cert.AttnPrepReferenceIdeal.main_arg0) = m' ((c.tc : Thread Cert.AttnPrepReferenceIdeal.nD Cert.AttnPrepReferenceIdeal.τ).loc Cert.AttnPrepReferenceIdeal.main_arg0)
          ∧ r.2.mem ((c.tc : Thread Cert.AttnPrepReferenceIdeal.nD Cert.AttnPrepReferenceIdeal.τ).loc Cert.AttnPrepReferenceIdeal.main_arg1) = m' ((c.tc : Thread Cert.AttnPrepReferenceIdeal.nD Cert.AttnPrepReferenceIdeal.τ).loc Cert.AttnPrepReferenceIdeal.main_arg1)
          ∧ r.2.mem ((c.tc : Thread Cert.AttnPrepReferenceIdeal.nD Cert.AttnPrepReferenceIdeal.τ).loc Cert.AttnPrepReferenceIdeal.main_arg2) = m' ((c.tc : Thread Cert.AttnPrepReferenceIdeal.nD Cert.AttnPrepReferenceIdeal.τ).loc Cert.AttnPrepReferenceIdeal.main_arg2))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjReferenceIdeal : Cert.InProjReferenceIdeal.Facts) (hAttention : Cert.Attention.Facts) (hAttentionIdeal : Cert.AttentionIdeal.Facts) (hAttentionReferenceIdeal : Cert.AttentionReferenceIdeal.Facts) (hAttnPrep : Cert.AttnPrep.Facts) (hAttnPrepIdeal : Cert.AttnPrepIdeal.Facts) (hAttnPrepReferenceIdeal : Cert.AttnPrepReferenceIdeal.Facts) (hPre_router_finite : Cert.Pre_router_finite.Facts) (hPre_attention_finite : Cert.Pre_attention_finite.Facts) (hPre_prep_finite : Cert.Pre_prep_finite.Facts),
    quiescent_Kernel (hKernel := hKernel)
    ∧ quiescent_KernelIdeal (hKernelIdeal := hKernelIdeal)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ quiescent_InProj (hInProj := hInProj)
    ∧ quiescent_InProjIdeal (hInProjIdeal := hInProjIdeal)
    ∧ quiescent_InProjReferenceIdeal (hInProjReferenceIdeal := hInProjReferenceIdeal)
    ∧ quiescent_Attention (hAttention := hAttention)
    ∧ quiescent_AttentionIdeal (hAttentionIdeal := hAttentionIdeal)
    ∧ quiescent_AttentionIdeal_pre_attention_finite (hAttentionIdeal := hAttentionIdeal) (hPre_attention_finite := hPre_attention_finite)
    ∧ quiescent_AttentionReferenceIdeal (hAttentionReferenceIdeal := hAttentionReferenceIdeal)
    ∧ quiescent_AttentionReferenceIdeal_pre_attention_finite (hAttentionReferenceIdeal := hAttentionReferenceIdeal) (hPre_attention_finite := hPre_attention_finite)
    ∧ quiescent_AttnPrep (hAttnPrep := hAttnPrep)
    ∧ quiescent_AttnPrepIdeal (hAttnPrepIdeal := hAttnPrepIdeal)
    ∧ quiescent_AttnPrepIdeal_pre_prep_finite (hAttnPrepIdeal := hAttnPrepIdeal) (hPre_prep_finite := hPre_prep_finite)
    ∧ quiescent_AttnPrepReferenceIdeal (hAttnPrepReferenceIdeal := hAttnPrepReferenceIdeal)
    ∧ quiescent_AttnPrepReferenceIdeal_pre_prep_finite (hAttnPrepReferenceIdeal := hAttnPrepReferenceIdeal) (hPre_prep_finite := hPre_prep_finite)
    ∧ preserves_Kernel_KernelIdeal
    ∧ algebraic_KernelIdeal_ReferenceIdeal_pre_router_finite (hKernelIdeal := hKernelIdeal) (hReferenceIdeal := hReferenceIdeal) (hPre_router_finite := hPre_router_finite)
    ∧ preserves_InProj_InProjIdeal
    ∧ algebraic_InProjIdeal_InProjReferenceIdeal (hInProjIdeal := hInProjIdeal) (hInProjReferenceIdeal := hInProjReferenceIdeal)
    ∧ preserves_Attention_AttentionIdeal
    ∧ algebraic_AttentionIdeal_AttentionReferenceIdeal_pre_attention_finite (hAttentionIdeal := hAttentionIdeal) (hAttentionReferenceIdeal := hAttentionReferenceIdeal) (hPre_attention_finite := hPre_attention_finite)
    ∧ preserves_AttnPrep_AttnPrepIdeal
    ∧ algebraic_AttnPrepIdeal_AttnPrepReferenceIdeal_pre_prep_finite (hAttnPrepIdeal := hAttnPrepIdeal) (hAttnPrepReferenceIdeal := hAttnPrepReferenceIdeal) (hPre_prep_finite := hPre_prep_finite)
-- ==== Pre_attention_finite.lean ====
abbrev S16x4096x256 : Shape := ⟨3, ![16, 4096, 256]⟩
abbrev S4x32 : Shape := ⟨2, ![4, 32]⟩
abbrev S64 : Shape := ⟨1, ![64]⟩
abbrev S_ : Shape := ⟨0, ![]⟩

class Facts : Prop where
  bcast_S_S16x4096x256 : S_.BroadcastsInDim S16x4096x256 (![] : Fin 0 → Fin S16x4096x256.rank)
  bcast_S_S4x32 : S_.BroadcastsInDim S4x32 (![] : Fin 0 → Fin S4x32.rank)

variable [Facts]

def fn {F : FTy → Type} [FloatOps F] (main_arg0 : FVec F S16x4096x256 .bf16) (main_arg1 : FVec F S16x4096x256 .bf16) (main_arg2 : FVec F S16x4096x256 .bf16) (main_arg3 : FVec F S4x32 .f32) (main_arg4 : FVec F S64 .f32) : IVec S16x4096x256 1 × IVec S16x4096x256 1 × IVec S16x4096x256 1 × IVec S4x32 1 :=
  let main_v0 : FVec F S16x4096x256 .bf16 := Host.absf main_arg0
  let main_cst : FVec F S_ .bf16 := constant S_ .bf16 0x7F80#16
  let main_v1 : FVec F S16x4096x256 .bf16 := broadcastInDim S16x4096x256 ![] bcast_S_S16x4096x256 main_cst
  let main_v2 : IVec S16x4096x256 1 := cmpf .olt main_v0 main_v1
  let main_v3 : FVec F S16x4096x256 .bf16 := Host.absf main_arg1
  let main_cst_0 : FVec F S_ .bf16 := constant S_ .bf16 0x7F80#16
  let main_v4 : FVec F S16x4096x256 .bf16 := broadcastInDim S16x4096x256 ![] bcast_S_S16x4096x256 main_cst_0
  let main_v5 : IVec S16x4096x256 1 := cmpf .olt main_v3 main_v4
  let main_v6 : FVec F S16x4096x256 .bf16 := Host.absf main_arg2
  let main_cst_1 : FVec F S_ .bf16 := constant S_ .bf16 0x7F80#16
  let main_v7 : FVec F S16x4096x256 .bf16 := broadcastInDim S16x4096x256 ![] bcast_S_S16x4096x256 main_cst_1
  let main_v8 : IVec S16x4096x256 1 := cmpf .olt main_v6 main_v7
  let main_v9 : FVec F S4x32 .f32 := Host.absf main_arg3
  let main_cst_2 : FVec F S_ .f32 := constant S_ .f32 0x7F800000#32
  let main_v10 : FVec F S4x32 .f32 := broadcastInDim S4x32 ![] bcast_S_S4x32 main_cst_2
  let main_v11 : IVec S4x32 1 := cmpf .olt main_v9 main_v10
  (main_v2, main_v5, main_v8, main_v11)
-- ==== Pre_prep_finite.lean ====
abbrev S16x4096x768 : Shape := ⟨3, ![16, 4096, 768]⟩
abbrev S32 : Shape := ⟨1, ![32]⟩
abbrev S16x4096x256 : Shape := ⟨3, ![16, 4096, 256]⟩
abbrev S_ : Shape := ⟨0, ![]⟩

class Facts : Prop where
  slices_S16x4096x768_S16x4096x256_0_0_256 : S16x4096x768.Slices ![0, 0, 256] S16x4096x256
  bcast_S_S16x4096x256 : S_.BroadcastsInDim S16x4096x256 (![] : Fin 0 → Fin S16x4096x256.rank)

variable [Facts]

def fn {F : FTy → Type} [FloatOps F] (main_arg0 : FVec F S16x4096x768 .f32) (main_arg1 : FVec F S32 .f32) (main_arg2 : FVec F S32 .f32) : IVec S16x4096x256 1 :=
  let main_v0 : FVec F S16x4096x256 .f32 := (extractStridedSlice S16x4096x256 ![0, 0, 256] · slices_S16x4096x768_S16x4096x256_0_0_256) main_arg0
  let main_v1 : FVec F S16x4096x256 .f32 := Host.absf main_v0
  let main_cst : FVec F S_ .f32 := constant S_ .f32 0x7F800000#32
  let main_v2 : FVec F S16x4096x256 .f32 := broadcastInDim S16x4096x256 ![] bcast_S_S16x4096x256 main_cst
  let main_v3 : IVec S16x4096x256 1 := cmpf .olt main_v1 main_v2
  main_v3
-- ==== Pre_router_finite.lean ====
abbrev S16x4096x1024 : Shape := ⟨3, ![16, 4096, 1024]⟩
abbrev S16x4096x256 : Shape := ⟨3, ![16, 4096, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S_ : Shape := ⟨0, ![]⟩

class Facts : Prop where
  bcast_S_S1024 : S_.BroadcastsInDim S1024 (![] : Fin 0 → Fin S1024.rank)
  bcast_S_S1024x4 : S_.BroadcastsInDim S1024x4 (![] : Fin 0 → Fin S1024x4.rank)
  bcast_S_S4 : S_.BroadcastsInDim S4 (![] : Fin 0 → Fin S4.rank)
  bcast_S_S1024x16 : S_.BroadcastsInDim S1024x16 (![] : Fin 0 → Fin S1024x16.rank)
  bcast_S_S16 : S_.BroadcastsInDim S16 (![] : Fin 0 → Fin S16.rank)

variable [Facts]

def fn {F : FTy → Type} [FloatOps F] (main_arg0 : FVec F S16x4096x1024 .f32) (main_arg1 : FVec F S16x4096x256 .bf16) (main_arg2 : FVec F S16x4096x256 .bf16) (main_arg3 : FVec F S16x4096x256 .bf16) (main_arg4 : FVec F S16x4096x256 .bf16) (main_arg5 : FVec F S1024x1024 .f32) (main_arg6 : FVec F S1024 .f32) (main_arg7 : FVec F S1024x4 .f32) (main_arg8 : FVec F S4 .f32) (main_arg9 : FVec F S1024x16 .f32) (main_arg10 : FVec F S16 .f32) (main_arg11 : FVec F S16x1024x256 .f32) (main_arg12 : FVec F S16x1024x256 .f32) (main_arg13 : FVec F S16x256x1024 .f32) : IVec S1024 1 × IVec S1024x4 1 × IVec S4 1 × IVec S1024x16 1 × IVec S16 1 :=
  let main_v0 : FVec F S1024 .f32 := Host.absf main_arg6
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x4 .f32 := Host.absf main_arg7
  let main_cst_0 : FVec F S_ .f32 := constant S_ .f32 0x7F800000#32
  let main_v4 : FVec F S1024x4 .f32 := broadcastInDim S1024x4 ![] bcast_S_S1024x4 main_cst_0
  let main_v5 : IVec S1024x4 1 := cmpf .olt main_v3 main_v4
  let main_v6 : FVec F S4 .f32 := Host.absf main_arg8
  let main_cst_1 : FVec F S_ .f32 := constant S_ .f32 0x7F800000#32
  let main_v7 : FVec F S4 .f32 := broadcastInDim S4 ![] bcast_S_S4 main_cst_1
  let main_v8 : IVec S4 1 := cmpf .olt main_v6 main_v7
  let main_v9 : FVec F S1024x16 .f32 := Host.absf main_arg9
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_v12 : FVec F S16 .f32 := Host.absf main_arg10
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  (main_v2, main_v5, main_v8, main_v11, main_v14)
-- ==== Kernel.lean ====
abbrev S16x4096x1024 : Shape := ⟨3, ![16, 4096, 1024]⟩
abbrev S16x4096x256 : Shape := ⟨3, ![16, 4096, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S1x1024 : Shape := ⟨2, ![1, 1024]⟩
abbrev S_ : Shape := ⟨0, ![]⟩
abbrev S1024x108 : Shape := ⟨2, ![1024, 108]⟩
abbrev S1024x128 : Shape := ⟨2, ![1024, 128]⟩
abbrev S108 : Shape := ⟨1, ![108]⟩
abbrev S128 : Shape := ⟨1, ![128]⟩
abbrev S1x128 : Shape := ⟨2, ![1, 128]⟩
abbrev S16x1024x512 : Shape := ⟨3, ![16, 1024, 512]⟩
abbrev S4096x1024 : Shape := ⟨2, ![4096, 1024]⟩
abbrev S65536x1024 : Shape := ⟨2, ![65536, 1024]⟩
abbrev S65536x256 : Shape := ⟨2, ![65536, 256]⟩
abbrev S512x1024 : Shape := ⟨2, ![512, 1024]⟩
abbrev S512x256 : Shape := ⟨2, ![512, 256]⟩
abbrev S512x4096 : Shape := ⟨2, ![512, 4096]⟩
abbrev S256x1024 : Shape := ⟨2, ![256, 1024]⟩
abbrev S512 : Shape := ⟨1, ![512]⟩
abbrev S512x1 : Shape := ⟨2, ![512, 1]⟩
abbrev S512x128 : Shape := ⟨2, ![512, 128]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 34
  | .vmem => 19
  | .smem => 0
  | _ => 0

abbrev bufTy : (tb : Table) → Fin (tcTables nBuf tb) → BufTy
  | .hbm, ⟨0, _⟩ => ⟨S16x4096x1024, .f32⟩
  | .hbm, ⟨1, _⟩ => ⟨S16x4096x256, .bf16⟩
  | .hbm, ⟨2, _⟩ => ⟨S16x4096x256, .bf16⟩
  | .hbm, ⟨3, _⟩ => ⟨S16x4096x256, .bf16⟩
  | .hbm, ⟨4, _⟩ => ⟨S16x4096x256, .bf16⟩
  | .hbm, ⟨5, _⟩ => ⟨S1024x1024, .f32⟩
  | .hbm, ⟨6, _⟩ => ⟨S1024, .f32⟩
  | .hbm, ⟨7, _⟩ => ⟨S1024x4, .f32⟩
  | .hbm, ⟨8, _⟩ => ⟨S4, .f32⟩
  | .hbm, ⟨9, _⟩ => ⟨S1024x16, .f32⟩
  | .hbm, ⟨10, _⟩ => ⟨S16, .f32⟩
  | .hbm, ⟨11, _⟩ => ⟨S16x1024x256, .f32⟩
  | .hbm, ⟨12, _⟩ => ⟨S16x1024x256, .f32⟩
  | .hbm, ⟨13, _⟩ => ⟨S16x256x1024, .f32⟩
  | .hbm, ⟨14, _⟩ => ⟨S1024x1024, .bf16⟩
  | .hbm, ⟨15, _⟩ => ⟨S1x1024, .f32⟩
  | .hbm, ⟨16, _⟩ => ⟨S_, .f32⟩
  | .hbm, ⟨17, _⟩ => ⟨S1024x108, .f32⟩
  | .hbm, ⟨18, _⟩ => ⟨S1024x128, .f32⟩
  | .hbm, ⟨19, _⟩ => ⟨S1024x128, .bf16⟩
  | .hbm, ⟨20, _⟩ => ⟨S_, .f32⟩
  | .hbm, ⟨21, _⟩ => ⟨S108, .f32⟩
  | .hbm, ⟨22, _⟩ => ⟨S128, .f32⟩
  | .hbm, ⟨23, _⟩ => ⟨S1x128, .f32⟩
  | .hbm, ⟨24, _⟩ => ⟨S16x1024x512, .f32⟩
  | .hbm, ⟨25, _⟩ => ⟨S16x1024x512, .bf16⟩
  | .hbm, ⟨26, _⟩ => ⟨S16x256x1024, .bf16⟩
  | .hbm, ⟨27, _⟩ => ⟨S4096x1024, .bf16⟩
  | .hbm, ⟨28, _⟩ => ⟨S65536x1024, .f32⟩
  | .hbm, ⟨29, _⟩ => ⟨S65536x256, .bf16⟩
  | .hbm, ⟨30, _⟩ => ⟨S65536x256, .bf16⟩
  | .hbm, ⟨31, _⟩ => ⟨S65536x256, .bf16⟩
  | .hbm, ⟨32, _⟩ => ⟨S65536x256, .bf16⟩
  | .hbm, ⟨33, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1024x1024, .bf16⟩
  | .local _ .vmem, ⟨11, _⟩ => ⟨S1x1024, .f32⟩
  | .local _ .vmem, ⟨12, _⟩ => ⟨S1024x128, .bf16⟩
  | .local _ .vmem, ⟨13, _⟩ => ⟨S1x128, .f32⟩
  | .local _ .vmem, ⟨14, _⟩ => ⟨S16x1024x512, .bf16⟩
  | .local _ .vmem, ⟨15, _⟩ => ⟨S4096x1024, .bf16⟩
  | .local _ .vmem, ⟨16, _⟩ => ⟨S512x1024, .f32⟩
  | .local _ .vmem, ⟨17, _⟩ => ⟨S512x1024, .f32⟩
  | .local _ .vmem, ⟨18, _⟩ => ⟨S512x4096, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16x4096x1024 : Shape := ⟨3, ![16, 4096, 1024]⟩
abbrev S16x4096x256 : Shape := ⟨3, ![16, 4096, 256]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x256 : Shape := ⟨3, ![16, 1024, 256]⟩
abbrev S16x256x1024 : Shape := ⟨3, ![16, 256, 1024]⟩
abbrev S65536x1024 : Shape := ⟨2, ![65536, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S65536x4 : Shape := ⟨2, ![65536, 4]⟩
abbrev S1x4 : Shape := ⟨2, ![1, 4]⟩
abbrev S65536 : Shape := ⟨1, ![65536]⟩
abbrev S65536x1 : Shape := ⟨2, ![65536, 1]⟩
abbrev S65536x16 : Shape := ⟨2, ![65536, 16]⟩
abbrev S1x16 : Shape := ⟨2, ![1, 16]⟩
abbrev S65536x4x4 : Shape := ⟨3, ![65536, 4, 4]⟩
abbrev S65536x2 : Shape := ⟨2, ![65536, 2]⟩
abbrev S65536x2x1 : Shape := ⟨3, ![65536, 2, 1]⟩
abbrev S1x1x4 : Shape := ⟨3, ![1, 1, 4]⟩
abbrev S65536x2x4 : Shape := ⟨3, ![65536, 2, 4]⟩
abbrev S65536x4x1 : Shape := ⟨3, ![65536, 4, 1]⟩
abbrev S65536x1x4 : Shape := ⟨3, ![65536, 1, 4]⟩
abbrev S65536x1x1 : Shape := ⟨3, ![65536, 1, 1]⟩
abbrev S1x1024x256 : Shape := ⟨3, ![1, 1024, 256]⟩
abbrev S1024x256 : Shape := ⟨2, ![1024, 256]⟩
abbrev S65536x256 : Shape := ⟨2, ![65536, 256]⟩
abbrev S1x256x1024 : Shape := ⟨3, ![1, 256, 1024]⟩
abbrev S256x1024 : Shape := ⟨2, ![256, 1024]⟩

abbrev nBuf : Space → Nat
  | .hbm => 483
  | .vmem => 0
  | .smem => 0
  | _ => 0

abbrev hbmTy0_0 (i : Nat) : BufTy := match i % 128 with
  | 0 => ⟨S16x4096x1024, .f32⟩
  | 1 => ⟨S16x4096x256, .bf16⟩
  | 2 => ⟨S16x4096x256, .bf16⟩
  | 3 => ⟨S16x4096x256, .bf16⟩
  | 4 => ⟨S16x4096x256, .bf16⟩
  | 5 => ⟨S1024x1024, .f32⟩
  | 6 => ⟨S1024, .f32⟩
  | 7 => ⟨S1024x4, .f32⟩
  | 8 => ⟨S4, .f32⟩
  | 9 => ⟨S1024x16, .f32⟩
  | 10 => ⟨S16, .f32⟩
  | 11 => ⟨S16x1024x256, .f32⟩
  | 12 => ⟨S16x1024x256, .f32⟩
  | 13 => ⟨S16x256x1024, .f32⟩
  | 14 => ⟨S16x4096x256, .f32⟩
  | 15 => ⟨S16x4096x256, .f32⟩
  | 16 => ⟨S16x4096x256, .f32⟩
  | 17 => ⟨S16x4096x256, .f32⟩
  | 18 => ⟨S16x4096x1024, .f32⟩
  | 19 => ⟨S16x4096x1024, .f32⟩
  | 20 => ⟨S16x4096x1024, .f32⟩
  | 21 => ⟨S65536x1024, .f32⟩
  | 22 => ⟨S16x4096x1024, .f32⟩
  | 23 => ⟨S_, .f32⟩
  | 24 => ⟨S16x4096, .f32⟩
  | 25 => ⟨S16x4096x1, .f32⟩
  | 26 => ⟨S_, .f32⟩
  | 27 => ⟨S16x4096x1, .f32⟩
  | 28 => ⟨S16x4096x1, .f32⟩
  | 29 => ⟨S_, .f32⟩
  | 30 => ⟨S16x4096x1, .f32⟩
  | 31 => ⟨S16x4096x1, .f32⟩
  | 32 => ⟨S16x4096x1, .f32⟩
  | 33 => ⟨S16x4096x1024, .f32⟩
  | 34 => ⟨S16x4096x1024, .f32⟩
  | 35 => ⟨S1x1x1024, .f32⟩
  | 36 => ⟨S16x4096x1024, .f32⟩
  | 37 => ⟨S16x4096x1024, .f32⟩
  | 38 => ⟨S65536x1024, .f32⟩
  | 39 => ⟨S65536x4, .f32⟩
  | 40 => ⟨S1x4, .f32⟩
  | 41 => ⟨S65536x4, .f32⟩
  | 42 => ⟨S65536x4, .f32⟩
  | 43 => ⟨S_, .f32⟩
  | 44 => ⟨S65536, .f32⟩
  | 45 => ⟨S_, .f32⟩
  | 46 => ⟨S65536, .f32⟩
  | 47 => ⟨S65536, .f32⟩
  | 48 => ⟨S65536x1, .f32⟩
  | 49 => ⟨S65536x4, .f32⟩
  | 50 => ⟨S65536x4, .f32⟩
  | 51 => ⟨S65536x4, .f32⟩
  | 52 => ⟨S_, .f32⟩
  | 53 => ⟨S65536, .f32⟩
  | 54 => ⟨S65536x1, .f32⟩
  | 55 => ⟨S65536x4, .f32⟩
  | 56 => ⟨S65536x4, .f32⟩
  | 57 => ⟨S65536x1, .f32⟩
  | 58 => ⟨S65536x1, .i32⟩
  | 59 => ⟨S65536, .i32⟩
  | 60 => ⟨S65536x1, .i32⟩
  | 61 => ⟨S1x4, .i32⟩
  | 62 => ⟨S65536x4, .i32⟩
  | 63 => ⟨S65536x4, .i32⟩
  | 64 => ⟨S65536x4, .i1⟩
  | 65 => ⟨S65536x4, .f32⟩
  | 66 => ⟨S65536x4, .f32⟩
  | 67 => ⟨S_, .f32⟩
  | 68 => ⟨S65536, .f32⟩
  | 69 => ⟨S65536x16, .f32⟩
  | 70 => ⟨S1x16, .f32⟩
  | 71 => ⟨S65536x16, .f32⟩
  | 72 => ⟨S65536x16, .f32⟩
  | 73 => ⟨S65536x4x4, .f32⟩
  | 74 => ⟨S65536x4, .f32⟩
  | 75 => ⟨S_, .f32⟩
  | 76 => ⟨S65536, .f32⟩
  | 77 => ⟨S_, .f32⟩
  | 78 => ⟨S65536, .f32⟩
  | 79 => ⟨S65536, .f32⟩
  | 80 => ⟨S65536x1, .f32⟩
  | 81 => ⟨S65536x4, .f32⟩
  | 82 => ⟨S65536x4, .f32⟩
  | 83 => ⟨S65536x4, .f32⟩
  | 84 => ⟨S_, .f32⟩
  | 85 => ⟨S65536, .f32⟩
  | 86 => ⟨S65536x1, .f32⟩
  | 87 => ⟨S65536x4, .f32⟩
  | 88 => ⟨S65536x4, .f32⟩
  | 89 => ⟨S65536x2, .f32⟩
  | 90 => ⟨S65536x2, .i32⟩
  | 91 => ⟨S_, .f32⟩
  | 92 => ⟨S65536, .f32⟩
  | 93 => ⟨S65536x1, .f32⟩
  | 94 => ⟨S65536x2, .f32⟩
  | 95 => ⟨S65536x2, .f32⟩
  | 96 => ⟨S65536x2x1, .i32⟩
  | 97 => ⟨S1x1x4, .i32⟩
  | 98 => ⟨S65536x2x4, .i32⟩
  | 99 => ⟨S65536x2x4, .i32⟩
  | 100 => ⟨S65536x2x4, .i1⟩
  | 101 => ⟨S65536x2x4, .f32⟩
  | 102 => ⟨S65536x4, .f32⟩
  | 103 => ⟨S65536x4x1, .f32⟩
  | 104 => ⟨S65536x1x4, .f32⟩
  | 105 => ⟨S65536x4x4, .f32⟩
  | 106 => ⟨S65536x4x4, .f32⟩
  | 107 => ⟨S65536x4x4, .f32⟩
  | 108 => ⟨S65536x1x1, .f32⟩
  | 109 => ⟨S65536x4x4, .f32⟩
  | 110 => ⟨S65536x4x4, .f32⟩
  | 111 => ⟨S65536x16, .f32⟩
  | 112 => ⟨S_, .f32⟩
  | 113 => ⟨S65536x1024, .f32⟩
  | 114 => ⟨S1x1024x256, .f32⟩
  | 115 => ⟨S1024x256, .f32⟩
  | 116 => ⟨S65536x256, .f32⟩
  | 117 => ⟨S65536x256, .f32⟩
  | 118 => ⟨S65536x256, .f32⟩
  | 119 => ⟨S_, .f32⟩
  | 120 => ⟨S65536x256, .f32⟩
  | 121 => ⟨S65536x256, .f32⟩
  | 122 => ⟨S_, .f32⟩
  | 123 => ⟨S65536x256, .f32⟩
  | 124 => ⟨S65536x256, .f32⟩
  | 125 => ⟨S65536x256, .f32⟩
  | 126 => ⟨S1x1024x256, .f32⟩
  | 127 => ⟨S1024x256, .f32⟩
  | _ => ⟨S16x4096x1024, .f32⟩

abbrev hbmTy0_1 (i : Nat) : BufTy := match i % 128 with
  | 0 => ⟨S65536x256, .f32⟩
  | 1 => ⟨S65536x256, .f32⟩
  | 2 => ⟨S65536x1, .f32⟩
  | 3 => ⟨S1x256x1024, .f32⟩
  | 4 => ⟨S256x1024, .f32⟩
  | 5 => ⟨S65536x1024, .f32⟩
  | 6 => ⟨S65536x1024, .f32⟩
  | 7 => ⟨S65536x1024, .f32⟩
  | 8 => ⟨S65536x1024, .f32⟩
  | 9 => ⟨S1x1024x256, .f32⟩
  | 10 => ⟨S1024x256, .f32⟩
  | 11 => ⟨S65536x256, .f32⟩
  | 12 => ⟨S65536x256, .f32⟩
  | 13 => ⟨S65536x256, .f32⟩
  | 14 => ⟨S_, .f32⟩
  | 15 => ⟨S65536x256, .f32⟩
  | 16 => ⟨S65536x256, .f32⟩
  | 17 => ⟨S_, .f32⟩
  | 18 => ⟨S65536x256, .f32⟩
  | 19 => ⟨S65536x256, .f32⟩
  | 20 => ⟨S65536x256, .f32⟩
  | 21 => ⟨S1x1024x256, .f32⟩
  | 22 => ⟨S1024x256, .f32⟩
  | 23 => ⟨S65536x256, .f32⟩
  | 24 => ⟨S65536x256, .f32⟩
  | 25 => ⟨S65536x1, .f32⟩
  | 26 => ⟨S1x256x1024, .f32⟩
  | 27 => ⟨S256x1024, .f32⟩
  | 28 => ⟨S65536x1024, .f32⟩
  | 29 => ⟨S65536x1024, .f32⟩
  | 30 => ⟨S65536x1024, .f32⟩
  | 31 => ⟨S65536x1024, .f32⟩
  | 32 => ⟨S1x1024x256, .f32⟩
  | 33 => ⟨S1024x256, .f32⟩
  | 34 => ⟨S65536x256, .f32⟩
  | 35 => ⟨S65536x256, .f32⟩
  | 36 => ⟨S65536x256, .f32⟩
  | 37 => ⟨S_, .f32⟩
  | 38 => ⟨S65536x256, .f32⟩
  | 39 => ⟨S65536x256, .f32⟩
  | 40 => ⟨S_, .f32⟩
  | 41 => ⟨S65536x256, .f32⟩
  | 42 => ⟨S65536x256, .f32⟩
  | 43 => ⟨S65536x256, .f32⟩
  | 44 => ⟨S1x1024x256, .f32⟩
  | 45 => ⟨S1024x256, .f32⟩
  | 46 => ⟨S65536x256, .f32⟩
  | 47 => ⟨S65536x256, .f32⟩
  | 48 => ⟨S65536x1, .f32⟩
  | 49 => ⟨S1x256x1024, .f32⟩
  | 50 => ⟨S256x1024, .f32⟩
  | 51 => ⟨S65536x1024, .f32⟩
  | 52 => ⟨S65536x1024, .f32⟩
  | 53 => ⟨S65536x1024, .f32⟩
  | 54 => ⟨S65536x1024, .f32⟩
  | 55 => ⟨S1x1024x256, .f32⟩
  | 56 => ⟨S1024x256, .f32⟩
  | 57 => ⟨S65536x256, .f32⟩
  | 58 => ⟨S65536x256, .f32⟩
  | 59 => ⟨S65536x256, .f32⟩
  | 60 => ⟨S_, .f32⟩
  | 61 => ⟨S65536x256, .f32⟩
  | 62 => ⟨S65536x256, .f32⟩
  | 63 => ⟨S_, .f32⟩
  | 64 => ⟨S65536x256, .f32⟩
  | 65 => ⟨S65536x256, .f32⟩
  | 66 => ⟨S65536x256, .f32⟩
  | 67 => ⟨S1x1024x256, .f32⟩
  | 68 => ⟨S1024x256, .f32⟩
  | 69 => ⟨S65536x256, .f32⟩
  | 70 => ⟨S65536x256, .f32⟩
  | 71 => ⟨S65536x1, .f32⟩
  | 72 => ⟨S1x256x1024, .f32⟩
  | 73 => ⟨S256x1024, .f32⟩
  | 74 => ⟨S65536x1024, .f32⟩
  | 75 => ⟨S65536x1024, .f32⟩
  | 76 => ⟨S65536x1024, .f32⟩
  | 77 => ⟨S65536x1024, .f32⟩
  | 78 => ⟨S1x1024x256, .f32⟩
  | 79 => ⟨S1024x256, .f32⟩
  | 80 => ⟨S65536x256, .f32⟩
  | 81 => ⟨S65536x256, .f32⟩
  | 82 => ⟨S65536x256, .f32⟩
  | 83 => ⟨S_, .f32⟩
  | 84 => ⟨S65536x256, .f32⟩
  | 85 => ⟨S65536x256, .f32⟩
  | 86 => ⟨S_, .f32⟩
  | 87 => ⟨S65536x256, .f32⟩
  | 88 => ⟨S65536x256, .f32⟩
  | 89 => ⟨S65536x256, .f32⟩
  | 90 => ⟨S1x1024x256, .f32⟩
  | 91 => ⟨S1024x256, .f32⟩
  | 92 => ⟨S65536x256, .f32⟩
  | 93 => ⟨S65536x256, .f32⟩
  | 94 => ⟨S65536x1, .f32⟩
  | 95 => ⟨S1x256x1024, .f32⟩
  | 96 => ⟨S256x1024, .f32⟩
  | 97 => ⟨S65536x1024, .f32⟩
  | 98 => ⟨S65536x1024, .f32⟩
  | 99 => ⟨S65536x1024, .f32⟩
  | 100 => ⟨S65536x1024, .f32⟩
  | 101 => ⟨S1x1024x256, .f32⟩
  | 102 => ⟨S1024x256, .f32⟩
  | 103 => ⟨S65536x256, .f32⟩
  | 104 => ⟨S65536x256, .f32⟩
  | 105 => ⟨S65536x256, .f32⟩
  | 106 => ⟨S_, .f32⟩
  | 107 => ⟨S65536x256, .f32⟩
  | 108 => ⟨S65536x256, .f32⟩
  | 109 => ⟨S_, .f32⟩
  | 110 => ⟨S65536x256, .f32⟩
  | 111 => ⟨S65536x256, .f32⟩
  | 112 => ⟨S65536x256, .f32⟩
  | 113 => ⟨S1x1024x256, .f32⟩
  | 114 => ⟨S1024x256, .f32⟩
  | 115 => ⟨S65536x256, .f32⟩
  | 116 => ⟨S65536x256, .f32⟩
  | 117 => ⟨S65536x1, .f32⟩
  | 118 => ⟨S1x256x1024, .f32⟩
  | 119 => ⟨S256x1024, .f32⟩
  | 120 => ⟨S65536x1024, .f32⟩
  | 121 => ⟨S65536x1024, .f32⟩
  | 122 => ⟨S65536x1024, .f32⟩
  | 123 => ⟨S65536x1024, .f32⟩
  | 124 => ⟨S1x1024x256, .f32⟩
  | 125 => ⟨S1024x256, .f32⟩
  | 126 => ⟨S65536x256, .f32⟩
  | 127 => ⟨S65536x256, .f32⟩
  | _ => ⟨S16x4096x1024, .f32⟩

abbrev hbmTy0_2 (i : Nat) : BufTy := match i % 128 with
  | 0 => ⟨S65536x256, .f32⟩
  | 1 => ⟨S_, .f32⟩
  | 2 => ⟨S65536x256, .f32⟩
  | 3 => ⟨S65536x256, .f32⟩
  | 4 => ⟨S_, .f32⟩
  | 5 => ⟨S65536x256, .f32⟩
  | 6 => ⟨S65536x256, .f32⟩
  | 7 => ⟨S65536x256, .f32⟩
  | 8 => ⟨S1x1024x256, .f32⟩
  | 9 => ⟨S1024x256, .f32⟩
  | 10 => ⟨S65536x256, .f32⟩
  | 11 => ⟨S65536x256, .f32⟩
  | 12 => ⟨S65536x1, .f32⟩
  | 13 => ⟨S1x256x1024, .f32⟩
  | 14 => ⟨S256x1024, .f32⟩
  | 15 => ⟨S65536x1024, .f32⟩
  | 16 => ⟨S65536x1024, .f32⟩
  | 17 => ⟨S65536x1024, .f32⟩
  | 18 => ⟨S65536x1024, .f32⟩
  | 19 => ⟨S1x1024x256, .f32⟩
  | 20 => ⟨S1024x256, .f32⟩
  | 21 => ⟨S65536x256, .f32⟩
  | 22 => ⟨S65536x256, .f32⟩
  | 23 => ⟨S65536x256, .f32⟩
  | 24 => ⟨S_, .f32⟩
  | 25 => ⟨S65536x256, .f32⟩
  | 26 => ⟨S65536x256, .f32⟩
  | 27 => ⟨S_, .f32⟩
  | 28 => ⟨S65536x256, .f32⟩
  | 29 => ⟨S65536x256, .f32⟩
  | 30 => ⟨S65536x256, .f32⟩
  | 31 => ⟨S1x1024x256, .f32⟩
  | 32 => ⟨S1024x256, .f32⟩
  | 33 => ⟨S65536x256, .f32⟩
  | 34 => ⟨S65536x256, .f32⟩
  | 35 => ⟨S65536x1, .f32⟩
  | 36 => ⟨S1x256x1024, .f32⟩
  | 37 => ⟨S256x1024, .f32⟩
  | 38 => ⟨S65536x1024, .f32⟩
  | 39 => ⟨S65536x1024, .f32⟩
  | 40 => ⟨S65536x1024, .f32⟩
  | 41 => ⟨S65536x1024, .f32⟩
  | 42 => ⟨S1x1024x256, .f32⟩
  | 43 => ⟨S1024x256, .f32⟩
  | 44 => ⟨S65536x256, .f32⟩
  | 45 => ⟨S65536x256, .f32⟩
  | 46 => ⟨S65536x256, .f32⟩
  | 47 => ⟨S_, .f32⟩
  | 48 => ⟨S65536x256, .f32⟩
  | 49 => ⟨S65536x256, .f32⟩
  | 50 => ⟨S_, .f32⟩
  | 51 => ⟨S65536x256, .f32⟩
  | 52 => ⟨S65536x256, .f32⟩
  | 53 => ⟨S65536x256, .f32⟩
  | 54 => ⟨S1x1024x256, .f32⟩
  | 55 => ⟨S1024x256, .f32⟩
  | 56 => ⟨S65536x256, .f32⟩
  | 57 => ⟨S65536x256, .f32⟩
  | 58 => ⟨S65536x1, .f32⟩
  | 59 => ⟨S1x256x1024, .f32⟩
  | 60 => ⟨S256x1024, .f32⟩
  | 61 => ⟨S65536x1024, .f32⟩
  | 62 => ⟨S65536x1024, .f32⟩
  | 63 => ⟨S65536x1024, .f32⟩
  | 64 => ⟨S65536x1024, .f32⟩
  | 65 => ⟨S1x1024x256, .f32⟩
  | 66 => ⟨S1024x256, .f32⟩
  | 67 => ⟨S65536x256, .f32⟩
  | 68 => ⟨S65536x256, .f32⟩
  | 69 => ⟨S65536x256, .f32⟩
  | 70 => ⟨S_, .f32⟩
  | 71 => ⟨S65536x256, .f32⟩
  | 72 => ⟨S65536x256, .f32⟩
  | 73 => ⟨S_, .f32⟩
  | 74 => ⟨S65536x256, .f32⟩
  | 75 => ⟨S65536x256, .f32⟩
  | 76 => ⟨S65536x256, .f32⟩
  | 77 => ⟨S1x1024x256, .f32⟩
  | 78 => ⟨S1024x256, .f32⟩
  | 79 => ⟨S65536x256, .f32⟩
  | 80 => ⟨S65536x256, .f32⟩
  | 81 => ⟨S65536x1, .f32⟩
  | 82 => ⟨S1x256x1024, .f32⟩
  | 83 => ⟨S256x1024, .f32⟩
  | 84 => ⟨S65536x1024, .f32⟩
  | 85 => ⟨S65536x1024, .f32⟩
  | 86 => ⟨S65536x1024, .f32⟩
  | 87 => ⟨S65536x1024, .f32⟩
  | 88 => ⟨S1x1024x256, .f32⟩
  | 89 => ⟨S1024x256, .f32⟩
  | 90 => ⟨S65536x256, .f32⟩
  | 91 => ⟨S65536x256, .f32⟩
  | 92 => ⟨S65536x256, .f32⟩
  | 93 => ⟨S_, .f32⟩
  | 94 => ⟨S65536x256, .f32⟩
  | 95 => ⟨S65536x256, .f32⟩
  | 96 => ⟨S_, .f32⟩
  | 97 => ⟨S65536x256, .f32⟩
  | 98 => ⟨S65536x256, .f32⟩
  | 99 => ⟨S65536x256, .f32⟩
  | 100 => ⟨S1x1024x256, .f32⟩
  | 101 => ⟨S1024x256, .f32⟩
  | 102 => ⟨S65536x256, .f32⟩
  | 103 => ⟨S65536x256, .f32⟩
  | 104 => ⟨S65536x1, .f32⟩
  | 105 => ⟨S1x256x1024, .f32⟩
  | 106 => ⟨S256x1024, .f32⟩
  | 107 => ⟨S65536x1024, .f32⟩
  | 108 => ⟨S65536x1024, .f32⟩
  | 109 => ⟨S65536x1024, .f32⟩
  | 110 => ⟨S65536x1024, .f32⟩
  | 111 => ⟨S1x1024x256, .f32⟩
  | 112 => ⟨S1024x256, .f32⟩
  | 113 => ⟨S65536x256, .f32⟩
  | 114 => ⟨S65536x256, .f32⟩
  | 115 => ⟨S65536x256, .f32⟩
  | 116 => ⟨S_, .f32⟩
  | 117 => ⟨S65536x256, .f32⟩
  | 118 => ⟨S65536x256, .f32⟩
  | 119 => ⟨S_, .f32⟩
  | 120 => ⟨S65536x256, .f32⟩
  | 121 => ⟨S65536x256, .f32⟩
  | 122 => ⟨S65536x256, .f32⟩
  | 123 => ⟨S1x1024x256, .f32⟩
  | 124 => ⟨S1024x256, .f32⟩
  | 125 => ⟨S65536x256, .f32⟩
  | 126 => ⟨S65536x256, .f32⟩
  | 127 => ⟨S65536x1, .f32⟩
  | _ => ⟨S16x4096x1024, .f32⟩

abbrev hbmTy0_3 (i : Nat) : BufTy := match i % 128 with
  | 0 => ⟨S1x256x1024, .f32⟩
  | 1 => ⟨S256x1024, .f32⟩
  | 2 => ⟨S65536x1024, .f32⟩
  | 3 => ⟨S65536x1024, .f32⟩
  | 4 => ⟨S65536x1024, .f32⟩
  | 5 => ⟨S65536x1024, .f32⟩
  | 6 => ⟨S1x1024x256, .f32⟩
  | 7 => ⟨S1024x256, .f32⟩
  | 8 => ⟨S65536x256, .f32⟩
  | 9 => ⟨S65536x256, .f32⟩
  | 10 => ⟨S65536x256, .f32⟩
  | 11 => ⟨S_, .f32⟩
  | 12 => ⟨S65536x256, .f32⟩
  | 13 => ⟨S65536x256, .f32⟩
  | 14 => ⟨S_, .f32⟩
  | 15 => ⟨S65536x256, .f32⟩
  | 16 => ⟨S65536x256, .f32⟩
  | 17 => ⟨S65536x256, .f32⟩
  | 18 => ⟨S1x1024x256, .f32⟩
  | 19 => ⟨S1024x256, .f32⟩
  | 20 => ⟨S65536x256, .f32⟩
  | 21 => ⟨S65536x256, .f32⟩
  | 22 => ⟨S65536x1, .f32⟩
  | 23 => ⟨S1x256x1024, .f32⟩
  | 24 => ⟨S256x1024, .f32⟩
  | 25 => ⟨S65536x1024, .f32⟩
  | 26 => ⟨S65536x1024, .f32⟩
  | 27 => ⟨S65536x1024, .f32⟩
  | 28 => ⟨S65536x1024, .f32⟩
  | 29 => ⟨S1x1024x256, .f32⟩
  | 30 => ⟨S1024x256, .f32⟩
  | 31 => ⟨S65536x256, .f32⟩
  | 32 => ⟨S65536x256, .f32⟩
  | 33 => ⟨S65536x256, .f32⟩
  | 34 => ⟨S_, .f32⟩
  | 35 => ⟨S65536x256, .f32⟩
  | 36 => ⟨S65536x256, .f32⟩
  | 37 => ⟨S_, .f32⟩
  | 38 => ⟨S65536x256, .f32⟩
  | 39 => ⟨S65536x256, .f32⟩
  | 40 => ⟨S65536x256, .f32⟩
  | 41 => ⟨S1x1024x256, .f32⟩
  | 42 => ⟨S1024x256, .f32⟩
  | 43 => ⟨S65536x256, .f32⟩
  | 44 => ⟨S65536x256, .f32⟩
  | 45 => ⟨S65536x1, .f32⟩
  | 46 => ⟨S1x256x1024, .f32⟩
  | 47 => ⟨S256x1024, .f32⟩
  | 48 => ⟨S65536x1024, .f32⟩
  | 49 => ⟨S65536x1024, .f32⟩
  | 50 => ⟨S65536x1024, .f32⟩
  | 51 => ⟨S65536x1024, .f32⟩
  | 52 => ⟨S1x1024x256, .f32⟩
  | 53 => ⟨S1024x256, .f32⟩
  | 54 => ⟨S65536x256, .f32⟩
  | 55 => ⟨S65536x256, .f32⟩
  | 56 => ⟨S65536x256, .f32⟩
  | 57 => ⟨S_, .f32⟩
  | 58 => ⟨S65536x256, .f32⟩
  | 59 => ⟨S65536x256, .f32⟩
  | 60 => ⟨S_, .f32⟩
  | 61 => ⟨S65536x256, .f32⟩
  | 62 => ⟨S65536x256, .f32⟩
  | 63 => ⟨S65536x256, .f32⟩
  | 64 => ⟨S1x1024x256, .f32⟩
  | 65 => ⟨S1024x256, .f32⟩
  | 66 => ⟨S65536x256, .f32⟩
  | 67 => ⟨S65536x256, .f32⟩
  | 68 => ⟨S65536x1, .f32⟩
  | 69 => ⟨S1x256x1024, .f32⟩
  | 70 => ⟨S256x1024, .f32⟩
  | 71 => ⟨S65536x1024, .f32⟩
  | 72 => ⟨S65536x1024, .f32⟩
  | 73 => ⟨S65536x1024, .f32⟩
  | 74 => ⟨S65536x1024, .f32⟩
  | 75 => ⟨S1x1024x256, .f32⟩
  | 76 => ⟨S1024x256, .f32⟩
  | 77 => ⟨S65536x256, .f32⟩
  | 78 => ⟨S65536x256, .f32⟩
  | 79 => ⟨S65536x256, .f32⟩
  | 80 => ⟨S_, .f32⟩
  | 81 => ⟨S65536x256, .f32⟩
  | 82 => ⟨S65536x256, .f32⟩
  | 83 => ⟨S_, .f32⟩
  | 84 => ⟨S65536x256, .f32⟩
  | 85 => ⟨S65536x256, .f32⟩
  | 86 => ⟨S65536x256, .f32⟩
  | 87 => ⟨S1x1024x256, .f32⟩
  | 88 => ⟨S1024x256, .f32⟩
  | 89 => ⟨S65536x256, .f32⟩
  | 90 => ⟨S65536x256, .f32⟩
  | 91 => ⟨S65536x1, .f32⟩
  | 92 => ⟨S1x256x1024, .f32⟩
  | 93 => ⟨S256x1024, .f32⟩
  | 94 => ⟨S65536x1024, .f32⟩
  | 95 => ⟨S65536x1024, .f32⟩
  | 96 => ⟨S65536x1024, .f32⟩
  | 97 => ⟨S65536x1024, .f32⟩
  | 98 => ⟨S65536x1024, .f32⟩
  | _ => ⟨S16x4096x1024, .f32⟩

abbrev hbmTy (i : Nat) : BufTy := match i / 128 with
  | 0 => hbmTy0_0 i
  | 1 => hbmTy0_1 i
  | 2 => hbmTy0_2 i
  | 3 => hbmTy0_3 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_values : Ref sig .tc := ⟨.hbm, 57, rfl⟩
abbrev main_indices : Ref sig .tc := ⟨.hbm, 58, rfl⟩
abbrev main_v37 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_v38 : Ref sig .tc := ⟨.hbm, 65, rfl⟩
abbrev main_v39 : Ref sig .tc := ⟨.hbm, 66, rfl⟩
abbrev main_cst_5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_6 : Ref sig .tc := ⟨.hbm, 75, rfl⟩
abbrev main_v47 : Ref sig .tc := ⟨.hbm, 76, rfl⟩
abbrev main_cst_7 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_8 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_values_9 : Ref sig .tc := ⟨.hbm, 89, rfl⟩
abbrev main_indices_10 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_v3 : Ref sig .tc := ⟨.hbm, 99, rfl⟩
abbrev main_call1_v4 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_12 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_call2_v0 : Ref sig .tc := ⟨.hbm, 117, rfl⟩
abbrev main_call2_v1 : Ref sig .tc := ⟨.hbm, 118, rfl⟩
abbrev main_call2_cst : Ref sig .tc := ⟨.hbm, 119, rfl⟩
abbrev main_call2_v2 : Ref sig .tc := ⟨.hbm, 120, rfl⟩
abbrev main_call2_v3 : Ref sig .tc := ⟨.hbm, 121, rfl⟩
abbrev main_call2_cst_0 : Ref sig .tc := ⟨.hbm, 122, rfl⟩
abbrev main_call2_v4 : Ref sig .tc := ⟨.hbm, 123, rfl⟩
abbrev main_call2_v5 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_call3_v0 : Ref sig .tc := ⟨.hbm, 140, rfl⟩
abbrev main_call3_v1 : Ref sig .tc := ⟨.hbm, 141, rfl⟩
abbrev main_call3_cst : Ref sig .tc := ⟨.hbm, 142, rfl⟩
abbrev main_call3_v2 : Ref sig .tc := ⟨.hbm, 143, rfl⟩
abbrev main_call3_v3 : Ref sig .tc := ⟨.hbm, 144, rfl⟩
abbrev main_call3_cst_0 : Ref sig .tc := ⟨.hbm, 145, rfl⟩
abbrev main_call3_v4 : Ref sig .tc := ⟨.hbm, 146, rfl⟩
abbrev main_call3_v5 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_call4_v0 : Ref sig .tc := ⟨.hbm, 163, rfl⟩
abbrev main_call4_v1 : Ref sig .tc := ⟨.hbm, 164, rfl⟩
abbrev main_call4_cst : Ref sig .tc := ⟨.hbm, 165, rfl⟩
abbrev main_call4_v2 : Ref sig .tc := ⟨.hbm, 166, rfl⟩
abbrev main_call4_v3 : Ref sig .tc := ⟨.hbm, 167, rfl⟩
abbrev main_call4_cst_0 : Ref sig .tc := ⟨.hbm, 168, rfl⟩
abbrev main_call4_v4 : Ref sig .tc := ⟨.hbm, 169, rfl⟩
abbrev main_call4_v5 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_call5_v0 : Ref sig .tc := ⟨.hbm, 186, rfl⟩
abbrev main_call5_v1 : Ref sig .tc := ⟨.hbm, 187, rfl⟩
abbrev main_call5_cst : Ref sig .tc := ⟨.hbm, 188, rfl⟩
abbrev main_call5_v2 : Ref sig .tc := ⟨.hbm, 189, rfl⟩
abbrev main_call5_v3 : Ref sig .tc := ⟨.hbm, 190, rfl⟩
abbrev main_call5_cst_0 : Ref sig .tc := ⟨.hbm, 191, rfl⟩
abbrev main_call5_v4 : Ref sig .tc := ⟨.hbm, 192, rfl⟩
abbrev main_call5_v5 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_call6_v0 : Ref sig .tc := ⟨.hbm, 209, rfl⟩
abbrev main_call6_v1 : Ref sig .tc := ⟨.hbm, 210, rfl⟩
abbrev main_call6_cst : Ref sig .tc := ⟨.hbm, 211, rfl⟩
abbrev main_call6_v2 : Ref sig .tc := ⟨.hbm, 212, rfl⟩
abbrev main_call6_v3 : Ref sig .tc := ⟨.hbm, 213, rfl⟩
abbrev main_call6_cst_0 : Ref sig .tc := ⟨.hbm, 214, rfl⟩
abbrev main_call6_v4 : Ref sig .tc := ⟨.hbm, 215, rfl⟩
abbrev main_call6_v5 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_v148 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_call7_v0 : Ref sig .tc := ⟨.hbm, 232, rfl⟩
abbrev main_call7_v1 : Ref sig .tc := ⟨.hbm, 233, rfl⟩
abbrev main_call7_cst : Ref sig .tc := ⟨.hbm, 234, rfl⟩
abbrev main_call7_v2 : Ref sig .tc := ⟨.hbm, 235, rfl⟩
abbrev main_call7_v3 : Ref sig .tc := ⟨.hbm, 236, rfl⟩
abbrev main_call7_cst_0 : Ref sig .tc := ⟨.hbm, 237, rfl⟩
abbrev main_call7_v4 : Ref sig .tc := ⟨.hbm, 238, rfl⟩
abbrev main_call7_v5 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_call8_v0 : Ref sig .tc := ⟨.hbm, 255, rfl⟩
abbrev main_call8_v1 : Ref sig .tc := ⟨.hbm, 256, rfl⟩
abbrev main_call8_cst : Ref sig .tc := ⟨.hbm, 257, rfl⟩
abbrev main_call8_v2 : Ref sig .tc := ⟨.hbm, 258, rfl⟩
abbrev main_call8_v3 : Ref sig .tc := ⟨.hbm, 259, rfl⟩
abbrev main_call8_cst_0 : Ref sig .tc := ⟨.hbm, 260, rfl⟩
abbrev main_call8_v4 : Ref sig .tc := ⟨.hbm, 261, rfl⟩
abbrev main_call8_v5 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_v178 : Ref sig .tc := ⟨.hbm, 274, rfl⟩
abbrev main_v179 : Ref sig .tc := ⟨.hbm, 275, rfl⟩
abbrev main_v180 : Ref sig .tc := ⟨.hbm, 276, rfl⟩
abbrev main_v181 : Ref sig .tc := ⟨.hbm, 277, rfl⟩
abbrev main_call9_v0 : Ref sig .tc := ⟨.hbm, 278, rfl⟩
abbrev main_call9_v1 : Ref sig .tc := ⟨.hbm, 279, rfl⟩
abbrev main_call9_cst : Ref sig .tc := ⟨.hbm, 280, rfl⟩
abbrev main_call9_v2 : Ref sig .tc := ⟨.hbm, 281, rfl⟩
abbrev main_call9_v3 : Ref sig .tc := ⟨.hbm, 282, rfl⟩
abbrev main_call9_cst_0 : Ref sig .tc := ⟨.hbm, 283, rfl⟩
abbrev main_call9_v4 : Ref sig .tc := ⟨.hbm, 284, rfl⟩
abbrev main_call9_v5 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_call10_v0 : Ref sig .tc := ⟨.hbm, 301, rfl⟩
abbrev main_call10_v1 : Ref sig .tc := ⟨.hbm, 302, rfl⟩
abbrev main_call10_cst : Ref sig .tc := ⟨.hbm, 303, rfl⟩
abbrev main_call10_v2 : Ref sig .tc := ⟨.hbm, 304, rfl⟩
abbrev main_call10_v3 : Ref sig .tc := ⟨.hbm, 305, rfl⟩
abbrev main_call10_cst_0 : Ref sig .tc := ⟨.hbm, 306, rfl⟩
abbrev main_call10_v4 : Ref sig .tc := ⟨.hbm, 307, rfl⟩
abbrev main_call10_v5 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_v206 : Ref sig .tc := ⟨.hbm, 318, rfl⟩
abbrev main_v207 : Ref sig .tc := ⟨.hbm, 319, rfl⟩
abbrev main_v208 : Ref sig .tc := ⟨.hbm, 320, rfl⟩
abbrev main_v209 : Ref sig .tc := ⟨.hbm, 321, rfl⟩
abbrev main_v210 : Ref sig .tc := ⟨.hbm, 322, rfl⟩
abbrev main_v211 : Ref sig .tc := ⟨.hbm, 323, rfl⟩
abbrev main_call11_v0 : Ref sig .tc := ⟨.hbm, 324, rfl⟩
abbrev main_call11_v1 : Ref sig .tc := ⟨.hbm, 325, rfl⟩
abbrev main_call11_cst : Ref sig .tc := ⟨.hbm, 326, rfl⟩
abbrev main_call11_v2 : Ref sig .tc := ⟨.hbm, 327, rfl⟩
abbrev main_call11_v3 : Ref sig .tc := ⟨.hbm, 328, rfl⟩
abbrev main_call11_cst_0 : Ref sig .tc := ⟨.hbm, 329, rfl⟩
abbrev main_call11_v4 : Ref sig .tc := ⟨.hbm, 330, rfl⟩
abbrev main_call11_v5 : Ref sig .tc := ⟨.hbm, 331, rfl⟩
abbrev main_v212 : Ref sig .tc := ⟨.hbm, 332, rfl⟩
abbrev main_v213 : Ref sig .tc := ⟨.hbm, 333, rfl⟩
abbrev main_v214 : Ref sig .tc := ⟨.hbm, 334, rfl⟩
abbrev main_v215 : Ref sig .tc := ⟨.hbm, 335, rfl⟩
abbrev main_v216 : Ref sig .tc := ⟨.hbm, 336, rfl⟩
abbrev main_v217 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_v221 : Ref sig .tc := ⟨.hbm, 341, rfl⟩
abbrev main_v222 : Ref sig .tc := ⟨.hbm, 342, rfl⟩
abbrev main_v223 : Ref sig .tc := ⟨.hbm, 343, rfl⟩
abbrev main_v224 : Ref sig .tc := ⟨.hbm, 344, rfl⟩
abbrev main_v225 : Ref sig .tc := ⟨.hbm, 345, rfl⟩
abbrev main_v226 : Ref sig .tc := ⟨.hbm, 346, rfl⟩
abbrev main_call12_v0 : Ref sig .tc := ⟨.hbm, 347, rfl⟩
abbrev main_call12_v1 : Ref sig .tc := ⟨.hbm, 348, rfl⟩
abbrev main_call12_cst : Ref sig .tc := ⟨.hbm, 349, rfl⟩
abbrev main_call12_v2 : Ref sig .tc := ⟨.hbm, 350, rfl⟩
abbrev main_call12_v3 : Ref sig .tc := ⟨.hbm, 351, rfl⟩
abbrev main_call12_cst_0 : Ref sig .tc := ⟨.hbm, 352, rfl⟩
abbrev main_call12_v4 : Ref sig .tc := ⟨.hbm, 353, rfl⟩
abbrev main_call12_v5 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_v230 : Ref sig .tc := ⟨.hbm, 358, rfl⟩
abbrev main_v231 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_v235 : Ref sig .tc := ⟨.hbm, 363, rfl⟩
abbrev main_v236 : Ref sig .tc := ⟨.hbm, 364, rfl⟩
abbrev main_v237 : Ref sig .tc := ⟨.hbm, 365, rfl⟩
abbrev main_v238 : Ref sig .tc := ⟨.hbm, 366, rfl⟩
abbrev main_v239 : Ref sig .tc := ⟨.hbm, 367, rfl⟩
abbrev main_v240 : Ref sig .tc := ⟨.hbm, 368, rfl⟩
abbrev main_v241 : Ref sig .tc := ⟨.hbm, 369, rfl⟩
abbrev main_call13_v0 : Ref sig .tc := ⟨.hbm, 370, rfl⟩
abbrev main_call13_v1 : Ref sig .tc := ⟨.hbm, 371, rfl⟩
abbrev main_call13_cst : Ref sig .tc := ⟨.hbm, 372, rfl⟩
abbrev main_call13_v2 : Ref sig .tc := ⟨.hbm, 373, rfl⟩
abbrev main_call13_v3 : Ref sig .tc := ⟨.hbm, 374, rfl⟩
abbrev main_call13_cst_0 : Ref sig .tc := ⟨.hbm, 375, rfl⟩
abbrev main_call13_v4 : Ref sig .tc := ⟨.hbm, 376, rfl⟩
abbrev main_call13_v5 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_v245 : Ref sig .tc := ⟨.hbm, 381, rfl⟩
abbrev main_v246 : Ref sig .tc := ⟨.hbm, 382, rfl⟩
abbrev main_v247 : Ref sig .tc := ⟨.hbm, 383, rfl⟩
abbrev main_v248 : Ref sig .tc := ⟨.hbm, 384, rfl⟩
abbrev main_v249 : Ref sig .tc := ⟨.hbm, 385, rfl⟩
abbrev main_v250 : Ref sig .tc := ⟨.hbm, 386, rfl⟩
abbrev main_v251 : Ref sig .tc := ⟨.hbm, 387, rfl⟩
abbrev main_v252 : Ref sig .tc := ⟨.hbm, 388, rfl⟩
abbrev main_v253 : Ref sig .tc := ⟨.hbm, 389, rfl⟩
abbrev main_v254 : Ref sig .tc := ⟨.hbm, 390, rfl⟩
abbrev main_v255 : Ref sig .tc := ⟨.hbm, 391, rfl⟩
abbrev main_v256 : Ref sig .tc := ⟨.hbm, 392, rfl⟩
abbrev main_call14_v0 : Ref sig .tc := ⟨.hbm, 393, rfl⟩
abbrev main_call14_v1 : Ref sig .tc := ⟨.hbm, 394, rfl⟩
abbrev main_call14_cst : Ref sig .tc := ⟨.hbm, 395, rfl⟩
abbrev main_call14_v2 : Ref sig .tc := ⟨.hbm, 396, rfl⟩
abbrev main_call14_v3 : Ref sig .tc := ⟨.hbm, 397, rfl⟩
abbrev main_call14_cst_0 : Ref sig .tc := ⟨.hbm, 398, rfl⟩
abbrev main_call14_v4 : Ref sig .tc := ⟨.hbm, 399, rfl⟩
abbrev main_call14_v5 : Ref sig .tc := ⟨.hbm, 400, rfl⟩
abbrev main_v257 : Ref sig .tc := ⟨.hbm, 401, rfl⟩
abbrev main_v258 : Ref sig .tc := ⟨.hbm, 402, rfl⟩
abbrev main_v259 : Ref sig .tc := ⟨.hbm, 403, rfl⟩
abbrev main_v260 : Ref sig .tc := ⟨.hbm, 404, rfl⟩
abbrev main_v261 : Ref sig .tc := ⟨.hbm, 405, rfl⟩
abbrev main_v262 : Ref sig .tc := ⟨.hbm, 406, rfl⟩
abbrev main_v263 : Ref sig .tc := ⟨.hbm, 407, rfl⟩
abbrev main_v264 : Ref sig .tc := ⟨.hbm, 408, rfl⟩
abbrev main_v265 : Ref sig .tc := ⟨.hbm, 409, rfl⟩
abbrev main_v266 : Ref sig .tc := ⟨.hbm, 410, rfl⟩
abbrev main_v267 : Ref sig .tc := ⟨.hbm, 411, rfl⟩
abbrev main_v268 : Ref sig .tc := ⟨.hbm, 412, rfl⟩
abbrev main_v269 : Ref sig .tc := ⟨.hbm, 413, rfl⟩
abbrev main_v270 : Ref sig .tc := ⟨.hbm, 414, rfl⟩
abbrev main_v271 : Ref sig .tc := ⟨.hbm, 415, rfl⟩
abbrev main_call15_v0 : Ref sig .tc := ⟨.hbm, 416, rfl⟩
abbrev main_call15_v1 : Ref sig .tc := ⟨.hbm, 417, rfl⟩
abbrev main_call15_cst : Ref sig .tc := ⟨.hbm, 418, rfl⟩
abbrev main_call15_v2 : Ref sig .tc := ⟨.hbm, 419, rfl⟩
abbrev main_call15_v3 : Ref sig .tc := ⟨.hbm, 420, rfl⟩
abbrev main_call15_cst_0 : Ref sig .tc := ⟨.hbm, 421, rfl⟩
abbrev main_call15_v4 : Ref sig .tc := ⟨.hbm, 422, rfl⟩
abbrev main_call15_v5 : Ref sig .tc := ⟨.hbm, 423, rfl⟩
abbrev main_v272 : Ref sig .tc := ⟨.hbm, 424, rfl⟩
abbrev main_v273 : Ref sig .tc := ⟨.hbm, 425, rfl⟩
abbrev main_v274 : Ref sig .tc := ⟨.hbm, 426, rfl⟩
abbrev main_v275 : Ref sig .tc := ⟨.hbm, 427, rfl⟩
abbrev main_v276 : Ref sig .tc := ⟨.hbm, 428, rfl⟩
abbrev main_v277 : Ref sig .tc := ⟨.hbm, 429, rfl⟩
abbrev main_v278 : Ref sig .tc := ⟨.hbm, 430, rfl⟩
abbrev main_v279 : Ref sig .tc := ⟨.hbm, 431, rfl⟩
abbrev main_v280 : Ref sig .tc := ⟨.hbm, 432, rfl⟩
abbrev main_v281 : Ref sig .tc := ⟨.hbm, 433, rfl⟩
abbrev main_v282 : Ref sig .tc := ⟨.hbm, 434, rfl⟩
abbrev main_v283 : Ref sig .tc := ⟨.hbm, 435, rfl⟩
abbrev main_v284 : Ref sig .tc := ⟨.hbm, 436, rfl⟩
abbrev main_v285 : Ref sig .tc := ⟨.hbm, 437, rfl⟩
abbrev main_v286 : Ref sig .tc := ⟨.hbm, 438, rfl⟩
abbrev main_call16_v0 : Ref sig .tc := ⟨.hbm, 439, rfl⟩
abbrev main_call16_v1 : Ref sig .tc := ⟨.hbm, 440, rfl⟩
abbrev main_call16_cst : Ref sig .tc := ⟨.hbm, 441, rfl⟩
abbrev main_call16_v2 : Ref sig .tc := ⟨.hbm, 442, rfl⟩
abbrev main_call16_v3 : Ref sig .tc := ⟨.hbm, 443, rfl⟩
abbrev main_call16_cst_0 : Ref sig .tc := ⟨.hbm, 444, rfl⟩
abbrev main_call16_v4 : Ref sig .tc := ⟨.hbm, 445, rfl⟩
abbrev main_call16_v5 : Ref sig .tc := ⟨.hbm, 446, rfl⟩
abbrev main_v287 : Ref sig .tc := ⟨.hbm, 447, rfl⟩
abbrev main_v288 : Ref sig .tc := ⟨.hbm, 448, rfl⟩
abbrev main_v289 : Ref sig .tc := ⟨.hbm, 449, rfl⟩
abbrev main_v290 : Ref sig .tc := ⟨.hbm, 450, rfl⟩
abbrev main_v291 : Ref sig .tc := ⟨.hbm, 451, rfl⟩
abbrev main_v292 : Ref sig .tc := ⟨.hbm, 452, rfl⟩
abbrev main_v293 : Ref sig .tc := ⟨.hbm, 453, rfl⟩
abbrev main_v294 : Ref sig .tc := ⟨.hbm, 454, rfl⟩
abbrev main_v295 : Ref sig .tc := ⟨.hbm, 455, rfl⟩
abbrev main_v296 : Ref sig .tc := ⟨.hbm, 456, rfl⟩
abbrev main_v297 : Ref sig .tc := ⟨.hbm, 457, rfl⟩
abbrev main_v298 : Ref sig .tc := ⟨.hbm, 458, rfl⟩
abbrev main_v299 : Ref sig .tc := ⟨.hbm, 459, rfl⟩
abbrev main_v300 : Ref sig .tc := ⟨.hbm, 460, rfl⟩
abbrev main_v301 : Ref sig .tc := ⟨.hbm, 461, rfl⟩
abbrev main_call17_v0 : Ref sig .tc := ⟨.hbm, 462, rfl⟩
abbrev main_call17_v1 : Ref sig .tc := ⟨.hbm, 463, rfl⟩
abbrev main_call17_cst : Ref sig .tc := ⟨.hbm, 464, rfl⟩
abbrev main_call17_v2 : Ref sig .tc := ⟨.hbm, 465, rfl⟩
abbrev main_call17_v3 : Ref sig .tc := ⟨.hbm, 466, rfl⟩
abbrev main_call17_cst_0 : Ref sig .tc := ⟨.hbm, 467, rfl⟩
abbrev main_call17_v4 : Ref sig .tc := ⟨.hbm, 468, rfl⟩
abbrev main_call17_v5 : Ref sig .tc := ⟨.hbm, 469, rfl⟩
abbrev main_v302 : Ref sig .tc := ⟨.hbm, 470, rfl⟩
abbrev main_v303 : Ref sig .tc := ⟨.hbm, 471, rfl⟩
abbrev main_v304 : Ref sig .tc := ⟨.hbm, 472, rfl⟩
abbrev main_v305 : Ref sig .tc := ⟨.hbm, 473, rfl⟩
abbrev main_v306 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_v310 : Ref sig .tc := ⟨.hbm, 478, rfl⟩
abbrev main_v311 : Ref sig .tc := ⟨.hbm, 479, rfl⟩
abbrev main_v312 : Ref sig .tc := ⟨.hbm, 480, rfl⟩
abbrev main_v313 : Ref sig .tc := ⟨.hbm, 481, rfl⟩
abbrev main_v314 : Ref sig .tc := ⟨.hbm, 482, rfl⟩

abbrev nD : Nat := 1
abbrev τ : Topo := Topo.v7x

variable {F : FTy → Type} [FloatOps F]
-- ==== InProj.lean ====
abbrev S16x4096x1024 : Shape := ⟨3, ![16, 4096, 1024]⟩
abbrev S1024 : Shape := ⟨1, ![1024]⟩
abbrev S1024x3340 : Shape := ⟨2, ![1024, 3340]⟩
abbrev S1024x512 : Shape := ⟨2, ![1024, 512]⟩
abbrev S1024x768 : Shape := ⟨2, ![1024, 768]⟩
abbrev S1024x256 : Shape := ⟨2, ![1024, 256]⟩
abbrev S1024x4 : Shape := ⟨2, ![1024, 4]⟩
abbrev S_ : Shape := ⟨0, ![]⟩
abbrev S1024x116 : Shape := ⟨2, ![1024, 116]⟩
abbrev S1024x3456 : Shape := ⟨2, ![1024, 3456]⟩
abbrev S1x1024 : Shape := ⟨2, ![1, 1024]⟩
abbrev S65536x1024 : Shape := ⟨2, ![65536, 1024]⟩
abbrev S65536x512 : Shape := ⟨2, ![65536, 512]⟩
abbrev S65536x768 : Shape := ⟨2, ![65536, 768]⟩
abbrev S65536x256 : Shape := ⟨2, ![65536, 256]⟩
abbrev S65536x128 : Shape := ⟨2, ![65536, 128]⟩
abbrev S512x1024 : Shape := ⟨2, ![512, 1024]⟩
abbrev S512x512 : Shape := ⟨2, ![512, 512]⟩
abbrev S512x768 : Shape := ⟨2, ![512, 768]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1024x128 : Shape := ⟨2, ![1024, 128]⟩

abbrev nBuf : Space → Nat
  | .hbm => 25
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3340, .f32⟩
  | .hbm, ⟨3, _⟩ => ⟨S1024x512, .f32⟩
  | .hbm, ⟨4, _⟩ => ⟨S1024x768, .f32⟩
  | .hbm, ⟨5, _⟩ => ⟨S1024x768, .f32⟩
  | .hbm, ⟨6, _⟩ => ⟨S1024x256, .f32⟩
  | .hbm, ⟨7, _⟩ => ⟨S1024x256, .f32⟩
  | .hbm, ⟨8, _⟩ => ⟨S1024x768, .f32⟩
  | .hbm, ⟨9, _⟩ => ⟨S1024x4, .f32⟩
  | .hbm, ⟨10, _⟩ => ⟨S1024x4, .f32⟩
  | .hbm, ⟨11, _⟩ => ⟨S1024x4, .f32⟩
  | .hbm, ⟨12, _⟩ => ⟨S_, .f32⟩
  | .hbm, ⟨13, _⟩ => ⟨S1024x116, .f32⟩
  | .hbm, ⟨14, _⟩ => ⟨S1024x3456, .f32⟩
  | .hbm, ⟨15, _⟩ => ⟨S1024x3456, .bf16⟩
  | .hbm, ⟨16, _⟩ => ⟨S1x1024, .f32⟩
  | .hbm, ⟨17, _⟩ => ⟨S65536x1024, .f32⟩
  | .hbm, ⟨18, _⟩ => ⟨S65536x512, .f32⟩
  | .hbm, ⟨19, _⟩ => ⟨S65536x768, .f32⟩
  | .hbm, ⟨20, _⟩ => ⟨S65536x768, .f32⟩
  | .hbm, ⟨21, _⟩ => ⟨S65536x256, .f32⟩
  | .hbm, ⟨22, _⟩ => ⟨S65536x256, .f32⟩
  | .hbm, ⟨23, _⟩ => ⟨S65536x768, .f32⟩
  | .hbm, ⟨24, _⟩ => ⟨S65536x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x512, .f32⟩
  | .local _ .vmem, ⟨5, _⟩ => ⟨S512x512, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x768, .f32⟩
  | .local _ .vmem, ⟨15, _⟩ => ⟨S512x768, .f32⟩
  | .local _ .vmem, ⟨16, _⟩ => ⟨S512x128, .f32⟩
  | .local _ .vmem, ⟨17, _⟩ => ⟨S512x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_v14_2 : Ref sig .tc := ⟨.hbm, 20, rfl⟩
abbrev main_v14_3 : Ref sig .tc := ⟨.hbm, 21, rfl⟩
abbrev main_v14_4 : Ref sig .tc := ⟨.hbm, 22, rfl⟩
abbrev main_v14_5 : Ref sig .tc := ⟨.hbm, 23, rfl⟩
abbrev main_v14_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InProjReferenceIdeal.lean ====
abbrev S16x4096x1024 : Shape := ⟨3, ![16, 4096, 1024]⟩
abbrev S1024 : Shape := ⟨1, ![1024]⟩
abbrev S1024x3340 : Shape := ⟨2, ![1024, 3340]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3340 : Shape := ⟨3, ![16, 4096, 3340]⟩
abbrev S16x4096x512 : Shape := ⟨3, ![16, 4096, 512]⟩
abbrev S16x4096x768 : Shape := ⟨3, ![16, 4096, 768]⟩
abbrev S16x4096x256 : Shape := ⟨3, ![16, 4096, 256]⟩
abbrev S16x4096x4 : Shape := ⟨3, ![16, 4096, 4]⟩
abbrev S16x4096x12 : Shape := ⟨3, ![16, 4096, 12]⟩
abbrev S16x4096x128 : Shape := ⟨3, ![16, 4096, 128]⟩
abbrev S65536x512 : Shape := ⟨2, ![65536, 512]⟩
abbrev S65536x768 : Shape := ⟨2, ![65536, 768]⟩
abbrev S65536x256 : Shape := ⟨2, ![65536, 256]⟩
abbrev S65536x128 : Shape := ⟨2, ![65536, 128]⟩

abbrev nBuf : Space → Nat
  | .hbm => 40
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x3340, .f32⟩
  | .hbm, ⟨3, _⟩ => ⟨S16x4096x1024, .f32⟩
  | .hbm, ⟨4, _⟩ => ⟨S_, .f32⟩
  | .hbm, ⟨5, _⟩ => ⟨S16x4096, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S16x4096x1, .f32⟩
  | .hbm, ⟨14, _⟩ => ⟨S16x4096x1024, .f32⟩
  | .hbm, ⟨15, _⟩ => ⟨S16x4096x1024, .f32⟩
  | .hbm, ⟨16, _⟩ => ⟨S1x1x1024, .f32⟩
  | .hbm, ⟨17, _⟩ => ⟨S16x4096x1024, .f32⟩
  | .hbm, ⟨18, _⟩ => ⟨S16x4096x1024, .f32⟩
  | .hbm, ⟨19, _⟩ => ⟨S16x4096x3340, .f32⟩
  | .hbm, ⟨20, _⟩ => ⟨S16x4096x512, .f32⟩
  | .hbm, ⟨21, _⟩ => ⟨S16x4096x768, .f32⟩
  | .hbm, ⟨22, _⟩ => ⟨S16x4096x768, .f32⟩
  | .hbm, ⟨23, _⟩ => ⟨S16x4096x256, .f32⟩
  | .hbm, ⟨24, _⟩ => ⟨S16x4096x4, .f32⟩
  | .hbm, ⟨25, _⟩ => ⟨S16x4096x4, .f32⟩
  | .hbm, ⟨26, _⟩ => ⟨S16x4096x256, .f32⟩
  | .hbm, ⟨27, _⟩ => ⟨S16x4096x768, .f32⟩
  | .hbm, ⟨28, _⟩ => ⟨S16x4096x4, .f32⟩
  | .hbm, ⟨29, _⟩ => ⟨S16x4096x12, .f32⟩
  | .hbm, ⟨30, _⟩ => ⟨S_, .i32⟩
  | .hbm, ⟨31, _⟩ => ⟨S_, .f32⟩
  | .hbm, ⟨32, _⟩ => ⟨S16x4096x128, .f32⟩
  | .hbm, ⟨33, _⟩ => ⟨S65536x512, .f32⟩
  | .hbm, ⟨34, _⟩ => ⟨S65536x768, .f32⟩
  | .hbm, ⟨35, _⟩ => ⟨S65536x768, .f32⟩
  | .hbm, ⟨36, _⟩ => ⟨S65536x256, .f32⟩
  | .hbm, ⟨37, _⟩ => ⟨S65536x256, .f32⟩
  | .hbm, ⟨38, _⟩ => ⟨S65536x768, .f32⟩
  | .hbm, ⟨39, _⟩ => ⟨S65536x128, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_call0_v0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Attention.lean ====
abbrev S16x4096x256 : Shape := ⟨3, ![16, 4096, 256]⟩
abbrev S4x32 : Shape := ⟨2, ![4, 32]⟩
abbrev S64 : Shape := ⟨1, ![64]⟩
abbrev S16x256x4096 : Shape := ⟨3, ![16, 256, 4096]⟩
abbrev S16x4096x4x64 : Shape := ⟨4, ![16, 4096, 4, 64]⟩
abbrev S_ : Shape := ⟨0, ![]⟩
abbrev S16x4096x4x1 : Shape := ⟨4, ![16, 4096, 4, 1]⟩
abbrev S16x4096x4x63 : Shape := ⟨4, ![16, 4096, 4, 63]⟩
abbrev S16x4096x4x128 : Shape := ⟨4, ![16, 4096, 4, 128]⟩
abbrev S16x4096x512 : Shape := ⟨3, ![16, 4096, 512]⟩
abbrev S1x64 : Shape := ⟨2, ![1, 64]⟩
abbrev S1x512x256 : Shape := ⟨3, ![1, 512, 256]⟩
abbrev S1x256x4096 : Shape := ⟨3, ![1, 256, 4096]⟩
abbrev S1x4096x512 : Shape := ⟨3, ![1, 4096, 512]⟩
abbrev S1x32 : Shape := ⟨2, ![1, 32]⟩
abbrev S1 : Shape := ⟨1, ![1]⟩
abbrev S1x1 : Shape := ⟨2, ![1, 1]⟩
abbrev S512x512 : Shape := ⟨2, ![512, 512]⟩
abbrev S1x512x64 : Shape := ⟨3, ![1, 512, 64]⟩
abbrev S512x64 : Shape := ⟨2, ![512, 64]⟩
abbrev S512x32 : Shape := ⟨2, ![512, 32]⟩
abbrev S512x1 : Shape := ⟨2, ![512, 1]⟩
abbrev S512x128 : Shape := ⟨2, ![512, 128]⟩
abbrev S1x64x1024 : Shape := ⟨3, ![1, 64, 1024]⟩
abbrev S64x1024 : Shape := ⟨2, ![64, 1024]⟩
abbrev S1x1024x128 : Shape := ⟨3, ![1, 1024, 128]⟩
abbrev S1024x128 : Shape := ⟨2, ![1024, 128]⟩
abbrev S32x1024 : Shape := ⟨2, ![32, 1024]⟩
abbrev S512x1024 : Shape := ⟨2, ![512, 1024]⟩
abbrev S512 : Shape := ⟨1, ![512]⟩
abbrev S1x64x512 : Shape := ⟨3, ![1, 64, 512]⟩
abbrev S64x512 : Shape := ⟨2, ![64, 512]⟩
abbrev S1x512x128 : Shape := ⟨3, ![1, 512, 128]⟩
abbrev S32x512 : Shape := ⟨2, ![32, 512]⟩
abbrev S512x256 : Shape := ⟨2, ![512, 256]⟩

abbrev nBuf : Space → Nat
  | .hbm => 15
  | .vmem => 10
  | .smem => 0
  | _ => 0

abbrev bufTy : (tb : Table) → Fin (tcTables nBuf tb) → BufTy
  | .hbm, ⟨0, _⟩ => ⟨S16x4096x256, .bf16⟩
  | .hbm, ⟨1, _⟩ => ⟨S16x4096x256, .bf16⟩
  | .hbm, ⟨2, _⟩ => ⟨S16x4096x256, .bf16⟩
  | .hbm, ⟨3, _⟩ => ⟨S4x32, .f32⟩
  | .hbm, ⟨4, _⟩ => ⟨S64, .f32⟩
  | .hbm, ⟨5, _⟩ => ⟨S16x256x4096, .bf16⟩
  | .hbm, ⟨6, _⟩ => ⟨S16x4096x4x64, .bf16⟩
  | .hbm, ⟨7, _⟩ => ⟨S_, .bf16⟩
  | .hbm, ⟨8, _⟩ => ⟨S16x4096x4x1, .bf16⟩
  | .hbm, ⟨9, _⟩ => ⟨S_, .bf16⟩
  | .hbm, ⟨10, _⟩ => ⟨S16x4096x4x63, .bf16⟩
  | .hbm, ⟨11, _⟩ => ⟨S16x4096x4x128, .bf16⟩
  | .hbm, ⟨12, _⟩ => ⟨S16x4096x512, .bf16⟩
  | .hbm, ⟨13, _⟩ => ⟨S1x64, .f32⟩
  | .hbm, ⟨14, _⟩ => ⟨S16x4096x256, .bf16⟩
  | .local _ .vmem, ⟨0, _⟩ => ⟨S1x512x256, .bf16⟩
  | .local _ .vmem, ⟨1, _⟩ => ⟨S1x512x256, .bf16⟩
  | .local _ .vmem, ⟨2, _⟩ => ⟨S1x256x4096, .bf16⟩
  | .local _ .vmem, ⟨3, _⟩ => ⟨S1x256x4096, .bf16⟩
  | .local _ .vmem, ⟨4, _⟩ => ⟨S1x4096x512, .bf16⟩
  | .local _ .vmem, ⟨5, _⟩ => ⟨S1x4096x512, .bf16⟩
  | .local _ .vmem, ⟨6, _⟩ => ⟨S4x32, .f32⟩
  | .local _ .vmem, ⟨7, _⟩ => ⟨S1x64, .f32⟩
  | .local _ .vmem, ⟨8, _⟩ => ⟨S1x512x256, .bf16⟩
  | .local _ .vmem, ⟨9, _⟩ => ⟨S1x512x256, .bf16⟩
  | _, _ => ⟨S16x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c0_i32_41 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let v123 : BitVec 32 := Scalar.subi v103 c0_i32_41
  let c1_i32_42 : BitVec 32 := 1#32
  let v125 : BitVec 32 := Scalar.divsi v123 c1_i32_42
  let v126 : BitVec 32 := Scalar.muli v125 c1_i32_42
  let v127 : BitVec 32 := Scalar.addi c0_i32_41 v126
  let c1_i32_43 : BitVec 32 := 1#32
  ⟨c0_i32_41, v127, c1_i32_43⟩
def k0_mult1 (i : grid0.Coords) (k0_t1 : Fin (k0_t1_loop i).trips) : BitVec 32 :=
  let c0_i32_41 : BitVec 32 := 0#32
  let c1_i32_43 : BitVec 32 := 1#32
  let arg8 : BitVec 32 := Scf.iv c0_i32_41 c1_i32_43 k0_t1
  let c1024_i32_77 : BitVec 32 := 1024#32
  let v259 : BitVec 32 := Scalar.muli arg8 c1024_i32_77
  v259
def k0_off1 (i : grid0.Coords) (k0_t1 : Fin (k0_t1_loop i).trips) : Fin 3 → Nat :=
  let c0_78 : Index := 0#32
  let c0_79 : Index := 0#32
  let c0_i32_41 : BitVec 32 := 0#32
  let c1_i32_43 : BitVec 32 := 1#32
  let arg8 : BitVec 32 := Scf.iv c0_i32_41 c1_i32_43 k0_t1
  let c1024_i32_77 : BitVec 32 := 1024#32
  let v259 : BitVec 32 := Scalar.muli arg8 c1024_i32_77
  let v260 : BitVec 32 := v259
  let v261 : Index := Scalar.indexCast v260
  ![0, 0, v261.toNat]
def k0_off2 (i : grid0.Coords) (k0_t1 : Fin (k0_t1_loop i).trips) : Fin 3 → Nat :=
  let c0_80 : Index := 0#32
  let c64_81 : Index := 64#32
  let c0_i32_41 : BitVec 32 := 0#32
  let c1_i32_43 : BitVec 32 := 1#32
  let arg8 : BitVec 32 := Scf.iv c0_i32_41 c1_i32_43 k0_t1
  let c1024_i32_77 : BitVec 32 := 1024#32
  let v259 : BitVec 32 := Scalar.muli arg8 c1024_i32_77
  let v260 : BitVec 32 := v259
  let v264 : Index := Scalar.indexCast v260
  ![0, 64, v264.toNat]
def k0_off3 (i : grid0.Coords) (k0_t1 : Fin (k0_t1_loop i).trips) : Fin 3 → Nat :=
  let c0_82 : Index := 0#32
  let c0_i32_41 : BitVec 32 := 0#32
  let c1_i32_43 : BitVec 32 := 1#32
  let arg8 : BitVec 32 := Scf.iv c0_i32_41 c1_i32_43 k0_t1
  let c1024_i32_77 : BitVec 32 := 1024#32
  let v259 : BitVec 32 := Scalar.muli arg8 c1024_i32_77
  let v260 : BitVec 32 := v259
  let v267 : Index := Scalar.indexCast v260
  let c0_83 : Index := 0#32
  ![0, v267.toNat, 0]
def k0_off4 (i : grid0.Coords) (k0_t1 : Fin (k0_t1_loop i).trips) : Fin 3 → Nat :=
  let c0_84 : Index := 0#32
  let c0_i32_41 : BitVec 32 := 0#32
  let c1_i32_43 : BitVec 32 := 1#32
  let arg8 : BitVec 32 := Scf.iv c0_i32_41 c1_i32_43 k0_t1
  let c1024_i32_77 : BitVec 32 := 1024#32
  let v259 : BitVec 32 := Scalar.muli arg8 c1024_i32_77
  let v260 : BitVec 32 := v259
  let v270 : Index := Scalar.indexCast v260
  let c128_85 : Index := 128#32
  ![0, v270.toNat, 128]
def k0_off5 (i : grid0.Coords) (k0_t1 : Fin (k0_t1_loop i).trips) : Fin 3 → Nat :=
  let c0_106 : Index := 0#32
  let c128_107 : Index := 128#32
  let c0_i32_41 : BitVec 32 := 0#32
  let c1_i32_43 : BitVec 32 := 1#32
  let arg8 : BitVec 32 := Scf.iv c0_i32_41 c1_i32_43 k0_t1
  let c1024_i32_77 : BitVec 32 := 1024#32
  let v259 : BitVec 32 := Scalar.muli arg8 c1024_i32_77
  let v260 : BitVec 32 := v259
  let v349 : Index := Scalar.indexCast v260
  ![0, 128, v349.toNat]
def k0_off6 (i : grid0.Coords) (k0_t1 : Fin (k0_t1_loop i).trips) : Fin 3 → Nat :=
  let c0_108 : Index := 0#32
  let c192_109 : Index := 192#32
  let c0_i32_41 : BitVec 32 := 0#32
  let c1_i32_43 : BitVec 32 := 1#32
  let arg8 : BitVec 32 := Scf.iv c0_i32_41 c1_i32_43 k0_t1
  let c1024_i32_77 : BitVec 32 := 1024#32
  let v259 : BitVec 32 := Scalar.muli arg8 c1024_i32_77
  let v260 : BitVec 32 := v259
  let v352 : Index := Scalar.indexCast v260
  ![0, 192, v352.toNat]
def k0_off7 (i : grid0.Coords) (k0_t1 : Fin (k0_t1_loop i).trips) : Fin 3 → Nat :=
  let c0_110 : Index := 0#32
  let c0_i32_41 : BitVec 32 := 0#32
  let c1_i32_43 : BitVec 32 := 1#32
  let arg8 : BitVec 32 := Scf.iv c0_i32_41 c1_i32_43 k0_t1
  let c1024_i32_77 : BitVec 32 := 1024#32
  let v259 : BitVec 32 := Scalar.muli arg8 c1024_i32_77
  let v260 : BitVec 32 := v259
  let v355 : Index := Scalar.indexCast v260
  let c256 : Index := 256#32
  ![0, v355.toNat, 256]
def k0_off8 (i : grid0.Coords) (k0_t1 : Fin (k0_t1_loop i).trips) : Fin 3 → Nat :=
  let c0_111 : Index := 0#32
  let c0_i32_41 : BitVec 32 := 0#32
  let c1_i32_43 : BitVec 32 := 1#32
  let arg8 : BitVec 32 := Scf.iv c0_i32_41 c1_i32_43 k0_t1
  let c1024_i32_77 : BitVec 32 := 1024#32
  let v259 : BitVec 32 := Scalar.muli arg8 c1024_i32_77
  let v260 : BitVec 32 := v259
  let v358 : Index := Scalar.indexCast v260
  let c384 : Index := 384#32
  ![0, v358.toNat, 384]
@[reducible] def k0_t2_loop (i : grid0.Coords) : Scf.Loop 32 :=
  let c0_i32_41 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let v123 : BitVec 32 := Scalar.subi v103 c0_i32_41
  let c1_i32_42 : BitVec 32 := 1#32
  let v125 : BitVec 32 := Scalar.divsi v123 c1_i32_42
  let v126 : BitVec 32 := Scalar.muli v125 c1_i32_42
  let v127 : BitVec 32 := Scalar.addi c0_i32_41 v126
  let v124 : BitVec 32 := Scalar.addi c0_i32_41 v123
  let c1_i32_44 : BitVec 32 := 1#32
  ⟨v127, v124, c1_i32_44⟩
def k0_mult2 (i : grid0.Coords) (k0_t2 : Fin (k0_t2_loop i).trips) : BitVec 32 :=
  let c0_i32_41 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let v123 : BitVec 32 := Scalar.subi v103 c0_i32_41
  let c1_i32_42 : BitVec 32 := 1#32
  let v125 : BitVec 32 := Scalar.divsi v123 c1_i32_42
  let v126 : BitVec 32 := Scalar.muli v125 c1_i32_42
  let v127 : BitVec 32 := Scalar.addi c0_i32_41 v126
  let c1_i32_44 : BitVec 32 := 1#32
  let arg8 : BitVec 32 := Scf.iv v127 c1_i32_44 k0_t2
  let c1024_i32_77 : BitVec 32 := 1024#32
  let v259 : BitVec 32 := Scalar.muli arg8 c1024_i32_77
  v259
def k0_off9 (i : grid0.Coords) (k0_t2 : Fin (k0_t2_loop i).trips) : Fin 3 → Nat :=
  let c0_78 : Index := 0#32
  let c0_79 : Index := 0#32
  let c0_i32_41 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let v123 : BitVec 32 := Scalar.subi v103 c0_i32_41
  let c1_i32_42 : BitVec 32 := 1#32
  let v125 : BitVec 32 := Scalar.divsi v123 c1_i32_42
  let v126 : BitVec 32 := Scalar.muli v125 c1_i32_42
  let v127 : BitVec 32 := Scalar.addi c0_i32_41 v126
  let c1_i32_44 : BitVec 32 := 1#32
  let arg8 : BitVec 32 := Scf.iv v127 c1_i32_44 k0_t2
  let c1024_i32_77 : BitVec 32 := 1024#32
  let v259 : BitVec 32 := Scalar.muli arg8 c1024_i32_77
  let v260 : BitVec 32 := v259
  let v261 : Index := Scalar.indexCast v260
  ![0, 0, v261.toNat]
def k0_off10 (i : grid0.Coords) (k0_t2 : Fin (k0_t2_loop i).trips) : Fin 3 → Nat :=
  let c0_80 : Index := 0#32
  let c64_81 : Index := 64#32
  let c0_i32_41 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let v123 : BitVec 32 := Scalar.subi v103 c0_i32_41
  let c1_i32_42 : BitVec 32 := 1#32
  let v125 : BitVec 32 := Scalar.divsi v123 c1_i32_42
  let v126 : BitVec 32 := Scalar.muli v125 c1_i32_42
  let v127 : BitVec 32 := Scalar.addi c0_i32_41 v126
  let c1_i32_44 : BitVec 32 := 1#32
  let arg8 : BitVec 32 := Scf.iv v127 c1_i32_44 k0_t2
  let c1024_i32_77 : BitVec 32 := 1024#32
  let v259 : BitVec 32 := Scalar.muli arg8 c1024_i32_77
  let v260 : BitVec 32 := v259
  let v264 : Index := Scalar.indexCast v260
  ![0, 64, v264.toNat]
def k0_off11 (i : grid0.Coords) (k0_t2 : Fin (k0_t2_loop i).trips) : Fin 3 → Nat :=
  let c0_82 : Index := 0#32
  let c0_i32_41 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let v123 : BitVec 32 := Scalar.subi v103 c0_i32_41
  let c1_i32_42 : BitVec 32 := 1#32
  let v125 : BitVec 32 := Scalar.divsi v123 c1_i32_42
  let v126 : BitVec 32 := Scalar.muli v125 c1_i32_42
  let v127 : BitVec 32 := Scalar.addi c0_i32_41 v126
  let c1_i32_44 : BitVec 32 := 1#32
  let arg8 : BitVec 32 := Scf.iv v127 c1_i32_44 k0_t2
  let c1024_i32_77 : BitVec 32 := 1024#32
  let v259 : BitVec 32 := Scalar.muli arg8 c1024_i32_77
  let v260 : BitVec 32 := v259
  let v267 : Index := Scalar.indexCast v260
  let c0_83 : Index := 0#32
  ![0, v267.toNat, 0]
def k0_off12 (i : grid0.Coords) (k0_t2 : Fin (k0_t2_loop i).trips) : Fin 3 → Nat :=
  let c0_84 : Index := 0#32
  let c0_i32_41 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let v123 : BitVec 32 := Scalar.subi v103 c0_i32_41
  let c1_i32_42 : BitVec 32 := 1#32
  let v125 : BitVec 32 := Scalar.divsi v123 c1_i32_42
  let v126 : BitVec 32 := Scalar.muli v125 c1_i32_42
  let v127 : BitVec 32 := Scalar.addi c0_i32_41 v126
  let c1_i32_44 : BitVec 32 := 1#32
  let arg8 : BitVec 32 := Scf.iv v127 c1_i32_44 k0_t2
  let c1024_i32_77 : BitVec 32 := 1024#32
  let v259 : BitVec 32 := Scalar.muli arg8 c1024_i32_77
  let v260 : BitVec 32 := v259
  let v270 : Index := Scalar.indexCast v260
  let c128_85 : Index := 128#32
  ![0, v270.toNat, 128]
def k0_off13 (i : grid0.Coords) (k0_t2 : Fin (k0_t2_loop i).trips) : Fin 3 → Nat :=
  let c0_106 : Index := 0#32
  let c128_107 : Index := 128#32
  let c0_i32_41 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let v123 : BitVec 32 := Scalar.subi v103 c0_i32_41
  let c1_i32_42 : BitVec 32 := 1#32
  let v125 : BitVec 32 := Scalar.divsi v123 c1_i32_42
  let v126 : BitVec 32 := Scalar.muli v125 c1_i32_42
  let v127 : BitVec 32 := Scalar.addi c0_i32_41 v126
  let c1_i32_44 : BitVec 32 := 1#32
  let arg8 : BitVec 32 := Scf.iv v127 c1_i32_44 k0_t2
  let c1024_i32_77 : BitVec 32 := 1024#32
  let v259 : BitVec 32 := Scalar.muli arg8 c1024_i32_77
  let v260 : BitVec 32 := v259
  let v349 : Index := Scalar.indexCast v260
  ![0, 128, v349.toNat]
def k0_off14 (i : grid0.Coords) (k0_t2 : Fin (k0_t2_loop i).trips) : Fin 3 → Nat :=
  let c0_108 : Index := 0#32
  let c192_109 : Index := 192#32
  let c0_i32_41 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let v123 : BitVec 32 := Scalar.subi v103 c0_i32_41
  let c1_i32_42 : BitVec 32 := 1#32
  let v125 : BitVec 32 := Scalar.divsi v123 c1_i32_42
  let v126 : BitVec 32 := Scalar.muli v125 c1_i32_42
  let v127 : BitVec 32 := Scalar.addi c0_i32_41 v126
  let c1_i32_44 : BitVec 32 := 1#32
  let arg8 : BitVec 32 := Scf.iv v127 c1_i32_44 k0_t2
  let c1024_i32_77 : BitVec 32 := 1024#32
  let v259 : BitVec 32 := Scalar.muli arg8 c1024_i32_77
  let v260 : BitVec 32 := v259
  let v352 : Index := Scalar.indexCast v260
  ![0, 192, v352.toNat]
def k0_off15 (i : grid0.Coords) (k0_t2 : Fin (k0_t2_loop i).trips) : Fin 3 → Nat :=
  let c0_110 : Index := 0#32
  let c0_i32_41 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let v123 : BitVec 32 := Scalar.subi v103 c0_i32_41
  let c1_i32_42 : BitVec 32 := 1#32
  let v125 : BitVec 32 := Scalar.divsi v123 c1_i32_42
  let v126 : BitVec 32 := Scalar.muli v125 c1_i32_42
  let v127 : BitVec 32 := Scalar.addi c0_i32_41 v126
  let c1_i32_44 : BitVec 32 := 1#32
  let arg8 : BitVec 32 := Scf.iv v127 c1_i32_44 k0_t2
  let c1024_i32_77 : BitVec 32 := 1024#32
  let v259 : BitVec 32 := Scalar.muli arg8 c1024_i32_77
  let v260 : BitVec 32 := v259
  let v355 : Index := Scalar.indexCast v260
  let c256 : Index := 256#32
  ![0, v355.toNat, 256]
def k0_off16 (i : grid0.Coords) (k0_t2 : Fin (k0_t2_loop i).trips) : Fin 3 → Nat :=
  let c0_111 : Index := 0#32
  let c0_i32_41 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let v123 : BitVec 32 := Scalar.subi v103 c0_i32_41
  let c1_i32_42 : BitVec 32 := 1#32
  let v125 : BitVec 32 := Scalar.divsi v123 c1_i32_42
  let v126 : BitVec 32 := Scalar.muli v125 c1_i32_42
  let v127 : BitVec 32 := Scalar.addi c0_i32_41 v126
  let c1_i32_44 : BitVec 32 := 1#32
  let arg8 : BitVec 32 := Scf.iv v127 c1_i32_44 k0_t2
  let c1024_i32_77 : BitVec 32 := 1024#32
  let v259 : BitVec 32 := Scalar.muli arg8 c1024_i32_77
  let v260 : BitVec 32 := v259
  let v358 : Index := Scalar.indexCast v260
  let c384 : Index := 384#32
  ![0, v358.toNat, 384]
@[reducible] def k0_t3_loop (i : grid0.Coords) : Scf.Loop 32 :=
  let c0_i32_46 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_33 : BitVec 32 := 1024#32
  let v104 : BitVec 32 := Scalar.muli v103 c1024_i32_33
  let v105 : BitVec 32 := Scalar.subi v86 v104
  let c0_i32_35 : BitVec 32 := 0#32
  let v107 : BitVec 1 := Scalar.cmpi .sgt v105 c0_i32_35
  let v108 : BitVec 32 := Scalar.extui v107
  let c0_i32_36 : BitVec 32 := 0#32
  let v109 : BitVec 1 := Scalar.cmpi .slt v105 c0_i32_36
  let v110 : BitVec 32 := Scalar.extui v109
  let v111 : BitVec 32 := Scalar.subi v108 v110
  let c512_i32_34 : BitVec 32 := 512#32
  let c0_i32_37 : BitVec 32 := 0#32
  let v112 : BitVec 1 := Scalar.cmpi .sgt c512_i32_34 c0_i32_37
  let v113 : BitVec 32 := Scalar.extui v112
  let c0_i32_38 : BitVec 32 := 0#32
  let v114 : BitVec 1 := Scalar.cmpi .slt c512_i32_34 c0_i32_38
  let v115 : BitVec 32 := Scalar.extui v114
  let v116 : BitVec 32 := Scalar.subi v113 v115
  let v117 : BitVec 1 := Scalar.cmpi .ne v111 v116
  let v118 : BitVec 32 := Scalar.remsi v105 c512_i32_34
  let c0_i32_39 : BitVec 32 := 0#32
  let v119 : BitVec 1 := Scalar.cmpi .ne v118 c0_i32_39
  let v120 : BitVec 1 := Scalar.andi v117 v119
  let v106 : BitVec 32 := Scalar.divsi v105 c512_i32_34
  let c1_i32_40 : BitVec 32 := 1#32
  let v121 : BitVec 32 := Scalar.subi v106 c1_i32_40
  let v122 : BitVec 32 := Scalar.select v120 v121 v106
  let c1_i32_45 : BitVec 32 := 1#32
  let v130 : BitVec 32 := Scalar.addi v122 c1_i32_45
  let v131 : BitVec 32 := Scalar.subi v130 c0_i32_46
  let c1_i32_47 : BitVec 32 := 1#32
  let v133 : BitVec 32 := Scalar.divsi v131 c1_i32_47
  let v134 : BitVec 32 := Scalar.muli v133 c1_i32_47
  let v135 : BitVec 32 := Scalar.addi c0_i32_46 v134
  let c1_i32_48 : BitVec 32 := 1#32
  ⟨c0_i32_46, v135, c1_i32_48⟩
def k0_mult3 (i : grid0.Coords) (k0_t3 : Fin (k0_t3_loop i).trips) : BitVec 32 :=
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1_i32_48 : BitVec 32 := 1#32
  let arg8 : BitVec 32 := Scf.iv c0_i32_46 c1_i32_48 k0_t3
  let c512_i32_79 : BitVec 32 := 512#32
  let v262 : BitVec 32 := Scalar.muli arg8 c512_i32_79
  let v263 : BitVec 32 := Scalar.addi v261 v262
  v263
def k0_off17 (i : grid0.Coords) (k0_t3 : Fin (k0_t3_loop i).trips) : Fin 3 → Nat :=
  let c0_80 : Index := 0#32
  let c0_81 : Index := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1_i32_48 : BitVec 32 := 1#32
  let arg8 : BitVec 32 := Scf.iv c0_i32_46 c1_i32_48 k0_t3
  let c512_i32_79 : BitVec 32 := 512#32
  let v262 : BitVec 32 := Scalar.muli arg8 c512_i32_79
  let v263 : BitVec 32 := Scalar.addi v261 v262
  let v264 : BitVec 32 := v263
  let v268 : Index := Scalar.indexCast v264
  ![0, 0, v268.toNat]
def k0_off18 (i : grid0.Coords) (k0_t3 : Fin (k0_t3_loop i).trips) : Fin 3 → Nat :=
  let c0_82 : Index := 0#32
  let c64_83 : Index := 64#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1_i32_48 : BitVec 32 := 1#32
  let arg8 : BitVec 32 := Scf.iv c0_i32_46 c1_i32_48 k0_t3
  let c512_i32_79 : BitVec 32 := 512#32
  let v262 : BitVec 32 := Scalar.muli arg8 c512_i32_79
  let v263 : BitVec 32 := Scalar.addi v261 v262
  let v264 : BitVec 32 := v263
  let v271 : Index := Scalar.indexCast v264
  ![0, 64, v271.toNat]
def k0_off19 (i : grid0.Coords) (k0_t3 : Fin (k0_t3_loop i).trips) : Fin 3 → Nat :=
  let c0_84 : Index := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1_i32_48 : BitVec 32 := 1#32
  let arg8 : BitVec 32 := Scf.iv c0_i32_46 c1_i32_48 k0_t3
  let c512_i32_79 : BitVec 32 := 512#32
  let v262 : BitVec 32 := Scalar.muli arg8 c512_i32_79
  let v263 : BitVec 32 := Scalar.addi v261 v262
  let v264 : BitVec 32 := v263
  let v274 : Index := Scalar.indexCast v264
  let c0_85 : Index := 0#32
  ![0, v274.toNat, 0]
def k0_off20 (i : grid0.Coords) (k0_t3 : Fin (k0_t3_loop i).trips) : Fin 3 → Nat :=
  let c0_86 : Index := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1_i32_48 : BitVec 32 := 1#32
  let arg8 : BitVec 32 := Scf.iv c0_i32_46 c1_i32_48 k0_t3
  let c512_i32_79 : BitVec 32 := 512#32
  let v262 : BitVec 32 := Scalar.muli arg8 c512_i32_79
  let v263 : BitVec 32 := Scalar.addi v261 v262
  let v264 : BitVec 32 := v263
  let v277 : Index := Scalar.indexCast v264
  let c128_87 : Index := 128#32
  ![0, v277.toNat, 128]
def k0_off21 (i : grid0.Coords) (k0_t3 : Fin (k0_t3_loop i).trips) : Fin 3 → Nat :=
  let c0_112 : Index := 0#32
  let c128_113 : Index := 128#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1_i32_48 : BitVec 32 := 1#32
  let arg8 : BitVec 32 := Scf.iv c0_i32_46 c1_i32_48 k0_t3
  let c512_i32_79 : BitVec 32 := 512#32
  let v262 : BitVec 32 := Scalar.muli arg8 c512_i32_79
  let v263 : BitVec 32 := Scalar.addi v261 v262
  let v264 : BitVec 32 := v263
  let v364 : Index := Scalar.indexCast v264
  ![0, 128, v364.toNat]
def k0_off22 (i : grid0.Coords) (k0_t3 : Fin (k0_t3_loop i).trips) : Fin 3 → Nat :=
  let c0_114 : Index := 0#32
  let c192_115 : Index := 192#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1_i32_48 : BitVec 32 := 1#32
  let arg8 : BitVec 32 := Scf.iv c0_i32_46 c1_i32_48 k0_t3
  let c512_i32_79 : BitVec 32 := 512#32
  let v262 : BitVec 32 := Scalar.muli arg8 c512_i32_79
  let v263 : BitVec 32 := Scalar.addi v261 v262
  let v264 : BitVec 32 := v263
  let v367 : Index := Scalar.indexCast v264
  ![0, 192, v367.toNat]
def k0_off23 (i : grid0.Coords) (k0_t3 : Fin (k0_t3_loop i).trips) : Fin 3 → Nat :=
  let c0_116 : Index := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1_i32_48 : BitVec 32 := 1#32
  let arg8 : BitVec 32 := Scf.iv c0_i32_46 c1_i32_48 k0_t3
  let c512_i32_79 : BitVec 32 := 512#32
  let v262 : BitVec 32 := Scalar.muli arg8 c512_i32_79
  let v263 : BitVec 32 := Scalar.addi v261 v262
  let v264 : BitVec 32 := v263
  let v370 : Index := Scalar.indexCast v264
  let c256 : Index := 256#32
  ![0, v370.toNat, 256]
def k0_off24 (i : grid0.Coords) (k0_t3 : Fin (k0_t3_loop i).trips) : Fin 3 → Nat :=
  let c0_117 : Index := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1_i32_48 : BitVec 32 := 1#32
  let arg8 : BitVec 32 := Scf.iv c0_i32_46 c1_i32_48 k0_t3
  let c512_i32_79 : BitVec 32 := 512#32
  let v262 : BitVec 32 := Scalar.muli arg8 c512_i32_79
  let v263 : BitVec 32 := Scalar.addi v261 v262
  let v264 : BitVec 32 := v263
  let v373 : Index := Scalar.indexCast v264
  let c384 : Index := 384#32
  ![0, v373.toNat, 384]
@[reducible] def k0_t4_loop (i : grid0.Coords) : Scf.Loop 32 :=
  let c0_i32_46 : BitVec 32 := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_33 : BitVec 32 := 1024#32
  let v104 : BitVec 32 := Scalar.muli v103 c1024_i32_33
  let v105 : BitVec 32 := Scalar.subi v86 v104
  let c0_i32_35 : BitVec 32 := 0#32
  let v107 : BitVec 1 := Scalar.cmpi .sgt v105 c0_i32_35
  let v108 : BitVec 32 := Scalar.extui v107
  let c0_i32_36 : BitVec 32 := 0#32
  let v109 : BitVec 1 := Scalar.cmpi .slt v105 c0_i32_36
  let v110 : BitVec 32 := Scalar.extui v109
  let v111 : BitVec 32 := Scalar.subi v108 v110
  let c512_i32_34 : BitVec 32 := 512#32
  let c0_i32_37 : BitVec 32 := 0#32
  let v112 : BitVec 1 := Scalar.cmpi .sgt c512_i32_34 c0_i32_37
  let v113 : BitVec 32 := Scalar.extui v112
  let c0_i32_38 : BitVec 32 := 0#32
  let v114 : BitVec 1 := Scalar.cmpi .slt c512_i32_34 c0_i32_38
  let v115 : BitVec 32 := Scalar.extui v114
  let v116 : BitVec 32 := Scalar.subi v113 v115
  let v117 : BitVec 1 := Scalar.cmpi .ne v111 v116
  let v118 : BitVec 32 := Scalar.remsi v105 c512_i32_34
  let c0_i32_39 : BitVec 32 := 0#32
  let v119 : BitVec 1 := Scalar.cmpi .ne v118 c0_i32_39
  let v120 : BitVec 1 := Scalar.andi v117 v119
  let v106 : BitVec 32 := Scalar.divsi v105 c512_i32_34
  let c1_i32_40 : BitVec 32 := 1#32
  let v121 : BitVec 32 := Scalar.subi v106 c1_i32_40
  let v122 : BitVec 32 := Scalar.select v120 v121 v106
  let c1_i32_45 : BitVec 32 := 1#32
  let v130 : BitVec 32 := Scalar.addi v122 c1_i32_45
  let v131 : BitVec 32 := Scalar.subi v130 c0_i32_46
  let c1_i32_47 : BitVec 32 := 1#32
  let v133 : BitVec 32 := Scalar.divsi v131 c1_i32_47
  let v134 : BitVec 32 := Scalar.muli v133 c1_i32_47
  let v135 : BitVec 32 := Scalar.addi c0_i32_46 v134
  let v132 : BitVec 32 := Scalar.addi c0_i32_46 v131
  let c1_i32_49 : BitVec 32 := 1#32
  ⟨v135, v132, c1_i32_49⟩
def k0_mult4 (i : grid0.Coords) (k0_t4 : Fin (k0_t4_loop i).trips) : BitVec 32 :=
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1024_i32_33 : BitVec 32 := 1024#32
  let v104 : BitVec 32 := Scalar.muli v103 c1024_i32_33
  let v105 : BitVec 32 := Scalar.subi v86 v104
  let c0_i32_35 : BitVec 32 := 0#32
  let v107 : BitVec 1 := Scalar.cmpi .sgt v105 c0_i32_35
  let v108 : BitVec 32 := Scalar.extui v107
  let c0_i32_36 : BitVec 32 := 0#32
  let v109 : BitVec 1 := Scalar.cmpi .slt v105 c0_i32_36
  let v110 : BitVec 32 := Scalar.extui v109
  let v111 : BitVec 32 := Scalar.subi v108 v110
  let c512_i32_34 : BitVec 32 := 512#32
  let c0_i32_37 : BitVec 32 := 0#32
  let v112 : BitVec 1 := Scalar.cmpi .sgt c512_i32_34 c0_i32_37
  let v113 : BitVec 32 := Scalar.extui v112
  let c0_i32_38 : BitVec 32 := 0#32
  let v114 : BitVec 1 := Scalar.cmpi .slt c512_i32_34 c0_i32_38
  let v115 : BitVec 32 := Scalar.extui v114
  let v116 : BitVec 32 := Scalar.subi v113 v115
  let v117 : BitVec 1 := Scalar.cmpi .ne v111 v116
  let v118 : BitVec 32 := Scalar.remsi v105 c512_i32_34
  let c0_i32_39 : BitVec 32 := 0#32
  let v119 : BitVec 1 := Scalar.cmpi .ne v118 c0_i32_39
  let v120 : BitVec 1 := Scalar.andi v117 v119
  let v106 : BitVec 32 := Scalar.divsi v105 c512_i32_34
  let c1_i32_40 : BitVec 32 := 1#32
  let v121 : BitVec 32 := Scalar.subi v106 c1_i32_40
  let v122 : BitVec 32 := Scalar.select v120 v121 v106
  let c1_i32_45 : BitVec 32 := 1#32
  let v130 : BitVec 32 := Scalar.addi v122 c1_i32_45
  let v131 : BitVec 32 := Scalar.subi v130 c0_i32_46
  let c1_i32_47 : BitVec 32 := 1#32
  let v133 : BitVec 32 := Scalar.divsi v131 c1_i32_47
  let v134 : BitVec 32 := Scalar.muli v133 c1_i32_47
  let v135 : BitVec 32 := Scalar.addi c0_i32_46 v134
  let c1_i32_49 : BitVec 32 := 1#32
  let arg8 : BitVec 32 := Scf.iv v135 c1_i32_49 k0_t4
  let c512_i32_79 : BitVec 32 := 512#32
  let v262 : BitVec 32 := Scalar.muli arg8 c512_i32_79
  let v263 : BitVec 32 := Scalar.addi v261 v262
  v263
def k0_off25 (i : grid0.Coords) (k0_t4 : Fin (k0_t4_loop i).trips) : Fin 3 → Nat :=
  let c0_80 : Index := 0#32
  let c0_81 : Index := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1024_i32_33 : BitVec 32 := 1024#32
  let v104 : BitVec 32 := Scalar.muli v103 c1024_i32_33
  let v105 : BitVec 32 := Scalar.subi v86 v104
  let c0_i32_35 : BitVec 32 := 0#32
  let v107 : BitVec 1 := Scalar.cmpi .sgt v105 c0_i32_35
  let v108 : BitVec 32 := Scalar.extui v107
  let c0_i32_36 : BitVec 32 := 0#32
  let v109 : BitVec 1 := Scalar.cmpi .slt v105 c0_i32_36
  let v110 : BitVec 32 := Scalar.extui v109
  let v111 : BitVec 32 := Scalar.subi v108 v110
  let c512_i32_34 : BitVec 32 := 512#32
  let c0_i32_37 : BitVec 32 := 0#32
  let v112 : BitVec 1 := Scalar.cmpi .sgt c512_i32_34 c0_i32_37
  let v113 : BitVec 32 := Scalar.extui v112
  let c0_i32_38 : BitVec 32 := 0#32
  let v114 : BitVec 1 := Scalar.cmpi .slt c512_i32_34 c0_i32_38
  let v115 : BitVec 32 := Scalar.extui v114
  let v116 : BitVec 32 := Scalar.subi v113 v115
  let v117 : BitVec 1 := Scalar.cmpi .ne v111 v116
  let v118 : BitVec 32 := Scalar.remsi v105 c512_i32_34
  let c0_i32_39 : BitVec 32 := 0#32
  let v119 : BitVec 1 := Scalar.cmpi .ne v118 c0_i32_39
  let v120 : BitVec 1 := Scalar.andi v117 v119
  let v106 : BitVec 32 := Scalar.divsi v105 c512_i32_34
  let c1_i32_40 : BitVec 32 := 1#32
  let v121 : BitVec 32 := Scalar.subi v106 c1_i32_40
  let v122 : BitVec 32 := Scalar.select v120 v121 v106
  let c1_i32_45 : BitVec 32 := 1#32
  let v130 : BitVec 32 := Scalar.addi v122 c1_i32_45
  let v131 : BitVec 32 := Scalar.subi v130 c0_i32_46
  let c1_i32_47 : BitVec 32 := 1#32
  let v133 : BitVec 32 := Scalar.divsi v131 c1_i32_47
  let v134 : BitVec 32 := Scalar.muli v133 c1_i32_47
  let v135 : BitVec 32 := Scalar.addi c0_i32_46 v134
  let c1_i32_49 : BitVec 32 := 1#32
  let arg8 : BitVec 32 := Scf.iv v135 c1_i32_49 k0_t4
  let c512_i32_79 : BitVec 32 := 512#32
  let v262 : BitVec 32 := Scalar.muli arg8 c512_i32_79
  let v263 : BitVec 32 := Scalar.addi v261 v262
  let v264 : BitVec 32 := v263
  let v268 : Index := Scalar.indexCast v264
  ![0, 0, v268.toNat]
def k0_off26 (i : grid0.Coords) (k0_t4 : Fin (k0_t4_loop i).trips) : Fin 3 → Nat :=
  let c0_82 : Index := 0#32
  let c64_83 : Index := 64#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1024_i32_33 : BitVec 32 := 1024#32
  let v104 : BitVec 32 := Scalar.muli v103 c1024_i32_33
  let v105 : BitVec 32 := Scalar.subi v86 v104
  let c0_i32_35 : BitVec 32 := 0#32
  let v107 : BitVec 1 := Scalar.cmpi .sgt v105 c0_i32_35
  let v108 : BitVec 32 := Scalar.extui v107
  let c0_i32_36 : BitVec 32 := 0#32
  let v109 : BitVec 1 := Scalar.cmpi .slt v105 c0_i32_36
  let v110 : BitVec 32 := Scalar.extui v109
  let v111 : BitVec 32 := Scalar.subi v108 v110
  let c512_i32_34 : BitVec 32 := 512#32
  let c0_i32_37 : BitVec 32 := 0#32
  let v112 : BitVec 1 := Scalar.cmpi .sgt c512_i32_34 c0_i32_37
  let v113 : BitVec 32 := Scalar.extui v112
  let c0_i32_38 : BitVec 32 := 0#32
  let v114 : BitVec 1 := Scalar.cmpi .slt c512_i32_34 c0_i32_38
  let v115 : BitVec 32 := Scalar.extui v114
  let v116 : BitVec 32 := Scalar.subi v113 v115
  let v117 : BitVec 1 := Scalar.cmpi .ne v111 v116
  let v118 : BitVec 32 := Scalar.remsi v105 c512_i32_34
  let c0_i32_39 : BitVec 32 := 0#32
  let v119 : BitVec 1 := Scalar.cmpi .ne v118 c0_i32_39
  let v120 : BitVec 1 := Scalar.andi v117 v119
  let v106 : BitVec 32 := Scalar.divsi v105 c512_i32_34
  let c1_i32_40 : BitVec 32 := 1#32
  let v121 : BitVec 32 := Scalar.subi v106 c1_i32_40
  let v122 : BitVec 32 := Scalar.select v120 v121 v106
  let c1_i32_45 : BitVec 32 := 1#32
  let v130 : BitVec 32 := Scalar.addi v122 c1_i32_45
  let v131 : BitVec 32 := Scalar.subi v130 c0_i32_46
  let c1_i32_47 : BitVec 32 := 1#32
  let v133 : BitVec 32 := Scalar.divsi v131 c1_i32_47
  let v134 : BitVec 32 := Scalar.muli v133 c1_i32_47
  let v135 : BitVec 32 := Scalar.addi c0_i32_46 v134
  let c1_i32_49 : BitVec 32 := 1#32
  let arg8 : BitVec 32 := Scf.iv v135 c1_i32_49 k0_t4
  let c512_i32_79 : BitVec 32 := 512#32
  let v262 : BitVec 32 := Scalar.muli arg8 c512_i32_79
  let v263 : BitVec 32 := Scalar.addi v261 v262
  let v264 : BitVec 32 := v263
  let v271 : Index := Scalar.indexCast v264
  ![0, 64, v271.toNat]
def k0_off27 (i : grid0.Coords) (k0_t4 : Fin (k0_t4_loop i).trips) : Fin 3 → Nat :=
  let c0_84 : Index := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1024_i32_33 : BitVec 32 := 1024#32
  let v104 : BitVec 32 := Scalar.muli v103 c1024_i32_33
  let v105 : BitVec 32 := Scalar.subi v86 v104
  let c0_i32_35 : BitVec 32 := 0#32
  let v107 : BitVec 1 := Scalar.cmpi .sgt v105 c0_i32_35
  let v108 : BitVec 32 := Scalar.extui v107
  let c0_i32_36 : BitVec 32 := 0#32
  let v109 : BitVec 1 := Scalar.cmpi .slt v105 c0_i32_36
  let v110 : BitVec 32 := Scalar.extui v109
  let v111 : BitVec 32 := Scalar.subi v108 v110
  let c512_i32_34 : BitVec 32 := 512#32
  let c0_i32_37 : BitVec 32 := 0#32
  let v112 : BitVec 1 := Scalar.cmpi .sgt c512_i32_34 c0_i32_37
  let v113 : BitVec 32 := Scalar.extui v112
  let c0_i32_38 : BitVec 32 := 0#32
  let v114 : BitVec 1 := Scalar.cmpi .slt c512_i32_34 c0_i32_38
  let v115 : BitVec 32 := Scalar.extui v114
  let v116 : BitVec 32 := Scalar.subi v113 v115
  let v117 : BitVec 1 := Scalar.cmpi .ne v111 v116
  let v118 : BitVec 32 := Scalar.remsi v105 c512_i32_34
  let c0_i32_39 : BitVec 32 := 0#32
  let v119 : BitVec 1 := Scalar.cmpi .ne v118 c0_i32_39
  let v120 : BitVec 1 := Scalar.andi v117 v119
  let v106 : BitVec 32 := Scalar.divsi v105 c512_i32_34
  let c1_i32_40 : BitVec 32 := 1#32
  let v121 : BitVec 32 := Scalar.subi v106 c1_i32_40
  let v122 : BitVec 32 := Scalar.select v120 v121 v106
  let c1_i32_45 : BitVec 32 := 1#32
  let v130 : BitVec 32 := Scalar.addi v122 c1_i32_45
  let v131 : BitVec 32 := Scalar.subi v130 c0_i32_46
  let c1_i32_47 : BitVec 32 := 1#32
  let v133 : BitVec 32 := Scalar.divsi v131 c1_i32_47
  let v134 : BitVec 32 := Scalar.muli v133 c1_i32_47
  let v135 : BitVec 32 := Scalar.addi c0_i32_46 v134
  let c1_i32_49 : BitVec 32 := 1#32
  let arg8 : BitVec 32 := Scf.iv v135 c1_i32_49 k0_t4
  let c512_i32_79 : BitVec 32 := 512#32
  let v262 : BitVec 32 := Scalar.muli arg8 c512_i32_79
  let v263 : BitVec 32 := Scalar.addi v261 v262
  let v264 : BitVec 32 := v263
  let v274 : Index := Scalar.indexCast v264
  let c0_85 : Index := 0#32
  ![0, v274.toNat, 0]
def k0_off28 (i : grid0.Coords) (k0_t4 : Fin (k0_t4_loop i).trips) : Fin 3 → Nat :=
  let c0_86 : Index := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1024_i32_33 : BitVec 32 := 1024#32
  let v104 : BitVec 32 := Scalar.muli v103 c1024_i32_33
  let v105 : BitVec 32 := Scalar.subi v86 v104
  let c0_i32_35 : BitVec 32 := 0#32
  let v107 : BitVec 1 := Scalar.cmpi .sgt v105 c0_i32_35
  let v108 : BitVec 32 := Scalar.extui v107
  let c0_i32_36 : BitVec 32 := 0#32
  let v109 : BitVec 1 := Scalar.cmpi .slt v105 c0_i32_36
  let v110 : BitVec 32 := Scalar.extui v109
  let v111 : BitVec 32 := Scalar.subi v108 v110
  let c512_i32_34 : BitVec 32 := 512#32
  let c0_i32_37 : BitVec 32 := 0#32
  let v112 : BitVec 1 := Scalar.cmpi .sgt c512_i32_34 c0_i32_37
  let v113 : BitVec 32 := Scalar.extui v112
  let c0_i32_38 : BitVec 32 := 0#32
  let v114 : BitVec 1 := Scalar.cmpi .slt c512_i32_34 c0_i32_38
  let v115 : BitVec 32 := Scalar.extui v114
  let v116 : BitVec 32 := Scalar.subi v113 v115
  let v117 : BitVec 1 := Scalar.cmpi .ne v111 v116
  let v118 : BitVec 32 := Scalar.remsi v105 c512_i32_34
  let c0_i32_39 : BitVec 32 := 0#32
  let v119 : BitVec 1 := Scalar.cmpi .ne v118 c0_i32_39
  let v120 : BitVec 1 := Scalar.andi v117 v119
  let v106 : BitVec 32 := Scalar.divsi v105 c512_i32_34
  let c1_i32_40 : BitVec 32 := 1#32
  let v121 : BitVec 32 := Scalar.subi v106 c1_i32_40
  let v122 : BitVec 32 := Scalar.select v120 v121 v106
  let c1_i32_45 : BitVec 32 := 1#32
  let v130 : BitVec 32 := Scalar.addi v122 c1_i32_45
  let v131 : BitVec 32 := Scalar.subi v130 c0_i32_46
  let c1_i32_47 : BitVec 32 := 1#32
  let v133 : BitVec 32 := Scalar.divsi v131 c1_i32_47
  let v134 : BitVec 32 := Scalar.muli v133 c1_i32_47
  let v135 : BitVec 32 := Scalar.addi c0_i32_46 v134
  let c1_i32_49 : BitVec 32 := 1#32
  let arg8 : BitVec 32 := Scf.iv v135 c1_i32_49 k0_t4
  let c512_i32_79 : BitVec 32 := 512#32
  let v262 : BitVec 32 := Scalar.muli arg8 c512_i32_79
  let v263 : BitVec 32 := Scalar.addi v261 v262
  let v264 : BitVec 32 := v263
  let v277 : Index := Scalar.indexCast v264
  let c128_87 : Index := 128#32
  ![0, v277.toNat, 128]
def k0_off29 (i : grid0.Coords) (k0_t4 : Fin (k0_t4_loop i).trips) : Fin 3 → Nat :=
  let c0_112 : Index := 0#32
  let c128_113 : Index := 128#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1024_i32_33 : BitVec 32 := 1024#32
  let v104 : BitVec 32 := Scalar.muli v103 c1024_i32_33
  let v105 : BitVec 32 := Scalar.subi v86 v104
  let c0_i32_35 : BitVec 32 := 0#32
  let v107 : BitVec 1 := Scalar.cmpi .sgt v105 c0_i32_35
  let v108 : BitVec 32 := Scalar.extui v107
  let c0_i32_36 : BitVec 32 := 0#32
  let v109 : BitVec 1 := Scalar.cmpi .slt v105 c0_i32_36
  let v110 : BitVec 32 := Scalar.extui v109
  let v111 : BitVec 32 := Scalar.subi v108 v110
  let c512_i32_34 : BitVec 32 := 512#32
  let c0_i32_37 : BitVec 32 := 0#32
  let v112 : BitVec 1 := Scalar.cmpi .sgt c512_i32_34 c0_i32_37
  let v113 : BitVec 32 := Scalar.extui v112
  let c0_i32_38 : BitVec 32 := 0#32
  let v114 : BitVec 1 := Scalar.cmpi .slt c512_i32_34 c0_i32_38
  let v115 : BitVec 32 := Scalar.extui v114
  let v116 : BitVec 32 := Scalar.subi v113 v115
  let v117 : BitVec 1 := Scalar.cmpi .ne v111 v116
  let v118 : BitVec 32 := Scalar.remsi v105 c512_i32_34
  let c0_i32_39 : BitVec 32 := 0#32
  let v119 : BitVec 1 := Scalar.cmpi .ne v118 c0_i32_39
  let v120 : BitVec 1 := Scalar.andi v117 v119
  let v106 : BitVec 32 := Scalar.divsi v105 c512_i32_34
  let c1_i32_40 : BitVec 32 := 1#32
  let v121 : BitVec 32 := Scalar.subi v106 c1_i32_40
  let v122 : BitVec 32 := Scalar.select v120 v121 v106
  let c1_i32_45 : BitVec 32 := 1#32
  let v130 : BitVec 32 := Scalar.addi v122 c1_i32_45
  let v131 : BitVec 32 := Scalar.subi v130 c0_i32_46
  let c1_i32_47 : BitVec 32 := 1#32
  let v133 : BitVec 32 := Scalar.divsi v131 c1_i32_47
  let v134 : BitVec 32 := Scalar.muli v133 c1_i32_47
  let v135 : BitVec 32 := Scalar.addi c0_i32_46 v134
  let c1_i32_49 : BitVec 32 := 1#32
  let arg8 : BitVec 32 := Scf.iv v135 c1_i32_49 k0_t4
  let c512_i32_79 : BitVec 32 := 512#32
  let v262 : BitVec 32 := Scalar.muli arg8 c512_i32_79
  let v263 : BitVec 32 := Scalar.addi v261 v262
  let v264 : BitVec 32 := v263
  let v364 : Index := Scalar.indexCast v264
  ![0, 128, v364.toNat]
def k0_off30 (i : grid0.Coords) (k0_t4 : Fin (k0_t4_loop i).trips) : Fin 3 → Nat :=
  let c0_114 : Index := 0#32
  let c192_115 : Index := 192#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1024_i32_33 : BitVec 32 := 1024#32
  let v104 : BitVec 32 := Scalar.muli v103 c1024_i32_33
  let v105 : BitVec 32 := Scalar.subi v86 v104
  let c0_i32_35 : BitVec 32 := 0#32
  let v107 : BitVec 1 := Scalar.cmpi .sgt v105 c0_i32_35
  let v108 : BitVec 32 := Scalar.extui v107
  let c0_i32_36 : BitVec 32 := 0#32
  let v109 : BitVec 1 := Scalar.cmpi .slt v105 c0_i32_36
  let v110 : BitVec 32 := Scalar.extui v109
  let v111 : BitVec 32 := Scalar.subi v108 v110
  let c512_i32_34 : BitVec 32 := 512#32
  let c0_i32_37 : BitVec 32 := 0#32
  let v112 : BitVec 1 := Scalar.cmpi .sgt c512_i32_34 c0_i32_37
  let v113 : BitVec 32 := Scalar.extui v112
  let c0_i32_38 : BitVec 32 := 0#32
  let v114 : BitVec 1 := Scalar.cmpi .slt c512_i32_34 c0_i32_38
  let v115 : BitVec 32 := Scalar.extui v114
  let v116 : BitVec 32 := Scalar.subi v113 v115
  let v117 : BitVec 1 := Scalar.cmpi .ne v111 v116
  let v118 : BitVec 32 := Scalar.remsi v105 c512_i32_34
  let c0_i32_39 : BitVec 32 := 0#32
  let v119 : BitVec 1 := Scalar.cmpi .ne v118 c0_i32_39
  let v120 : BitVec 1 := Scalar.andi v117 v119
  let v106 : BitVec 32 := Scalar.divsi v105 c512_i32_34
  let c1_i32_40 : BitVec 32 := 1#32
  let v121 : BitVec 32 := Scalar.subi v106 c1_i32_40
  let v122 : BitVec 32 := Scalar.select v120 v121 v106
  let c1_i32_45 : BitVec 32 := 1#32
  let v130 : BitVec 32 := Scalar.addi v122 c1_i32_45
  let v131 : BitVec 32 := Scalar.subi v130 c0_i32_46
  let c1_i32_47 : BitVec 32 := 1#32
  let v133 : BitVec 32 := Scalar.divsi v131 c1_i32_47
  let v134 : BitVec 32 := Scalar.muli v133 c1_i32_47
  let v135 : BitVec 32 := Scalar.addi c0_i32_46 v134
  let c1_i32_49 : BitVec 32 := 1#32
  let arg8 : BitVec 32 := Scf.iv v135 c1_i32_49 k0_t4
  let c512_i32_79 : BitVec 32 := 512#32
  let v262 : BitVec 32 := Scalar.muli arg8 c512_i32_79
  let v263 : BitVec 32 := Scalar.addi v261 v262
  let v264 : BitVec 32 := v263
  let v367 : Index := Scalar.indexCast v264
  ![0, 192, v367.toNat]
def k0_off31 (i : grid0.Coords) (k0_t4 : Fin (k0_t4_loop i).trips) : Fin 3 → Nat :=
  let c0_116 : Index := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1024_i32_33 : BitVec 32 := 1024#32
  let v104 : BitVec 32 := Scalar.muli v103 c1024_i32_33
  let v105 : BitVec 32 := Scalar.subi v86 v104
  let c0_i32_35 : BitVec 32 := 0#32
  let v107 : BitVec 1 := Scalar.cmpi .sgt v105 c0_i32_35
  let v108 : BitVec 32 := Scalar.extui v107
  let c0_i32_36 : BitVec 32 := 0#32
  let v109 : BitVec 1 := Scalar.cmpi .slt v105 c0_i32_36
  let v110 : BitVec 32 := Scalar.extui v109
  let v111 : BitVec 32 := Scalar.subi v108 v110
  let c512_i32_34 : BitVec 32 := 512#32
  let c0_i32_37 : BitVec 32 := 0#32
  let v112 : BitVec 1 := Scalar.cmpi .sgt c512_i32_34 c0_i32_37
  let v113 : BitVec 32 := Scalar.extui v112
  let c0_i32_38 : BitVec 32 := 0#32
  let v114 : BitVec 1 := Scalar.cmpi .slt c512_i32_34 c0_i32_38
  let v115 : BitVec 32 := Scalar.extui v114
  let v116 : BitVec 32 := Scalar.subi v113 v115
  let v117 : BitVec 1 := Scalar.cmpi .ne v111 v116
  let v118 : BitVec 32 := Scalar.remsi v105 c512_i32_34
  let c0_i32_39 : BitVec 32 := 0#32
  let v119 : BitVec 1 := Scalar.cmpi .ne v118 c0_i32_39
  let v120 : BitVec 1 := Scalar.andi v117 v119
  let v106 : BitVec 32 := Scalar.divsi v105 c512_i32_34
  let c1_i32_40 : BitVec 32 := 1#32
  let v121 : BitVec 32 := Scalar.subi v106 c1_i32_40
  let v122 : BitVec 32 := Scalar.select v120 v121 v106
  let c1_i32_45 : BitVec 32 := 1#32
  let v130 : BitVec 32 := Scalar.addi v122 c1_i32_45
  let v131 : BitVec 32 := Scalar.subi v130 c0_i32_46
  let c1_i32_47 : BitVec 32 := 1#32
  let v133 : BitVec 32 := Scalar.divsi v131 c1_i32_47
  let v134 : BitVec 32 := Scalar.muli v133 c1_i32_47
  let v135 : BitVec 32 := Scalar.addi c0_i32_46 v134
  let c1_i32_49 : BitVec 32 := 1#32
  let arg8 : BitVec 32 := Scf.iv v135 c1_i32_49 k0_t4
  let c512_i32_79 : BitVec 32 := 512#32
  let v262 : BitVec 32 := Scalar.muli arg8 c512_i32_79
  let v263 : BitVec 32 := Scalar.addi v261 v262
  let v264 : BitVec 32 := v263
  let v370 : Index := Scalar.indexCast v264
  let c256 : Index := 256#32
  ![0, v370.toNat, 256]
def k0_off32 (i : grid0.Coords) (k0_t4 : Fin (k0_t4_loop i).trips) : Fin 3 → Nat :=
  let c0_117 : Index := 0#32
  let arg1 : BitVec 32 := BitVec.ofNat 32 (i 1).val
  let c512_i32 : BitVec 32 := 512#32
  let v86 : BitVec 32 := Scalar.muli arg1 c512_i32
  let c0_i32_27 : BitVec 32 := 0#32
  let v88 : BitVec 1 := Scalar.cmpi .sgt v86 c0_i32_27
  let v89 : BitVec 32 := Scalar.extui v88
  let c0_i32_28 : BitVec 32 := 0#32
  let v90 : BitVec 1 := Scalar.cmpi .slt v86 c0_i32_28
  let v91 : BitVec 32 := Scalar.extui v90
  let v92 : BitVec 32 := Scalar.subi v89 v91
  let c1024_i32 : BitVec 32 := 1024#32
  let c0_i32_29 : BitVec 32 := 0#32
  let v93 : BitVec 1 := Scalar.cmpi .sgt c1024_i32 c0_i32_29
  let v94 : BitVec 32 := Scalar.extui v93
  let c0_i32_30 : BitVec 32 := 0#32
  let v95 : BitVec 1 := Scalar.cmpi .slt c1024_i32 c0_i32_30
  let v96 : BitVec 32 := Scalar.extui v95
  let v97 : BitVec 32 := Scalar.subi v94 v96
  let v98 : BitVec 1 := Scalar.cmpi .ne v92 v97
  let v99 : BitVec 32 := Scalar.remsi v86 c1024_i32
  let c0_i32_31 : BitVec 32 := 0#32
  let v100 : BitVec 1 := Scalar.cmpi .ne v99 c0_i32_31
  let v101 : BitVec 1 := Scalar.andi v98 v100
  let v87 : BitVec 32 := Scalar.divsi v86 c1024_i32
  let c1_i32_32 : BitVec 32 := 1#32
  let v102 : BitVec 32 := Scalar.subi v87 c1_i32_32
  let v103 : BitVec 32 := Scalar.select v101 v102 v87
  let c1024_i32_78 : BitVec 32 := 1024#32
  let v261 : BitVec 32 := Scalar.muli v103 c1024_i32_78
  let c0_i32_46 : BitVec 32 := 0#32
  let c1024_i32_33 : BitVec 32 := 1024#32
  let v104 : BitVec 32 := Scalar.muli v103 c1024_i32_33
  let v105 : BitVec 32 := Scalar.subi v86 v104
  let c0_i32_35 : BitVec 32 := 0#32
  let v107 : BitVec 1 := Scalar.cmpi .sgt v105 c0_i32_35
  let v108 : BitVec 32 := Scalar.extui v107
  let c0_i32_36 : BitVec 32 := 0#32
  let v109 : BitVec 1 := Scalar.cmpi .slt v105 c0_i32_36
  let v110 : BitVec 32 := Scalar.extui v109
  let v111 : BitVec 32 := Scalar.subi v108 v110
  let c512_i32_34 : BitVec 32 := 512#32
  let c0_i32_37 : BitVec 32 := 0#32
  let v112 : BitVec 1 := Scalar.cmpi .sgt c512_i32_34 c0_i32_37
  let v113 : BitVec 32 := Scalar.extui v112
  let c0_i32_38 : BitVec 32 := 0#32
  let v114 : BitVec 1 := Scalar.cmpi .slt c512_i32_34 c0_i32_38
  let v115 : BitVec 32 := Scalar.extui v114
  let v116 : BitVec 32 := Scalar.subi v113 v115
  let v117 : BitVec 1 := Scalar.cmpi .ne v111 v116
  let v118 : BitVec 32 := Scalar.remsi v105 c512_i32_34
  let c0_i32_39 : BitVec 32 := 0#32
  let v119 : BitVec 1 := Scalar.cmpi .ne v118 c0_i32_39
  let v120 : BitVec 1 := Scalar.andi v117 v119
  let v106 : BitVec 32 := Scalar.divsi v105 c512_i32_34
  let c1_i32_40 : BitVec 32 := 1#32
  let v121 : BitVec 32 := Scalar.subi v106 c1_i32_40
  let v122 : BitVec 32 := Scalar.select v120 v121 v106
  let c1_i32_45 : BitVec 32 := 1#32
  let v130 : BitVec 32 := Scalar.addi v122 c1_i32_45
  let v131 : BitVec 32 := Scalar.subi v130 c0_i32_46
  let c1_i32_47 : BitVec 32 := 1#32
  let v133 : BitVec 32 := Scalar.divsi v131 c1_i32_47
  let v134 : BitVec 32 := Scalar.muli v133 c1_i32_47
  let v135 : BitVec 32 := Scalar.addi c0_i32_46 v134
  let c1_i32_49 : BitVec 32 := 1#32
  let arg8 : BitVec 32 := Scf.iv v135 c1_i32_49 k0_t4
  let c512_i32_79 : BitVec 32 := 512#32
  let v262 : BitVec 32 := Scalar.muli arg8 c512_i32_79
  let v263 : BitVec 32 := Scalar.addi v261 v262
  let v264 : BitVec 32 := v263
  let v373 : Index := Scalar.indexCast v264
  let c384 : Index := 384#32
  ![0, v373.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttentionIdeal.lean ====
variable {F : FTy → Type} [FloatOps F] [Named F]
def κ : String → Option EReal := fun
  | "log2_scale" => some (((Real.sqrt 32)⁻¹ * (Real.log 2)⁻¹ : ℝ) : EReal)
  | "mask" => some ⊥
  | _ => none
-- ==== AttentionReferenceIdeal.lean ====
abbrev S16x4096x256 : Shape := ⟨3, ![16, 4096, 256]⟩
abbrev S4x32 : Shape := ⟨2, ![4, 32]⟩
abbrev S64 : Shape := ⟨1, ![64]⟩
abbrev S16x4096x4x2x32 : Shape := ⟨5, ![16, 4096, 4, 2, 32]⟩
abbrev S16x4096x4x64 : Shape := ⟨4, ![16, 4096, 4, 64]⟩
abbrev S1x32 : Shape := ⟨2, ![1, 32]⟩
abbrev S32 : Shape := ⟨1, ![32]⟩
abbrev S_ : Shape := ⟨0, ![]⟩
abbrev S4096 : Shape := ⟨1, ![4096]⟩
abbrev S16x4x2x4096x4096 : Shape := ⟨5, ![16, 4, 2, 4096, 4096]⟩
abbrev S1x4096 : Shape := ⟨2, ![1, 4096]⟩
abbrev S4096x1 : Shape := ⟨2, ![4096, 1]⟩
abbrev S4096x4096 : Shape := ⟨2, ![4096, 4096]⟩
abbrev S16x4x2x4096 : Shape := ⟨4, ![16, 4, 2, 4096]⟩
abbrev S16x4x2x4096x1 : Shape := ⟨5, ![16, 4, 2, 4096, 1]⟩
abbrev S16x4x1x4096x4096 : Shape := ⟨5, ![16, 4, 1, 4096, 4096]⟩
abbrev S16x4x4096x4096 : Shape := ⟨4, ![16, 4, 4096, 4096]⟩
abbrev S16x4x64x4096 : Shape := ⟨4, ![16, 4, 64, 4096]⟩
abbrev S16x4096x4 : Shape := ⟨3, ![16, 4096, 4]⟩
abbrev S16x4096x4x1 : Shape := ⟨4, ![16, 4096, 4, 1]⟩
abbrev S1x1x1x64 : Shape := ⟨4, ![1, 1, 1, 64]⟩

abbrev nBuf : Space → Nat
  | .hbm => 126
  | .vmem => 0
  | .smem => 0
  | _ => 0

abbrev bufTy : (tb : Table) → Fin (tcTables nBuf tb) → BufTy
  | .hbm, ⟨0, _⟩ => ⟨S16x4096x256, .bf16⟩
  | .hbm, ⟨1, _⟩ => ⟨S16x4096x256, .bf16⟩
  | .hbm, ⟨2, _⟩ => ⟨S16x4096x256, .bf16⟩
  | .hbm, ⟨3, _⟩ => ⟨S4x32, .f32⟩
  | .hbm, ⟨4, _⟩ => ⟨S64, .f32⟩
  | .hbm, ⟨5, _⟩ => ⟨S16x4096x4x2x32, .bf16⟩
  | .hbm, ⟨6, _⟩ => ⟨S16x4096x4x2x32, .f32⟩
  | .hbm, ⟨7, _⟩ => ⟨S16x4096x4x2x32, .bf16⟩
  | .hbm, ⟨8, _⟩ => ⟨S16x4096x4x2x32, .f32⟩
  | .hbm, ⟨9, _⟩ => ⟨S16x4096x4x64, .bf16⟩
  | .hbm, ⟨10, _⟩ => ⟨S16x4096x4x64, .f32⟩
  | .hbm, ⟨11, _⟩ => ⟨S1x32, .f32⟩
  | .hbm, ⟨12, _⟩ => ⟨S32, .f32⟩
  | .hbm, ⟨13, _⟩ => ⟨S1x32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x32, .f32⟩
  | .hbm, ⟨20, _⟩ => ⟨S32, .f32⟩
  | .hbm, ⟨21, _⟩ => ⟨S1x32, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096, .i32⟩
  | .hbm, ⟨31, _⟩ => ⟨S16x4x2x4096x4096, .f32⟩
  | .hbm, ⟨32, _⟩ => ⟨S_, .f32⟩
  | .hbm, ⟨33, _⟩ => ⟨S_, .f32⟩
  | .hbm, ⟨34, _⟩ => ⟨S16x4x2x4096x4096, .f32⟩
  | .hbm, ⟨35, _⟩ => ⟨S16x4x2x4096x4096, .f32⟩
  | .hbm, ⟨36, _⟩ => ⟨S1x4096, .i32⟩
  | .hbm, ⟨37, _⟩ => ⟨S_, .i32⟩
  | .hbm, ⟨38, _⟩ => ⟨S_, .i32⟩
  | .hbm, ⟨39, _⟩ => ⟨S1x4096, .i32⟩
  | .hbm, ⟨40, _⟩ => ⟨S1x4096, .i32⟩
  | .hbm, ⟨41, _⟩ => ⟨S1x4096, .i32⟩
  | .hbm, ⟨42, _⟩ => ⟨S_, .i32⟩
  | .hbm, ⟨43, _⟩ => ⟨S1x4096, .i32⟩
  | .hbm, ⟨44, _⟩ => ⟨S1x4096, .i1⟩
  | .hbm, ⟨45, _⟩ => ⟨S1x4096, .i32⟩
  | .hbm, ⟨46, _⟩ => ⟨S1x4096, .i32⟩
  | .hbm, ⟨47, _⟩ => ⟨S_, .i32⟩
  | .hbm, ⟨48, _⟩ => ⟨S1x4096, .i32⟩
  | .hbm, ⟨49, _⟩ => ⟨S1x4096, .i1⟩
  | .hbm, ⟨50, _⟩ => ⟨S1x4096, .i1⟩
  | .hbm, ⟨51, _⟩ => ⟨S_, .i32⟩
  | .hbm, ⟨52, _⟩ => ⟨S1x4096, .i32⟩
  | .hbm, ⟨53, _⟩ => ⟨S1x4096, .i32⟩
  | .hbm, ⟨54, _⟩ => ⟨S1x4096, .i32⟩
  | .hbm, ⟨55, _⟩ => ⟨S4096x1, .i32⟩
  | .hbm, ⟨56, _⟩ => ⟨S_, .i32⟩
  | .hbm, ⟨57, _⟩ => ⟨S_, .i32⟩
  | .hbm, ⟨58, _⟩ => ⟨S4096x1, .i32⟩
  | .hbm, ⟨59, _⟩ => ⟨S4096x1, .i32⟩
  | .hbm, ⟨60, _⟩ => ⟨S4096x1, .i32⟩
  | .hbm, ⟨61, _⟩ => ⟨S_, .i32⟩
  | .hbm, ⟨62, _⟩ => ⟨S4096x1, .i32⟩
  | .hbm, ⟨63, _⟩ => ⟨S4096x1, .i1⟩
  | .hbm, ⟨64, _⟩ => ⟨S4096x1, .i32⟩
  | .hbm, ⟨65, _⟩ => ⟨S4096x1, .i32⟩
  | .hbm, ⟨66, _⟩ => ⟨S_, .i32⟩
  | .hbm, ⟨67, _⟩ => ⟨S4096x1, .i32⟩
  | .hbm, ⟨68, _⟩ => ⟨S4096x1, .i1⟩
  | .hbm, ⟨69, _⟩ => ⟨S4096x1, .i1⟩
  | .hbm, ⟨70, _⟩ => ⟨S_, .i32⟩
  | .hbm, ⟨71, _⟩ => ⟨S4096x1, .i32⟩
  | .hbm, ⟨72, _⟩ => ⟨S4096x1, .i32⟩
  | .hbm, ⟨73, _⟩ => ⟨S4096x1, .i32⟩
  | .hbm, ⟨74, _⟩ => ⟨S4096x4096, .i32⟩
  | .hbm, ⟨75, _⟩ => ⟨S4096x4096, .i32⟩
  | .hbm, ⟨76, _⟩ => ⟨S4096x4096, .i1⟩
  | .hbm, ⟨77, _⟩ => ⟨S_, .f32⟩
  | .hbm, ⟨78, _⟩ => ⟨S_, .f32⟩
  | .hbm, ⟨79, _⟩ => ⟨S16x4x2x4096x4096, .i1⟩
  | .hbm, ⟨80, _⟩ => ⟨S16x4x2x4096x4096, .f32⟩
  | .hbm, ⟨81, _⟩ => ⟨S16x4x2x4096x4096, .f32⟩
  | .hbm, ⟨82, _⟩ => ⟨S_, .f32⟩
  | .hbm, ⟨83, _⟩ => ⟨S16x4x2x4096, .f32⟩
  | .hbm, ⟨84, _⟩ => ⟨S_, .f32⟩
  | .hbm, ⟨85, _⟩ => ⟨S16x4x2x4096, .f32⟩
  | .hbm, ⟨86, _⟩ => ⟨S16x4x2x4096, .f32⟩
  | .hbm, ⟨87, _⟩ => ⟨S16x4x2x4096x1, .f32⟩
  | .hbm, ⟨88, _⟩ => ⟨S16x4x2x4096x4096, .f32⟩
  | .hbm, ⟨89, _⟩ => ⟨S16x4x2x4096x4096, .f32⟩
  | .hbm, ⟨90, _⟩ => ⟨S16x4x2x4096x4096, .f32⟩
  | .hbm, ⟨91, _⟩ => ⟨S_, .f32⟩
  | .hbm, ⟨92, _⟩ => ⟨S16x4x2x4096, .f32⟩
  | .hbm, ⟨93, _⟩ => ⟨S16x4x2x4096x1, .f32⟩
  | .hbm, ⟨94, _⟩ => ⟨S16x4x2x4096x4096, .f32⟩
  | .hbm, ⟨95, _⟩ => ⟨S16x4x2x4096x4096, .f32⟩
  | .hbm, ⟨96, _⟩ => ⟨S16x4x1x4096x4096, .f32⟩
  | .hbm, ⟨97, _⟩ => ⟨S16x4x4096x4096, .f32⟩
  | .hbm, ⟨98, _⟩ => ⟨S16x4x1x4096x4096, .f32⟩
  | .hbm, ⟨99, _⟩ => ⟨S16x4x4096x4096, .f32⟩
  | .hbm, ⟨100, _⟩ => ⟨S16x4x4096x4096, .f32⟩
  | .hbm, ⟨101, _⟩ => ⟨S16x4x4096x4096, .f32⟩
  | .hbm, ⟨102, _⟩ => ⟨S16x4x4096x4096, .f32⟩
  | .hbm, ⟨103, _⟩ => ⟨S16x4x64x4096, .f32⟩
  | .hbm, ⟨104, _⟩ => ⟨S16x4096x4x64, .f32⟩
  | .hbm, ⟨105, _⟩ => ⟨S16x4096x4x64, .f32⟩
  | .hbm, ⟨106, _⟩ => ⟨S_, .f32⟩
  | .hbm, ⟨107, _⟩ => ⟨S16x4096x4, .f32⟩
  | .hbm, ⟨108, _⟩ => ⟨S16x4096x4x1, .f32⟩
  | .hbm, ⟨109, _⟩ => ⟨S_, .f32⟩
  | .hbm, ⟨110, _⟩ => ⟨S16x4096x4x1, .f32⟩
  | .hbm, ⟨111, _⟩ => ⟨S16x4096x4x1, .f32⟩
  | .hbm, ⟨112, _⟩ => ⟨S_, .f32⟩
  | .hbm, ⟨113, _⟩ => ⟨S16x4096x4x1, .f32⟩
  | .hbm, ⟨114, _⟩ => ⟨S16x4096x4x1, .f32⟩
  | .hbm, ⟨115, _⟩ => ⟨S16x4096x4x1, .f32⟩
  | .hbm, ⟨116, _⟩ => ⟨S16x4096x4x64, .f32⟩
  | .hbm, ⟨117, _⟩ => ⟨S16x4096x4x64, .f32⟩
  | .hbm, ⟨118, _⟩ => ⟨S1x1x1x64, .f32⟩
  | .hbm, ⟨119, _⟩ => ⟨S16x4096x4x64, .f32⟩
  | .hbm, ⟨120, _⟩ => ⟨S16x4096x4x64, .f32⟩
  | .hbm, ⟨121, _⟩ => ⟨S_, .f32⟩
  | .hbm, ⟨122, _⟩ => ⟨S16x4096x4x64, .f32⟩
  | .hbm, ⟨123, _⟩ => ⟨S16x4096x4x64, .f32⟩
  | .hbm, ⟨124, _⟩ => ⟨S16x4096x256, .f32⟩
  | .hbm, ⟨125, _⟩ => ⟨S16x4096x256, .bf16⟩
  | _, _ => ⟨S16x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_v5 : Ref sig .tc := ⟨.hbm, 43, rfl⟩
abbrev main_call0_v6 : Ref sig .tc := ⟨.hbm, 44, rfl⟩
abbrev main_call0_v7 : Ref sig .tc := ⟨.hbm, 45, rfl⟩
abbrev main_call0_v8 : Ref sig .tc := ⟨.hbm, 46, rfl⟩
abbrev main_call0_c : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_0 : Ref sig .tc := ⟨.hbm, 51, rfl⟩
abbrev main_call0_v12 : Ref sig .tc := ⟨.hbm, 52, rfl⟩
abbrev main_call0_v13 : Ref sig .tc := ⟨.hbm, 53, rfl⟩
abbrev main_v28 : Ref sig .tc := ⟨.hbm, 54, rfl⟩
abbrev main_v29 : Ref sig .tc := ⟨.hbm, 55, rfl⟩
abbrev main_c_3 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_c : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_0 : Ref sig .tc := ⟨.hbm, 70, rfl⟩
abbrev main_call1_v12 : Ref sig .tc := ⟨.hbm, 71, rfl⟩
abbrev main_call1_v13 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_4 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v34 : Ref sig .tc := ⟨.hbm, 81, rfl⟩
abbrev main_cst_5 : Ref sig .tc := ⟨.hbm, 82, rfl⟩
abbrev main_v35 : Ref sig .tc := ⟨.hbm, 83, rfl⟩
abbrev main_cst_6 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_7 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_cst_8 : Ref sig .tc := ⟨.hbm, 106, rfl⟩
abbrev main_v56 : Ref sig .tc := ⟨.hbm, 107, rfl⟩
abbrev main_v57 : Ref sig .tc := ⟨.hbm, 108, rfl⟩
abbrev main_cst_9 : Ref sig .tc := ⟨.hbm, 109, rfl⟩
abbrev main_v58 : Ref sig .tc := ⟨.hbm, 110, rfl⟩
abbrev main_v59 : Ref sig .tc := ⟨.hbm, 111, rfl⟩
abbrev main_cst_10 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_cst_11 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩

abbrev nD : Nat := 1
abbrev τ : Topo := Topo.v7x

variable {F : FTy → Type} [FloatOps F]
-- ==== AttnPrep.lean ====
abbrev S16x4096x768 : Shape := ⟨3, ![16, 4096, 768]⟩
abbrev S32 : Shape := ⟨1, ![32]⟩
abbrev S256x256 : Shape := ⟨2, ![256, 256]⟩
abbrev S4096 : Shape := ⟨1, ![4096]⟩
abbrev S4 : Shape := ⟨1, ![4]⟩
abbrev S_ : Shape := ⟨0, ![]⟩
abbrev S4096x1 : Shape := ⟨2, ![4096, 1]⟩
abbrev S1x4 : Shape := ⟨2, ![1, 4]⟩
abbrev S4096x4 : Shape := ⟨2, ![4096, 4]⟩
abbrev S4096x24 : Shape := ⟨2, ![4096, 24]⟩
abbrev S4096x32 : Shape := ⟨2, ![4096, 32]⟩
abbrev S1x4096x1x32 : Shape := ⟨4, ![1, 4096, 1, 32]⟩
abbrev S1x4096x8x32 : Shape := ⟨4, ![1, 4096, 8, 32]⟩
abbrev S4096x256 : Shape := ⟨2, ![4096, 256]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S16x4096x256 : Shape := ⟨3, ![16, 4096, 256]⟩
abbrev S16x256x4096 : Shape := ⟨3, ![16, 256, 4096]⟩
abbrev S16x4096x512 : Shape := ⟨3, ![16, 4096, 512]⟩
abbrev S1x512x768 : Shape := ⟨3, ![1, 512, 768]⟩
abbrev S512x256 : Shape := ⟨2, ![512, 256]⟩
abbrev S1x512x256 : Shape := ⟨3, ![1, 512, 256]⟩
abbrev S1x256x512 : Shape := ⟨3, ![1, 256, 512]⟩
abbrev S1x512x512 : Shape := ⟨3, ![1, 512, 512]⟩
abbrev S512x768 : Shape := ⟨2, ![512, 768]⟩
abbrev S512x64 : Shape := ⟨2, ![512, 64]⟩
abbrev S512x512 : Shape := ⟨2, ![512, 512]⟩
abbrev S256x512 : Shape := ⟨2, ![256, 512]⟩

abbrev nBuf : Space → Nat
  | .hbm => 54
  | .vmem => 20
  | .smem => 0
  | _ => 0

abbrev bufTy : (tb : Table) → Fin (tcTables nBuf tb) → BufTy
  | .hbm, ⟨0, _⟩ => ⟨S16x4096x768, .f32⟩
  | .hbm, ⟨1, _⟩ => ⟨S32, .f32⟩
  | .hbm, ⟨2, _⟩ => ⟨S32, .f32⟩
  | .hbm, ⟨3, _⟩ => ⟨S256x256, .bf16⟩
  | .hbm, ⟨4, _⟩ => ⟨S4096, .i32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4096, .f32⟩
  | .hbm, ⟨14, _⟩ => ⟨S4096x1, .f32⟩
  | .hbm, ⟨15, _⟩ => ⟨S1x4, .f32⟩
  | .hbm, ⟨16, _⟩ => ⟨S4096x4, .f32⟩
  | .hbm, ⟨17, _⟩ => ⟨S4096x4, .f32⟩
  | .hbm, ⟨18, _⟩ => ⟨S4096x4, .f32⟩
  | .hbm, ⟨19, _⟩ => ⟨S4096x4, .f32⟩
  | .hbm, ⟨20, _⟩ => ⟨S4096x4, .f32⟩
  | .hbm, ⟨21, _⟩ => ⟨S_, .f32⟩
  | .hbm, ⟨22, _⟩ => ⟨S4096x24, .f32⟩
  | .hbm, ⟨23, _⟩ => ⟨S_, .f32⟩
  | .hbm, ⟨24, _⟩ => ⟨S4096x24, .f32⟩
  | .hbm, ⟨25, _⟩ => ⟨S4096x32, .f32⟩
  | .hbm, ⟨26, _⟩ => ⟨S4096x4, .f32⟩
  | .hbm, ⟨27, _⟩ => ⟨S4096x32, .f32⟩
  | .hbm, ⟨28, _⟩ => ⟨S1x4096x1x32, .f32⟩
  | .hbm, ⟨29, _⟩ => ⟨S1x4096x8x32, .f32⟩
  | .hbm, ⟨30, _⟩ => ⟨S4096x256, .f32⟩
  | .hbm, ⟨31, _⟩ => ⟨S1x4096x1x32, .f32⟩
  | .hbm, ⟨32, _⟩ => ⟨S1x4096x8x32, .f32⟩
  | .hbm, ⟨33, _⟩ => ⟨S4096x256, .f32⟩
  | .hbm, ⟨34, _⟩ => ⟨S1x32, .f32⟩
  | .hbm, ⟨35, _⟩ => ⟨S8x32, .f32⟩
  | .hbm, ⟨36, _⟩ => ⟨S256, .f32⟩
  | .hbm, ⟨37, _⟩ => ⟨S1x256, .f32⟩
  | .hbm, ⟨38, _⟩ => ⟨S1x32, .f32⟩
  | .hbm, ⟨39, _⟩ => ⟨S8x32, .f32⟩
  | .hbm, ⟨40, _⟩ => ⟨S256, .f32⟩
  | .hbm, ⟨41, _⟩ => ⟨S1x256, .f32⟩
  | .hbm, ⟨42, _⟩ => ⟨S256x256, .i32⟩
  | .hbm, ⟨43, _⟩ => ⟨S256x256, .i32⟩
  | .hbm, ⟨44, _⟩ => ⟨S_, .i32⟩
  | .hbm, ⟨45, _⟩ => ⟨S256x256, .i32⟩
  | .hbm, ⟨46, _⟩ => ⟨S256x256, .i32⟩
  | .hbm, ⟨47, _⟩ => ⟨S256x256, .i1⟩
  | .hbm, ⟨48, _⟩ => ⟨S256x256, .bf16⟩
  | .hbm, ⟨49, _⟩ => ⟨S16x4096x256, .bf16⟩
  | .hbm, ⟨50, _⟩ => ⟨S16x256x4096, .bf16⟩
  | .hbm, ⟨51, _⟩ => ⟨S16x4096x512, .bf16⟩
  | .hbm, ⟨52, _⟩ => ⟨S16x4096x256, .f32⟩
  | .hbm, ⟨53, _⟩ => ⟨S16x4096x256, .f32⟩
  | .local _ .vmem, ⟨0, _⟩ => ⟨S1x512x768, .f32⟩
  | .local _ .vmem, ⟨1, _⟩ => ⟨S1x512x768, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S256x256, .bf16⟩
  | .local _ .vmem, ⟨9, _⟩ => ⟨S256x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x256x512, .bf16⟩
  | .local _ .vmem, ⟨13, _⟩ => ⟨S1x256x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x256, .f32⟩
  | .local _ .vmem, ⟨17, _⟩ => ⟨S1x512x256, .f32⟩
  | .local _ .vmem, ⟨18, _⟩ => ⟨S1x512x256, .f32⟩
  | .local _ .vmem, ⟨19, _⟩ => ⟨S1x512x256, .f32⟩
  | _, _ => ⟨S16x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40_0 : Ref sig .tc := ⟨.hbm, 49, rfl⟩
abbrev main_v40_1 : Ref sig .tc := ⟨.hbm, 50, rfl⟩
abbrev main_v40_2 : Ref sig .tc := ⟨.hbm, 51, rfl⟩
abbrev main_v40_3 : Ref sig .tc := ⟨.hbm, 52, rfl⟩
abbrev main_v40_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== AttnPrepReferenceIdeal.lean ====
abbrev S16x4096x768 : Shape := ⟨3, ![16, 4096, 768]⟩
abbrev S32 : Shape := ⟨1, ![32]⟩
abbrev S4096 : Shape := ⟨1, ![4096]⟩
abbrev S16x4096x256 : Shape := ⟨3, ![16, 4096, 256]⟩
abbrev S16x4096x4x2x32 : Shape := ⟨5, ![16, 4096, 4, 2, 32]⟩
abbrev S_ : Shape := ⟨0, ![]⟩
abbrev S16x4096x4x2 : Shape := ⟨4, ![16, 4096, 4, 2]⟩
abbrev S16x4096x4x2x1 : Shape := ⟨5, ![16, 4096, 4, 2, 1]⟩
abbrev S1x1x1x1x32 : Shape := ⟨5, ![1, 1, 1, 1, 32]⟩
abbrev S4 : Shape := ⟨1, ![4]⟩
abbrev S4096x1 : Shape := ⟨2, ![4096, 1]⟩
abbrev S1x4 : Shape := ⟨2, ![1, 4]⟩
abbrev S4096x4 : Shape := ⟨2, ![4096, 4]⟩
abbrev S1x4096x1x1x4 : Shape := ⟨5, ![1, 4096, 1, 1, 4]⟩
abbrev S16x4096x4x2x8 : Shape := ⟨5, ![16, 4096, 4, 2, 8]⟩
abbrev S16x4096x4x2x4 : Shape := ⟨5, ![16, 4096, 4, 2, 4]⟩
abbrev S16x4096x4x2x24 : Shape := ⟨5, ![16, 4096, 4, 2, 24]⟩

abbrev nBuf : Space → Nat
  | .hbm => 59
  | .vmem => 0
  | .smem => 0
  | _ => 0

abbrev bufTy : (tb : Table) → Fin (tcTables nBuf tb) → BufTy
  | .hbm, ⟨0, _⟩ => ⟨S16x4096x768, .f32⟩
  | .hbm, ⟨1, _⟩ => ⟨S32, .f32⟩
  | .hbm, ⟨2, _⟩ => ⟨S32, .f32⟩
  | .hbm, ⟨3, _⟩ => ⟨S4096, .i32⟩
  | .hbm, ⟨4, _⟩ => ⟨S16x4096x256, .f32⟩
  | .hbm, ⟨5, _⟩ => ⟨S16x4096x256, .f32⟩
  | .hbm, ⟨6, _⟩ => ⟨S16x4096x256, .f32⟩
  | .hbm, ⟨7, _⟩ => ⟨S16x4096x4x2x32, .f32⟩
  | .hbm, ⟨8, _⟩ => ⟨S16x4096x4x2x32, .f32⟩
  | .hbm, ⟨9, _⟩ => ⟨S_, .f32⟩
  | .hbm, ⟨10, _⟩ => ⟨S16x4096x4x2, .f32⟩
  | .hbm, ⟨11, _⟩ => ⟨S16x4096x4x2x1, .f32⟩
  | .hbm, ⟨12, _⟩ => ⟨S_, .f32⟩
  | .hbm, ⟨13, _⟩ => ⟨S16x4096x4x2x1, .f32⟩
  | .hbm, ⟨14, _⟩ => ⟨S16x4096x4x2x1, .f32⟩
  | .hbm, ⟨15, _⟩ => ⟨S_, .f32⟩
  | .hbm, ⟨16, _⟩ => ⟨S16x4096x4x2x1, .f32⟩
  | .hbm, ⟨17, _⟩ => ⟨S16x4096x4x2x1, .f32⟩
  | .hbm, ⟨18, _⟩ => ⟨S16x4096x4x2x1, .f32⟩
  | .hbm, ⟨19, _⟩ => ⟨S16x4096x4x2x32, .f32⟩
  | .hbm, ⟨20, _⟩ => ⟨S16x4096x4x2x32, .f32⟩
  | .hbm, ⟨21, _⟩ => ⟨S1x1x1x1x32, .f32⟩
  | .hbm, ⟨22, _⟩ => ⟨S16x4096x4x2x32, .f32⟩
  | .hbm, ⟨23, _⟩ => ⟨S16x4096x4x2x32, .f32⟩
  | .hbm, ⟨24, _⟩ => ⟨S4, .f32⟩
  | .hbm, ⟨25, _⟩ => ⟨S_, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4096, .f32⟩
  | .hbm, ⟨33, _⟩ => ⟨S4096x1, .f32⟩
  | .hbm, ⟨34, _⟩ => ⟨S1x4, .f32⟩
  | .hbm, ⟨35, _⟩ => ⟨S4096x4, .f32⟩
  | .hbm, ⟨36, _⟩ => ⟨S4096x4, .f32⟩
  | .hbm, ⟨37, _⟩ => ⟨S4096x4, .f32⟩
  | .hbm, ⟨38, _⟩ => ⟨S4096x4, .f32⟩
  | .hbm, ⟨39, _⟩ => ⟨S1x4096x1x1x4, .f32⟩
  | .hbm, ⟨40, _⟩ => ⟨S4096x4, .f32⟩
  | .hbm, ⟨41, _⟩ => ⟨S1x4096x1x1x4, .f32⟩
  | .hbm, ⟨42, _⟩ => ⟨S16x4096x4x2x8, .f32⟩
  | .hbm, ⟨43, _⟩ => ⟨S16x4096x4x2x4, .f32⟩
  | .hbm, ⟨44, _⟩ => ⟨S16x4096x4x2x4, .f32⟩
  | .hbm, ⟨45, _⟩ => ⟨S16x4096x4x2x4, .f32⟩
  | .hbm, ⟨46, _⟩ => ⟨S16x4096x4x2x4, .f32⟩
  | .hbm, ⟨47, _⟩ => ⟨S16x4096x4x2x4, .f32⟩
  | .hbm, ⟨48, _⟩ => ⟨S16x4096x4x2x4, .f32⟩
  | .hbm, ⟨49, _⟩ => ⟨S16x4096x4x2x4, .f32⟩
  | .hbm, ⟨50, _⟩ => ⟨S16x4096x4x2x4, .f32⟩
  | .hbm, ⟨51, _⟩ => ⟨S16x4096x4x2x4, .f32⟩
  | .hbm, ⟨52, _⟩ => ⟨S16x4096x4x2x4, .f32⟩
  | .hbm, ⟨53, _⟩ => ⟨S16x4096x4x2x4, .f32⟩
  | .hbm, ⟨54, _⟩ => ⟨S16x4096x4x2x4, .f32⟩
  | .hbm, ⟨55, _⟩ => ⟨S16x4096x4x2x8, .f32⟩
  | .hbm, ⟨56, _⟩ => ⟨S16x4096x4x2x24, .f32⟩
  | .hbm, ⟨57, _⟩ => ⟨S16x4096x4x2x32, .f32⟩
  | .hbm, ⟨58, _⟩ => ⟨S16x4096x256, .f32⟩
  | _, _ => ⟨S16x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩

abbrev nD : Nat := 1
abbrev τ : Topo := Topo.v7x

variable {F : FTy → Type} [FloatOps F]
-- ==== Proof.Route.lean ====
module

public import Idealize.ShloMosaic.Lib.Pointwise
public import Idealize.ShloMosaic.Lib.SortFacts

@[expose] public section

noncomputable section

namespace Cert.Route

open Idealize.ShloMosaic

/-- `a` is the first place where `f` is greatest. -/
def First {n : ℕ} (f : Fin n → ℝ) (a : Fin n) : Prop := (∀ j, f j ≤ f a) ∧ ∀ j, j < a → f j < f a

/-- `c` is the first place, `b` left out, where `f` is greatest. -/
def Second {n : ℕ} (f : Fin n → ℝ) (b c : Fin n) : Prop :=
  c ≠ b ∧ (∀ j, j ≠ b → f j ≤ f c) ∧ ∀ j, j ≠ b → j < c → f j < f c

/-- The order a stable sort, greatest first, leaves: greater values first, equal ones by place. -/
def Ahead {n : ℕ} (f : Fin n → ℝ) (b c : Fin n) : Prop := f c < f b ∨ (f c = f b ∧ b < c)

theorem Ahead.trans {n : ℕ} {f : Fin n → ℝ} {a b c : Fin n} (h : Ahead f a b) (k : Ahead f b c) : Ahead f a c := by
  rcases h with h | ⟨h, h'⟩ <;> rcases k with k | ⟨k, k'⟩
  · exact .inl (k.trans h)
  · exact .inl (k ▸ h)
  · exact .inl (h ▸ k)
  · exact .inr ⟨k.trans h, h'.trans k'⟩

theorem ahead_insert {n : ℕ} (f : Fin n → ℝ) (a : Fin n) (l : List (Fin n)) (ha : ∀ b ∈ l, a < b) (hl : l.Pairwise (Ahead f)) :
    (insertBefore (fun k k' => decide (f k' < f k)) a l).Pairwise (Ahead f) := by
  induction l with
  | nil => exact List.pairwise_singleton _ _
  | cons b l ih =>
    rw [List.pairwise_cons] at hl
    unfold insertBefore
    split
    · rename_i h
      rw [List.pairwise_cons]
      refine ⟨fun c hc => ?_, ih (fun c hc => ha c (List.mem_cons_of_mem _ hc)) hl.2⟩
      rcases List.mem_cons.1 ((perm_insertBefore _ a l).mem_iff.1 hc) with rfl | hc
      · exact .inl (of_decide_eq_true h)
      · exact hl.1 c hc
    · rename_i h
      have hab : Ahead f a b := by
        rcases lt_or_eq_of_le (not_lt.1 (fun k => h (decide_eq_true k))) with h | h
        · exact .inl h
        · exact .inr ⟨h, ha b List.mem_cons_self⟩
      rw [List.pairwise_cons, List.pairwise_cons]
      refine ⟨fun c hc => ?_, hl⟩
      rcases List.mem_cons.1 hc with rfl | hc
      · exact hab
      · exact hab.trans (hl.1 c hc)

theorem ahead_sort {n : ℕ} (f : Fin n → ℝ) (l : List (Fin n)) (hl : l.Pairwise (· < ·)) :
    (stableSort (fun k k' => decide (f k' < f k)) l).Pairwise (Ahead f) := by
  induction l with
  | nil => exact List.Pairwise.nil
  | cons a l ih =>
    rw [List.pairwise_cons] at hl
    exact ahead_insert f a _ (fun b hb => hl.1 b ((perm_stableSort _ l).mem_iff.1 hb)) (ih hl.2)

/-- The place whose value a stable sort, greatest first, puts at `k`. -/
def rank {n : ℕ} (f : Fin n → ℝ) : Fin n → Fin n := sortedFrom fun k k' => decide (f k' < f k)

theorem rank_ahead {n : ℕ} (f : Fin n → ℝ) {i j : Fin n} (hij : i < j) : Ahead f (rank f i) (rank f j) := by
  have hp : ∀ a b : Fin (sortPositions n fun k k' => decide (f k' < f k)).length, a < b →
      Ahead f ((sortPositions n _).get a) ((sortPositions n _).get b) :=
    List.pairwise_iff_get.mp (ahead_sort f (List.finRange n) (List.pairwise_lt_finRange n))
  unfold rank sortedFrom
  exact hp _ _ (by simp only [Fin.lt_def, Fin.val_cast]; exact hij)

/-- The first of the sorted places is the first greatest one. -/
theorem first_rank (f : Fin 4 → ℝ) : First f (rank f 0) := by
  have h : ∀ j, j = rank f 0 ∨ Ahead f (rank f 0) j := fun j => by
    obtain ⟨k, rfl⟩ := sortedFrom_surjective (fun k k' => decide (f k' < f k)) j
    rcases eq_or_ne k 0 with rfl | hk
    · exact .inl rfl
    · exact .inr (rank_ahead f (Fin.pos_iff_ne_zero.2 hk))
  refine ⟨fun j => ?_, fun j hj => ?_⟩
  · rcases h j with h | h | h
    exacts [h ▸ le_rfl, h.le, h.1.le]
  · rcases h j with h | h | h
    exacts [absurd h hj.ne, h, absurd h.2 hj.not_gt]

/-- The second of them is the first greatest one of the others. -/
theorem second_rank (f : Fin 4 → ℝ) : Second f (rank f 0) (rank f 1) := by
  have h : ∀ j, j ≠ rank f 0 → j = rank f 1 ∨ Ahead f (rank f 1) j := fun j hj => by
    obtain ⟨k, rfl⟩ := sortedFrom_surjective (fun k k' => decide (f k' < f k)) j
    have hk : k ≠ 0 := fun e => hj (e ▸ rfl)
    rcases eq_or_ne k 1 with rfl | hk'
    · exact .inl rfl
    · exact .inr (rank_ahead f ((by decide : ∀ k : Fin 4, k ≠ 0 → k ≠ 1 → 1 < k) k hk hk'))
  refine ⟨fun e => absurd (sortedFrom_injective _ e) (by decide), fun j hj => ?_, fun j hj hjc => ?_⟩
  · rcases h j hj with h | h | h
    exacts [h ▸ le_rfl, h.le, h.1.le]
  · rcases h j hj with h | h | h
    exacts [absurd h hjc.ne, h, absurd h.2 hjc.not_gt]

/-! ## Folds and sums over the lanes -/

theorem foldMax_eq {n : ℕ} (f : Fin n → EReal) {M : EReal} (h : ∀ k, f k ≤ M) (k : Fin n) (hk : f k = M) :
    Finset.univ.fold max ⊥ f = M :=
  le_antisymm (Finset.fold_max_le M |>.2 ⟨bot_le, fun k _ => h k⟩) (Finset.le_fold_max M |>.2 (.inr ⟨k, Finset.mem_univ _, hk.ge⟩))

theorem foldMin_eq {n : ℕ} (f : Fin n → EReal) {M : EReal} (h : ∀ k, M ≤ f k) (k : Fin n) (hk : f k = M) :
    Finset.univ.fold min ⊤ f = M :=
  le_antisymm (Finset.fold_min_le M |>.2 (.inr ⟨k, Finset.mem_univ _, hk.le⟩)) (Finset.le_fold_min M |>.2 ⟨le_top, fun k _ => h k⟩)

/-- Lane `k`'s number. -/
def lane (k : Fin 128) : EReal := ((k.val : ℝ) : EReal)

theorem lane_lt {a b : Fin 128} : lane a < lane b ↔ a.val < b.val := by simp [lane]
theorem lane_inj {a b : Fin 128} : lane a = lane b ↔ a = b := by simp [lane, Fin.ext_iff]

/-- The smallest lane number among the lanes of `S`, `128` standing for the others. -/
theorem foldMin_lane (S : Fin 128 → Prop) [DecidablePred S] (a : Fin 128) (ha : S a) (h : ∀ k, S k → a ≤ k) :
    (Finset.univ.fold min ⊤ fun k => if S k then lane k else ((128 : ℝ) : EReal)) = lane a := by
  refine foldMin_eq _ (fun k => ?_) a (if_pos ha)
  have h128 : ∀ k : Fin 128, ((k.val : ℝ)) ≤ 128 := fun k => by exact_mod_cast k.isLt.le
  split
  · rename_i hk; simpa [lane] using h k hk
  · exact EReal.coe_le_coe_iff.2 (h128 a)

/-- A sum over the lanes of what is zero off the four from `o` on. -/
theorem sum_four (o : ℕ) (ho : o + 4 ≤ 128) (f : Fin 128 → EReal) (hz : ∀ k : Fin 128, ¬(o ≤ k.val ∧ k.val < o + 4) → f k = 0) :
    ∑ k, f k = ∑ j : Fin 4, f ⟨o + j.val, by omega⟩ := by
  have hinj : Function.Injective fun j : Fin 4 => (⟨o + j.val, by omega⟩ : Fin 128) := fun i j h => by
    have := congrArg Fin.val h; simp only at this; exact Fin.ext (by omega)
  refine Eq.trans ?_ (Finset.sum_map Finset.univ ⟨_, hinj⟩ f)
  refine (Finset.sum_subset (Finset.subset_univ _) fun k _ hk => hz k fun ⟨h1, h2⟩ => hk ?_).symm
  exact Finset.mem_map.2 ⟨⟨k.val - o, by omega⟩, Finset.mem_univ _, Fin.ext (by simp; omega)⟩

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem div_real (x : ℝ) {y : ℝ} (hy : y ≠ 0) : Ideal.div (x : EReal) (y : EReal) = ((x / y : ℝ) : EReal) := by
  rw [Ideal.div_coe hy, ← EReal.coe_mul, mul_one_div]

/-- A nonnegative real factor passes into a sum. -/
theorem mul_sum_real {ι : Type*} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.2 hc) (EReal.coe_ne_top _)]

/-! ## The routing weights -/

/-- The share of the greatest of four logits `f` (place `a`) in their softmax. -/
def share (f : Fin 4 → ℝ) (a : Fin 4) : ℝ := (∑ j, Real.exp (f j - f a))⁻¹

/-- The softmax of four numbers, their greatest at `b`. -/
def soft (x : Fin 4 → ℝ) (b j : Fin 4) : ℝ := Real.exp (x j - x b) / ∑ i, Real.exp (x i - x b)

/-- The weight of place `q` in the chosen group: of the two first places `b` and `c` their part of the two shares, of the
    others none; times the group's weight. -/
def weight (f x : Fin 4 → ℝ) (a b c q : Fin 4) : ℝ :=
  if q = b then soft x b b / (soft x b b + soft x b c) * share f a
  else if q = c then soft x b c / (soft x b b + soft x b c) * share f a else 0

theorem expsum_pos (x : Fin 4 → ℝ) (b : Fin 4) : 0 < ∑ i, Real.exp (x i - x b) :=
  Finset.sum_pos (fun _ _ => Real.exp_pos _) Finset.univ_nonempty

theorem share_pos (f : Fin 4 → ℝ) (a : Fin 4) : 0 < share f a := inv_pos.2 (expsum_pos f a)

theorem soft_pos (x : Fin 4 → ℝ) (b j : Fin 4) : 0 < soft x b j := div_pos (Real.exp_pos _) (expsum_pos x b)

theorem soft_le (x : Fin 4 → ℝ) (b : Fin 4) {i j : Fin 4} : soft x b i ≤ soft x b j ↔ x i ≤ x j := by
  unfold soft
  rw [div_le_div_iff_of_pos_right (expsum_pos x b), Real.exp_le_exp, sub_le_sub_iff_right]

theorem soft_lt (x : Fin 4 → ℝ) (b : Fin 4) {i j : Fin 4} : soft x b i < soft x b j ↔ x i < x j := by
  rw [← not_le, soft_le, not_le]

theorem weight_nonneg (f x : Fin 4 → ℝ) (a b c q : Fin 4) : 0 ≤ weight f x a b c q := by
  have h1 := (soft_pos x b b); have h2 := (soft_pos x b c); have h3 := (share_pos f a)
  unfold weight; split_ifs <;> positivity

end Cert.Route
-- ==== Proof.KernelRoute.lean ====
/- What the kernel's routing computes: for one row of logits, all of them real, the gate of each lane. Every step is a
   reduction along the 128 lanes; the lemmas follow the body from the logits to the gates. -/
module

public import proofs.«01_k».proof.Proof.Gen.KernelIdeal.Value
public import proofs.«01_k».proof.Proof.Route
public import Idealize.ShloMosaic.Lib.Pointwise

@[expose] public section

set_option maxRecDepth 100000

noncomputable section

namespace Cert.KernelIdeal.Block

open Cert.KernelIdeal Cert.KernelIdeal.Gen Idealize.ShloMosaic Cert.Route

/-! ## The constants -/

theorem mask_eq : (Named.named κ "mask" 0xF149F2CA#32 : Ideal .f32) = ⊥ :=
  IdealRules.named_const.ideal_named_scalar _ _ _ _ rfl

theorem lit_bot : Ideal.ofBits .f32 0xFF800000#32 = ⊥ := by simp [Ideal.ofBits, Ideal.ieee]
theorem lit_top : Ideal.ofBits .f32 0x7F800000#32 = ⊤ := by simp [Ideal.ofBits, Ideal.ieee]
theorem lit_four : Ideal.ofBits .f32 0x40800000#32 = ((4 : ℝ) : EReal) := by
  simp [Ideal.ofBits, Ideal.ieee, -EReal.coe_mul]; norm_num
theorem lit_128 : Ideal.ofBits .f32 0x43000000#32 = ((128 : ℝ) : EReal) := by
  simp [Ideal.ofBits, Ideal.ieee, -EReal.coe_mul]; norm_num
theorem lit_neg : Ideal.ofBits .f32 0xBF800000#32 = ((-1 : ℝ) : EReal) := by
  simp [Ideal.ofBits, Ideal.ieee, -EReal.coe_mul]; norm_num

theorem lane_eq (i : Fin 512) (k : Fin 128) : k0_pay7 (F := Ideal) (ix2 i k) = lane k := by
  pointwise [k0_pay7]
  have h : ∀ k : Fin 128, (BitVec.ofNat 32 k.val).toInt = k.val := by decide
  show ((((BitVec.ofNat 32 k.val).toInt : ℤ) : ℝ) : EReal) = lane k
  rw [h]; simp [lane]

/-! ## The group -/

/-- The four group logits of a row of lanes. -/
def grp (l : Fin 128 → ℝ) (j : Fin 4) : ℝ := l ⟨j.val, by omega⟩

/-- The four logits of group `a` of a row of lanes. -/
def mem (l : Fin 128 → ℝ) (a j : Fin 4) : ℝ := l ⟨4 + 4 * a.val + j.val, by omega⟩

section

variable (h : FVec Ideal S512x1024 .f32) (r : FVec Ideal S512x1 .f32) (g : FVec Ideal S1x1024 .f32) (wr : FVec Ideal S1024x128 .bf16)
  (br : FVec Ideal S1x128 .f32) (i : Fin 512) (l : Fin 128 → ℝ) (hl : ∀ k, k0_pay6 h r g wr br (ix2 i k) = (l k : EReal))
include hl

theorem pay8_eq (k : Fin 128) : k0_pay8 h r g wr br (ix2 i k) = if k.val < 4 then (l k : EReal) else ⊥ := by
  pointwise [k0_pay8]
  rw [hl, lane_eq, mask_eq, lit_four]
  refine if_congr ?_ rfl rfl
  rw [lane, EReal.coe_lt_coe_iff]; norm_cast

theorem pay9_eq : k0_pay9 h r g wr br (ix2 i 0) = (grp l (rank (grp l) 0) : EReal) := by
  pointwise [k0_pay9]
  simp only [pay8_eq h r g wr br i l hl, lit_bot]
  refine foldMax_eq _ (fun k => ?_) ⟨(rank (grp l) 0).val, by omega⟩ (if_pos (rank (grp l) 0).isLt)
  split
  · rename_i hk; exact EReal.coe_le_coe_iff.2 ((first_rank (grp l)).1 ⟨k.val, hk⟩)
  · exact bot_le

theorem pay10_eq : k0_pay10 h r g wr br (ix2 i 0) = (share (grp l) (rank (grp l) 0) : EReal) := by
  pointwise [k0_pay10]
  simp only [pay8_eq h r g wr br i l hl, pay9_eq h r g wr br i l hl]
  rw [sum_four 0 (by omega) _ (fun k hk => by
    rw [if_neg (fun h => hk ⟨Nat.zero_le _, by omega⟩)]; simp)]
  have e : ∀ j : Fin 4, (if (0 + j.val) < 4 then ((l ⟨0 + j.val, by omega⟩ : ℝ) : EReal) else ⊥) = (grp l j : EReal) := fun j => by
    rw [if_pos (by omega)]; simp [grp]
  simp only [e, ← EReal.coe_sub, Ideal.exp_coe, ← coe_sum]
  rw [← EReal.coe_one, div_real _ (expsum_pos _ _).ne', one_div]; rfl

theorem pay11_eq : k0_pay11 h r g wr br (ix2 i 0) = ((4 + 4 * (rank (grp l) 0).val : ℝ) : EReal) := by
  pointwise [k0_pay11]
  simp only [pay8_eq h r g wr br i l hl, pay9_eq h r g wr br i l hl, lane_eq, lit_four, lit_128, lit_top]
  rw [foldMin_lane (fun k => (if k.val < 4 then (l k : EReal) else ⊥) = (grp l (rank (grp l) 0) : EReal)) ⟨(rank (grp l) 0).val, by omega⟩
    (if_pos (rank (grp l) 0).isLt) fun k hk => ?_]
  · simp [lane]
  · split at hk
    · rename_i h4
      by_contra hlt
      exact absurd (EReal.coe_injective hk) ((first_rank (grp l)).2 ⟨k.val, h4⟩ (not_le.1 hlt)).ne
    · exact absurd hk (EReal.bot_ne_coe _)

theorem pay12_eq (k : Fin 128) :
    k0_pay12 h r g wr br (ix2 i k) = BitVec.ofBool (decide (4 + 4 * (rank (grp l) 0).val ≤ k.val)) := by
  pointwise [k0_pay12]
  rw [pay11_eq h r g wr br i l hl, lane_eq, lane]
  refine congrArg BitVec.ofBool (decide_eq_decide.2 ?_)
  rw [EReal.coe_le_coe_iff]; norm_cast

theorem pay13_eq : k0_pay13 h r g wr br (ix2 i 0) = ((4 + 4 * (rank (grp l) 0).val + 4 : ℝ) : EReal) := by
  pointwise [k0_pay13]
  rw [pay11_eq h r g wr br i l hl, lit_four]; norm_cast

end

/-! ## The two experts of the group -/

section

variable (v47 v49 : FVec Ideal S512x128 .f32) (v74 : IVec S512x128 1) (v76 : FVec Ideal S512x1 .f32)
  (i : Fin 512) (l : Fin 128 → ℝ) (a : Fin 4) (h47 : ∀ k, v47 (ix2 i k) = (l k : EReal)) (h49 : ∀ k, v49 (ix2 i k) = lane k)
  (h74 : ∀ k : Fin 128, v74 (ix2 i k) = BitVec.ofBool (decide (4 + 4 * a.val ≤ k.val)))
  (h76 : v76 (ix2 i 0) = ((4 + 4 * a.val + 4 : ℝ) : EReal))

/-- Lane `k` is one of group `a`'s four. -/
def InGrp (a : Fin 4) (k : Fin 128) : Prop := 4 + 4 * a.val ≤ k.val ∧ k.val < 4 + 4 * a.val + 4

instance (a : Fin 4) : DecidablePred (InGrp a) := fun k => by unfold InGrp; infer_instance

/-- The lane of group `a`'s member `j`. -/
def at4 (a j : Fin 4) : Fin 128 := ⟨4 + 4 * a.val + j.val, by omega⟩

theorem inGrp_at4 (a j : Fin 4) : InGrp a (at4 a j) := ⟨by simp [at4], by simp [at4]⟩

theorem exists_at4 {a : Fin 4} {k : Fin 128} (h : InGrp a k) : ∃ j, k = at4 a j :=
  ⟨⟨k.val - (4 + 4 * a.val), by have := h.1; have := h.2; omega⟩, Fin.ext (by have := h.1; have := h.2; simp [at4]; omega)⟩

theorem at4_inj {a j j' : Fin 4} : at4 a j = at4 a j' ↔ j = j' := by
  simp only [at4, Fin.ext_iff]; omega

theorem at4_le {a j j' : Fin 4} : at4 a j ≤ at4 a j' ↔ j ≤ j' := by
  simp only [at4, Fin.le_def]; omega

/-- A sum of what is zero off the group's lanes. -/
theorem sum_grp (a : Fin 4) (f : Fin 128 → EReal) (hz : ∀ k, ¬InGrp a k → f k = 0) : ∑ k, f k = ∑ j, f (at4 a j) :=
  sum_four (4 + 4 * a.val) (by omega) f hz

theorem select_ofBool {α : Type} (P : Prop) [Decidable P] (x y : α) : Scalar.select (BitVec.ofBool (decide P)) x y = if P then x else y := by
  by_cases h : P <;> simp [h, Scalar.select]

theorem andi_ofBool (P Q : Prop) [Decidable P] [Decidable Q] :
    IntOp.andi (BitVec.ofBool (decide P)) (BitVec.ofBool (decide Q)) = BitVec.ofBool (decide (P ∧ Q)) := by
  by_cases h : P <;> by_cases h' : Q <;> simp [h, h', IntOp.andi]

/-- A lane's value in the softmax of group `a`: its member's, and zero off the group. -/
def lanep (l : Fin 128 → ℝ) (a : Fin 4) (k : Fin 128) : ℝ :=
  if InGrp a k then Real.exp (l k - mem l a (rank (mem l a) 0)) / ∑ j, Real.exp (mem l a j - mem l a (rank (mem l a) 0)) else 0

theorem lanep_at4 (l : Fin 128 → ℝ) (a j : Fin 4) : lanep l a (at4 a j) = soft (mem l a) (rank (mem l a) 0) j := by
  rw [lanep, if_pos (inGrp_at4 a j)]; rfl

theorem rest_at4 (l : Fin 128 → ℝ) (a : Fin 4) : InGrp a (at4 a (rank (mem l a) 1)) ∧ at4 a (rank (mem l a) 1) ≠ at4 a (rank (mem l a) 0) :=
  ⟨inGrp_at4 _ _, fun h => (second_rank (mem l a)).1 (at4_inj.1 h)⟩

include h49 h74 h76 in
theorem pay14_eq (k : Fin 128) : k0_pay14 v49 v74 v76 (ix2 i k) = BitVec.ofBool (decide (InGrp a k)) := by
  pointwise [k0_pay14]
  rw [h49, h74, h76, andi_ofBool]
  refine congrArg BitVec.ofBool (decide_eq_decide.2 (and_congr Iff.rfl ?_))
  rw [lane, EReal.coe_lt_coe_iff]; norm_cast

include h47 h49 h74 h76

theorem pay15_eq (k : Fin 128) : k0_pay15 v47 v49 v74 v76 (ix2 i k) = (lanep l a k : EReal) := by
  pointwise [k0_pay15]
  simp only [pay14_eq v49 v74 v76 i a h49 h74 h76, h47, mask_eq, lit_bot, select_ofBool]
  have hM : (Finset.univ.fold max ⊥ fun k => if InGrp a k then (l k : EReal) else ⊥) = (mem l a (rank (mem l a) 0) : EReal) := by
    refine foldMax_eq _ (fun k => ?_) (at4 a (rank (mem l a) 0)) (if_pos (inGrp_at4 _ _))
    split
    · rename_i hk
      obtain ⟨j, rfl⟩ := exists_at4 hk
      exact EReal.coe_le_coe_iff.2 ((first_rank (mem l a)).1 j)
    · exact bot_le
  have hE : ∀ k, (if InGrp a k then Ideal.exp ((if InGrp a k then (l k : EReal) else ⊥) - (mem l a (rank (mem l a) 0) : EReal)) else 0)
      = ((if InGrp a k then Real.exp (l k - mem l a (rank (mem l a) 0)) else 0 : ℝ) : EReal) := fun k => by
    split
    · rw [← EReal.coe_sub, Ideal.exp_coe]
    · rfl
  rw [hM]
  simp only [hE]
  rw [sum_grp a _ (fun k hk => by rw [if_neg hk]; rfl)]
  simp only [if_pos (inGrp_at4 a _)]
  rw [← coe_sum]
  have hS : (∑ j, Real.exp (l (at4 a j) - mem l a (rank (mem l a) 0))) = ∑ j, Real.exp (mem l a j - mem l a (rank (mem l a) 0)) := rfl
  rw [hS, div_real _ (expsum_pos _ _).ne', lanep]
  split
  · rfl
  · rw [zero_div]

theorem pay16_eq : k0_pay16 v47 v49 v74 v76 (ix2 i 0) = (soft (mem l a) (rank (mem l a) 0) (rank (mem l a) 0) : EReal) := by
  pointwise [k0_pay16]
  simp only [pay15_eq v47 v49 v74 v76 i l a h47 h49 h74 h76, lit_bot]
  refine foldMax_eq _ (fun k => EReal.coe_le_coe_iff.2 ?_) (at4 a (rank (mem l a) 0)) (by rw [lanep_at4])
  by_cases hk : InGrp a k
  · obtain ⟨j, rfl⟩ := exists_at4 hk
    rw [lanep_at4, soft_le]; exact (first_rank _).1 j
  · rw [lanep, if_neg hk]; exact (soft_pos _ _ _).le

theorem pay17_eq : k0_pay17 v47 v49 v74 v76 (ix2 i 0) = lane (at4 a (rank (mem l a) 0)) := by
  pointwise [k0_pay17]
  simp only [pay14_eq v49 v74 v76 i a h49 h74 h76, pay15_eq v47 v49 v74 v76 i l a h47 h49 h74 h76,
    pay16_eq v47 v49 v74 v76 i l a h47 h49 h74 h76, h49, lit_128, lit_top, andi_ofBool, select_ofBool]
  refine foldMin_lane (fun k => InGrp a k ∧ (lanep l a k : EReal) = (soft (mem l a) (rank (mem l a) 0) (rank (mem l a) 0) : EReal)) _
    ⟨inGrp_at4 _ _, by rw [lanep_at4]⟩ fun k ⟨hk, he⟩ => ?_
  obtain ⟨j, rfl⟩ := exists_at4 hk
  rw [lanep_at4] at he
  rw [at4_le]
  by_contra hlt
  exact absurd (EReal.coe_injective he) ((soft_lt _ _).2 ((first_rank (mem l a)).2 j (not_le.1 hlt))).ne

theorem pay18_eq (k : Fin 128) :
    k0_pay18 v47 v49 v74 v76 (ix2 i k) = BitVec.ofBool (decide (InGrp a k ∧ k ≠ at4 a (rank (mem l a) 0))) := by
  pointwise [k0_pay18]
  rw [pay14_eq v49 v74 v76 i a h49 h74 h76, pay17_eq v47 v49 v74 v76 i l a h47 h49 h74 h76, h49, andi_ofBool]
  exact congrArg BitVec.ofBool (decide_eq_decide.2 (and_congr Iff.rfl (not_congr lane_inj)))

theorem pay19_eq (k : Fin 128) : k0_pay19 v47 v49 v74 v76 (ix2 i k)
    = ((if InGrp a k ∧ k ≠ at4 a (rank (mem l a) 0) then lanep l a k else -1 : ℝ) : EReal) := by
  pointwise [k0_pay19]
  rw [pay18_eq v47 v49 v74 v76 i l a h47 h49 h74 h76, pay15_eq v47 v49 v74 v76 i l a h47 h49 h74 h76, lit_neg, select_ofBool]
  split <;> rfl

theorem pay20_eq : k0_pay20 v47 v49 v74 v76 (ix2 i 0) = (soft (mem l a) (rank (mem l a) 0) (rank (mem l a) 1) : EReal) := by
  pointwise [k0_pay20]
  simp only [pay19_eq v47 v49 v74 v76 i l a h47 h49 h74 h76, lit_bot]
  refine foldMax_eq _ (fun k => EReal.coe_le_coe_iff.2 ?_) (at4 a (rank (mem l a) 1)) (by
    rw [if_pos (rest_at4 l a), lanep_at4])
  split
  · rename_i hk
    obtain ⟨j, rfl⟩ := exists_at4 hk.1
    rw [lanep_at4, soft_le]
    exact (second_rank (mem l a)).2.1 j fun h => hk.2 (at4_inj.2 h)
  · exact (by norm_num : (-1 : ℝ) ≤ 0).trans (soft_pos _ _ _).le

theorem pay21_eq : k0_pay21 v47 v49 v74 v76 (ix2 i 0)
    = ((soft (mem l a) (rank (mem l a) 0) (rank (mem l a) 0) + soft (mem l a) (rank (mem l a) 0) (rank (mem l a) 1) : ℝ) : EReal) := by
  pointwise [k0_pay21]
  rw [pay16_eq v47 v49 v74 v76 i l a h47 h49 h74 h76, pay20_eq v47 v49 v74 v76 i l a h47 h49 h74 h76, EReal.coe_add]

theorem pay22_eq (k : Fin 128) : k0_pay22 v47 v49 v74 v76 (ix2 i k)
    = ((if k = at4 a (rank (mem l a) 0) then soft (mem l a) (rank (mem l a) 0) (rank (mem l a) 0)
        / (soft (mem l a) (rank (mem l a) 0) (rank (mem l a) 0) + soft (mem l a) (rank (mem l a) 0) (rank (mem l a) 1)) else 0 : ℝ) : EReal) := by
  pointwise [k0_pay22]
  rw [pay16_eq v47 v49 v74 v76 i l a h47 h49 h74 h76, pay17_eq v47 v49 v74 v76 i l a h47 h49 h74 h76,
    pay21_eq v47 v49 v74 v76 i l a h47 h49 h74 h76, h49, div_real _ (add_pos (soft_pos _ _ _) (soft_pos _ _ _)).ne']
  simp only [lane_inj]
  split <;> rfl

theorem pay23_eq (k : Fin 128) : k0_pay23 v47 v49 v74 v76 (ix2 i k) = lane (at4 a (rank (mem l a) 1)) := by
  pointwise [k0_pay23]
  simp only [pay18_eq v47 v49 v74 v76 i l a h47 h49 h74 h76, pay19_eq v47 v49 v74 v76 i l a h47 h49 h74 h76,
    pay20_eq v47 v49 v74 v76 i l a h47 h49 h74 h76, h49, lit_128, lit_top, andi_ofBool, select_ofBool]
  refine foldMin_lane (fun k => (InGrp a k ∧ k ≠ at4 a (rank (mem l a) 0))
    ∧ ((if InGrp a k ∧ k ≠ at4 a (rank (mem l a) 0) then lanep l a k else -1 : ℝ) : EReal)
      = (soft (mem l a) (rank (mem l a) 0) (rank (mem l a) 1) : EReal)) _
    ⟨rest_at4 l a, by rw [if_pos (rest_at4 l a), lanep_at4]⟩ fun k ⟨hk, he⟩ => ?_
  rw [if_pos hk] at he
  obtain ⟨j, rfl⟩ := exists_at4 hk.1
  rw [lanep_at4] at he
  rw [at4_le]
  by_contra hlt
  exact absurd (EReal.coe_injective he)
    ((soft_lt _ _).2 ((second_rank (mem l a)).2.2 j (fun h => hk.2 (at4_inj.2 h)) (not_le.1 hlt))).ne

end

/-! ## The gates -/

/-- The kernel's gates, from the hidden rows, their scales and the router's arrays. -/
def gates (h : FVec Ideal S512x1024 .f32) (r : FVec Ideal S512x1 .f32) (g : FVec Ideal S1x1024 .f32) (wr : FVec Ideal S1024x128 .bf16)
    (br : FVec Ideal S1x128 .f32) : FVec Ideal S512x128 .f32 :=
  k0_pay24 k0_pay7 (k0_pay10 h r g wr br)
    (k0_pay20 (k0_pay6 h r g wr br) k0_pay7 (k0_pay12 h r g wr br) (k0_pay13 h r g wr br))
    (k0_pay21 (k0_pay6 h r g wr br) k0_pay7 (k0_pay12 h r g wr br) (k0_pay13 h r g wr br))
    (k0_pay22 (k0_pay6 h r g wr br) k0_pay7 (k0_pay12 h r g wr br) (k0_pay13 h r g wr br))
    (k0_pay23 (k0_pay6 h r g wr br) k0_pay7 (k0_pay12 h r g wr br) (k0_pay13 h r g wr br))

/-- The gate of expert `q` of group `e`. -/
def gateOf (l : Fin 128 → ℝ) (e q : Fin 4) : ℝ :=
  if e = rank (grp l) 0 then
    weight (grp l) (mem l e) (rank (grp l) 0) (rank (mem l e) 0) (rank (mem l e) 1) q
  else 0

theorem gateOf_nonneg (l : Fin 128 → ℝ) (e q : Fin 4) : 0 ≤ gateOf l e q := by
  unfold gateOf; split
  · exact weight_nonneg _ _ _ _ _ _
  · exact le_rfl

theorem at4_inj2 {a a' j j' : Fin 4} : at4 a j = at4 a' j' ↔ a = a' ∧ j = j' := by
  simp only [at4, Fin.ext_iff]; omega

theorem gates_eq (h : FVec Ideal S512x1024 .f32) (r : FVec Ideal S512x1 .f32) (g : FVec Ideal S1x1024 .f32) (wr : FVec Ideal S1024x128 .bf16)
    (br : FVec Ideal S1x128 .f32) (i : Fin 512) (l : Fin 128 → ℝ) (hl : ∀ k, k0_pay6 h r g wr br (ix2 i k) = (l k : EReal)) (e q : Fin 4) :
    gates h r g wr br (ix2 i (at4 e q)) = (gateOf l e q : EReal) := by
  have h12 := pay12_eq h r g wr br i l hl
  have h13 := pay13_eq h r g wr br i l hl
  unfold gates
  pointwise [k0_pay24]
  rw [pay10_eq h r g wr br i l hl, pay20_eq _ _ _ _ i l _ hl (lane_eq i) h12 h13, pay21_eq _ _ _ _ i l _ hl (lane_eq i) h12 h13,
    pay22_eq _ _ _ _ i l _ hl (lane_eq i) h12 h13, pay23_eq _ _ _ _ i l _ hl (lane_eq i) h12 h13, lane_eq,
    div_real _ (add_pos (soft_pos _ _ _) (soft_pos _ _ _)).ne']
  simp only [lane_inj, at4_inj2]
  unfold gateOf
  by_cases he : e = rank (grp l) 0
  · subst he
    have hcb := (second_rank (mem l (rank (grp l) 0))).1
    simp only [true_and, if_true, weight]
    by_cases hb : q = rank (mem l (rank (grp l) 0)) 0
    · subst hb
      simp only [if_true, if_neg (Ne.symm hcb), add_zero, ← EReal.coe_mul]
    · simp only [if_neg hb, EReal.coe_zero, zero_add]
      split
      · rw [← EReal.coe_mul]
      · rw [zero_mul]; rfl
  · simp [he]

end Cert.KernelIdeal.Block
-- ==== Proof.Block.lean ====
/- What one block of the kernel computes: sixteen strips of gated activations side by side in the scratch array, then one
   product with the stacked second weights, added to the hidden rows. -/
module

public import proofs.«01_k».proof.Proof.KernelRoute

@[expose] public section

set_option maxRecDepth 100000

noncomputable section

namespace Cert.KernelIdeal.Block

open Cert.KernelIdeal Cert.KernelIdeal.Gen Idealize.ShloMosaic Cert.Route

/-- One expert's strip: its gated activations, the gate read from column `o`. -/
def strip (xn : FVec Ideal S512x1024 .bf16) (gt : FVec Ideal S512x128 .f32) (w : Vec Ideal S1x1024x512 .bf16) (o : ℕ)
    (ho : S512x128.Slices ![0, o] S512x1) : FVec Ideal S512x256 .bf16 :=
  have p : FVec Ideal S512x512 .f32 := matmul dot_S512x1024_S1024x512_S512x512_1_0_0_1_n_n none xn
    (shapeCast S1024x512 w shapeCasts_S1x1024x512_S1024x512 : FVec Ideal S1024x512 .bf16) (constant S512x512 .f32 0x00000000#32)
  have a : FVec Ideal S512x256 .f32 := extractStridedSlice S512x256 ![0, 0] p slices_S512x512_o0_0_S512x256
  have b : FVec Ideal S512x256 .f32 := extractStridedSlice S512x256 ![0, 256] p slices_S512x512_o0_256_S512x256
  have z : FVec Ideal S512x256 .f32 := broadcast S512x256 (Scalar.ofBits .f32 0x00000000#32)
  have one : FVec Ideal S512x256 .f32 := broadcast S512x256 (Scalar.ofBits .f32 0x3F800000#32)
  have s : FVec Ideal S512x256 .f32 := mulf a (divf one (addf one (exp (subf z a))))
  have u : FVec Ideal S512x256 .f32 := mulf (mulf s b) (broadcastTo S512x256 (extractStridedSlice S512x1 ![0, o] gt ho) broadcasts_S512x1_S512x256)
  shapeCast S512x256 (truncf .bf16 u bitsLt_bf16_f32) shapeCasts_S512x256_S512x256

/-- The sixteen stores to the scratch array, the last first. -/
def strips (xn : FVec Ideal S512x1024 .bf16) (gt : FVec Ideal S512x128 .f32) (w : Vec Ideal S16x1024x512 .bf16) :
    List (View.Piece (Elt Ideal) S512x4096 .bf16) :=
  [⟨Rect.unit ![0, 3840] S512x256.size inb_S512x4096_S512x256_0_3840,
     strip xn gt (View.ld w (Rect.unit ![15, 0, 0] S1x1024x512.size inb_S16x1024x512_S1x1024x512_15_0_0)) 19 slices_S512x128_o0_19_S512x1⟩,
   ⟨Rect.unit ![0, 3584] S512x256.size inb_S512x4096_S512x256_0_3584,
     strip xn gt (View.ld w (Rect.unit ![14, 0, 0] S1x1024x512.size inb_S16x1024x512_S1x1024x512_14_0_0)) 18 slices_S512x128_o0_18_S512x1⟩,
   ⟨Rect.unit ![0, 3328] S512x256.size inb_S512x4096_S512x256_0_3328,
     strip xn gt (View.ld w (Rect.unit ![13, 0, 0] S1x1024x512.size inb_S16x1024x512_S1x1024x512_13_0_0)) 17 slices_S512x128_o0_17_S512x1⟩,
   ⟨Rect.unit ![0, 3072] S512x256.size inb_S512x4096_S512x256_0_3072,
     strip xn gt (View.ld w (Rect.unit ![12, 0, 0] S1x1024x512.size inb_S16x1024x512_S1x1024x512_12_0_0)) 16 slices_S512x128_o0_16_S512x1⟩,
   ⟨Rect.unit ![0, 2816] S512x256.size inb_S512x4096_S512x256_0_2816,
     strip xn gt (View.ld w (Rect.unit ![11, 0, 0] S1x1024x512.size inb_S16x1024x512_S1x1024x512_11_0_0)) 15 slices_S512x128_o0_15_S512x1⟩,
   ⟨Rect.unit ![0, 2560] S512x256.size inb_S512x4096_S512x256_0_2560,
     strip xn gt (View.ld w (Rect.unit ![10, 0, 0] S1x1024x512.size inb_S16x1024x512_S1x1024x512_10_0_0)) 14 slices_S512x128_o0_14_S512x1⟩,
   ⟨Rect.unit ![0, 2304] S512x256.size inb_S512x4096_S512x256_0_2304,
     strip xn gt (View.ld w (Rect.unit ![9, 0, 0] S1x1024x512.size inb_S16x1024x512_S1x1024x512_9_0_0)) 13 slices_S512x128_o0_13_S512x1⟩,
   ⟨Rect.unit ![0, 2048] S512x256.size inb_S512x4096_S512x256_0_2048,
     strip xn gt (View.ld w (Rect.unit ![8, 0, 0] S1x1024x512.size inb_S16x1024x512_S1x1024x512_8_0_0)) 12 slices_S512x128_o0_12_S512x1⟩,
   ⟨Rect.unit ![0, 1792] S512x256.size inb_S512x4096_S512x256_0_1792,
     strip xn gt (View.ld w (Rect.unit ![7, 0, 0] S1x1024x512.size inb_S16x1024x512_S1x1024x512_7_0_0)) 11 slices_S512x128_o0_11_S512x1⟩,
   ⟨Rect.unit ![0, 1536] S512x256.size inb_S512x4096_S512x256_0_1536,
     strip xn gt (View.ld w (Rect.unit ![6, 0, 0] S1x1024x512.size inb_S16x1024x512_S1x1024x512_6_0_0)) 10 slices_S512x128_o0_10_S512x1⟩,
   ⟨Rect.unit ![0, 1280] S512x256.size inb_S512x4096_S512x256_0_1280,
     strip xn gt (View.ld w (Rect.unit ![5, 0, 0] S1x1024x512.size inb_S16x1024x512_S1x1024x512_5_0_0)) 9 slices_S512x128_o0_9_S512x1⟩,
   ⟨Rect.unit ![0, 1024] S512x256.size inb_S512x4096_S512x256_0_1024,
     strip xn gt (View.ld w (Rect.unit ![4, 0, 0] S1x1024x512.size inb_S16x1024x512_S1x1024x512_4_0_0)) 8 slices_S512x128_o0_8_S512x1⟩,
   ⟨Rect.unit ![0, 768] S512x256.size inb_S512x4096_S512x256_0_768,
     strip xn gt (View.ld w (Rect.unit ![3, 0, 0] S1x1024x512.size inb_S16x1024x512_S1x1024x512_3_0_0)) 7 slices_S512x128_o0_7_S512x1⟩,
   ⟨Rect.unit ![0, 512] S512x256.size inb_S512x4096_S512x256_0_512,
     strip xn gt (View.ld w (Rect.unit ![2, 0, 0] S1x1024x512.size inb_S16x1024x512_S1x1024x512_2_0_0)) 6 slices_S512x128_o0_6_S512x1⟩,
   ⟨Rect.unit ![0, 256] S512x256.size inb_S512x4096_S512x256_0_256,
     strip xn gt (View.ld w (Rect.unit ![1, 0, 0] S1x1024x512.size inb_S16x1024x512_S1x1024x512_1_0_0)) 5 slices_S512x128_o0_5_S512x1⟩,
   ⟨Rect.unit ![0, 0] S512x256.size inb_S512x4096_S512x256_0_0,
     strip xn gt (View.ld w (Rect.unit ![0, 0, 0] S1x1024x512.size inb_S16x1024x512_S1x1024x512_0_0_0)) 4 slices_S512x128_o0_4_S512x1⟩]

/-- The hidden rows: the rows of `x0` plus the four mixers' products with their parts of the output weights. -/
def hid (x0 : Vec Ideal S512x1024 .f32) (x1 x2 x3 x4 : Vec Ideal S512x256 .bf16) (x5 : Vec Ideal S1024x1024 .bf16) : FVec Ideal S512x1024 .f32 :=
  k0_pay3 x0 x1 (View.ld x5 (Rect.unit ![0, 0] S256x1024.size inb_S1024x1024_S256x1024_0_0))
    x2 (View.ld x5 (Rect.unit ![256, 0] S256x1024.size inb_S1024x1024_S256x1024_256_0))
    x3 (View.ld x5 (Rect.unit ![512, 0] S256x1024.size inb_S1024x1024_S256x1024_512_0))
    x4 (View.ld x5 (Rect.unit ![768, 0] S256x1024.size inb_S1024x1024_S256x1024_768_0))

/-- Their scales. -/
def scl (x0 : Vec Ideal S512x1024 .f32) (x1 x2 x3 x4 : Vec Ideal S512x256 .bf16) (x5 : Vec Ideal S1024x1024 .bf16) : FVec Ideal S512x1 .f32 :=
  k0_pay4 x0 x1 (View.ld x5 (Rect.unit ![0, 0] S256x1024.size inb_S1024x1024_S256x1024_0_0))
    x2 (View.ld x5 (Rect.unit ![256, 0] S256x1024.size inb_S1024x1024_S256x1024_256_0))
    x3 (View.ld x5 (Rect.unit ![512, 0] S256x1024.size inb_S1024x1024_S256x1024_512_0))
    x4 (View.ld x5 (Rect.unit ![768, 0] S256x1024.size inb_S1024x1024_S256x1024_768_0))

theorem zero2 : (![0, 0] : Fin 2 → ℕ) = fun _ => 0 := by funext a; fin_cases a <;> rfl

/-- What the block leaves in its result buffer. -/
theorem out_eq (c : Dev nD) (i : grid0.Coords)
    (arg1 : Memref sig .tc .vmem S512x1024 .f32) (harg1 : arg1.IsWhole)
    (arg2 : Memref sig .tc .vmem S512x256 .bf16) (harg2 : arg2.IsWhole)
    (arg3 : Memref sig .tc .vmem S512x256 .bf16) (harg3 : arg3.IsWhole)
    (arg4 : Memref sig .tc .vmem S512x256 .bf16) (harg4 : arg4.IsWhole)
    (arg5 : Memref sig .tc .vmem S512x256 .bf16) (harg5 : arg5.IsWhole)
    (arg6 : Memref sig .tc .vmem S1024x1024 .bf16) (harg6 : arg6.IsWhole)
    (arg7 : Memref sig .tc .vmem S1x1024 .f32) (harg7 : arg7.IsWhole)
    (arg8 : Memref sig .tc .vmem S1024x128 .bf16) (harg8 : arg8.IsWhole)
    (arg9 : Memref sig .tc .vmem S1x128 .f32) (harg9 : arg9.IsWhole)
    (arg10 : Memref sig .tc .vmem S16x1024x512 .bf16) (harg10 : arg10.IsWhole)
    (arg11 : Memref sig .tc .vmem S4096x1024 .bf16) (harg11 : arg11.IsWhole)
    (arg12 : Memref sig .tc .vmem S512x1024 .f32) (harg12 : arg12.IsWhole)
    (arg13 : Memref sig .tc .vmem S512x4096 .bf16) (harg13 : arg13.IsWhole)
    (x0 : Vec Ideal S512x1024 .f32) (x1 : Vec Ideal S512x256 .bf16) (x2 : Vec Ideal S512x256 .bf16) (x3 : Vec Ideal S512x256 .bf16) (x4 : Vec Ideal S512x256 .bf16) (x5 : Vec Ideal S1024x1024 .bf16) (x6 : Vec Ideal S1x1024 .f32) (x7 : Vec Ideal S1024x128 .bf16) (x8 : Vec Ideal S1x128 .f32) (x9 : Vec Ideal S16x1024x512 .bf16) (x10 : Vec Ideal S4096x1024 .bf16) :
    out0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
      = k0_pay2 (hid x0 x1 x2 x3 x4 x5)
          (View.canon (strips (k0_pay5 (hid x0 x1 x2 x3 x4 x5) (scl x0 x1 x2 x3 x4 x5) x6)
            (gates (hid x0 x1 x2 x3 x4 x5) (scl x0 x1 x2 x3 x4 x5) x6 x7 x8) x9)) x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  rw [View.canon_unit_zero zero2]
  have e {s : Shape} {φ : EltTy} {off : Fin s.rank → ℕ} (h : off = fun _ => 0) (inb : ∀ a, off a + s.size a ≤ s.size a) (v : s.Idx → Elt Ideal φ) :
      View.ld v (Rect.unit off s.size inb) = v := View.ld_unit_zero h inb v
  simp only [e (s := S512x1024) zero2, e (s := S512x256) zero2, e (s := S1x1024) zero2, e (s := S1024x128) zero2, e (s := S1x128) zero2,
    e (s := S4096x1024) zero2, View.readCov_eq_canon']
  have q (L : List (View.Piece (Elt Ideal) S512x4096 .bf16)) :
      (fun j => View.canon L ((Rect.unit (s := S512x4096) ![0, 0] S512x4096.size inb_S512x4096_S512x4096_0_0).toLoadRect.idx j)) = View.canon L :=
    View.ld_unit_zero (S := S512x4096) zero2 _ _
  refine congrArg₂ (fun s w => k0_pay2 _ s w) ((q _).trans ?_) rfl
  rfl

end Cert.KernelIdeal.Block
-- ==== Proof.Rows.lean ====
/- The layer, one row at a time: the hidden row, its norm, the router's logits and gates, the experts. -/
module

public import proofs.«01_k».proof.Proof.Route

@[expose] public section

set_option maxRecDepth 100000

noncomputable section

namespace Cert.Route

open Idealize.ShloMosaic

/-- One gated activation: `silu(x·w1)·(x·w3)`. -/
def act (x w1 w3 : Fin 1024 → EReal) : EReal :=
  ((∑ k, x k * w1 k) * Ideal.div 1 (1 + Ideal.exp (-∑ k, x k * w1 k))) * ∑ k, x k * w3 k

/-- The scale of a row: one over the root of its mean square. -/
def scale (h : Fin 1024 → EReal) : EReal :=
  Ideal.rsqrt (Ideal.div (∑ k, h k * h k) (Ideal.ofBits .f32 0x44800000#32) + Ideal.ofBits .f32 0x358637BD#32)

/-- The hidden row: the row `x` plus the four mixers' products. -/
def hidden (x : Fin 1024 → EReal) (y0 y1 y2 y3 : Fin 256 → EReal) (w : Fin 1024 → Fin 1024 → EReal) (k : Fin 1024) : EReal :=
  x k + ∑ q : Fin 256, y0 q * w ⟨q.val, by omega⟩ k + ∑ q : Fin 256, y1 q * w ⟨256 + q.val, by omega⟩ k
    + ∑ q : Fin 256, y2 q * w ⟨512 + q.val, by omega⟩ k + ∑ q : Fin 256, y3 q * w ⟨768 + q.val, by omega⟩ k

/-- The normalised row. -/
def normed (h g : Fin 1024 → EReal) (k : Fin 1024) : EReal := h k * scale h * g k

/-- A logit: the row against a column of the router's weights, plus its bias. -/
def logit {n : ℕ} (x : Fin 1024 → EReal) (w : Fin 1024 → Fin n → EReal) (b : Fin n → EReal) (k : Fin n) : EReal :=
  ∑ q, x q * w q k + b k

/-- The experts' part of a row: each expert's second product, weighted by its gate. -/
def moe (x : Fin 1024 → EReal) (gate : Fin 16 → EReal) (w1 w3 : Fin 16 → Fin 1024 → Fin 256 → EReal)
    (w2 : Fin 16 → Fin 256 → Fin 1024 → EReal) (k : Fin 1024) : EReal :=
  ∑ e, gate e * ∑ f, act x (fun q => w1 e q f) (fun q => w3 e q f) * w2 e f k

/-- A row of normalised values is real whenever the norm's weights are: where a value is infinite the scale is zero. -/
theorem normed_real (h : Fin 1024 → EReal) (g : Fin 1024 → ℝ) : ∃ x : Fin 1024 → ℝ, ∀ k, normed h (fun k => g k) k = (x k : EReal) := by
  have h1024 : Ideal.ofBits .f32 0x44800000#32 = ((1024 : ℝ) : EReal) := by
    simp [Ideal.ofBits, Ideal.ieee, -EReal.coe_mul]; norm_num
  obtain ⟨ε, hε, heps⟩ : ∃ ε : ℝ, 0 < ε ∧ Ideal.ofBits .f32 0x358637BD#32 = (ε : EReal) := by
    refine ⟨8796093 * 2 ^ (-43 : ℤ), by positivity, ?_⟩
    simp [Ideal.ofBits, Ideal.ieee, -EReal.coe_mul]
  by_cases hr : ∀ k, ∃ y : ℝ, h k = (y : EReal)
  · choose y hy using hr
    obtain rfl : h = fun k => (y k : EReal) := funext hy
    have hs : scale (fun k => (y k : EReal)) = ((Real.sqrt ((∑ k, y k * y k) / 1024 + ε))⁻¹ : ℝ) := by
      have hp : 0 < (∑ k, y k * y k) / 1024 + ε := by
        have := Finset.sum_nonneg (s := Finset.univ) fun k _ => mul_self_nonneg (y k)
        positivity
      unfold scale
      simp only [← EReal.coe_mul, ← coe_sum]
      rw [h1024, heps, div_real _ (by norm_num), ← EReal.coe_add, Ideal.rsqrt_coe, if_neg hp.not_gt, if_neg hp.ne']
    exact ⟨fun k => y k * _ * g k, fun k => by unfold normed; rw [hs, ← EReal.coe_mul, ← EReal.coe_mul]⟩
  · push Not at hr
    obtain ⟨k, hk⟩ := hr
    have hsq : ∀ z : EReal, 0 ≤ z * z := fun z => by
      rcases le_total 0 z with hz | hz
      · exact mul_nonneg hz hz
      · rw [← neg_mul_neg]; exact mul_nonneg (EReal.neg_nonneg.2 hz) (EReal.neg_nonneg.2 hz)
    have hkk : h k * h k = ⊤ := by
      induction hh : h k using EReal.rec with
      | bot => rfl
      | top => rfl
      | coe y => exact absurd hh (hk y)
    have hsum : ∑ k, h k * h k = ⊤ :=
      top_le_iff.1 (hkk ▸ Finset.single_le_sum (fun k _ => hsq (h k)) (Finset.mem_univ k))
    have hs : scale h = 0 := by
      unfold scale
      rw [hsum, h1024, Ideal.div_coe (by norm_num), EReal.top_mul_coe_of_pos (by norm_num), heps, EReal.top_add_coe, Ideal.rsqrt_top]
    exact ⟨fun _ => 0, fun k => by unfold normed; rw [hs, mul_zero, zero_mul]; rfl⟩

/-- Logits of real rows, weights and biases are real. -/
theorem logit_real {n : ℕ} (x : Fin 1024 → ℝ) (w : Fin 1024 → Fin n → ℝ) (b : Fin n → ℝ) (k : Fin n) :
    logit (fun q => x q) (fun q k => w q k) (fun k => b k) k = ((∑ q, x q * w q k + b k : ℝ) : EReal) := by
  unfold logit
  simp only [← EReal.coe_mul, ← coe_sum, EReal.coe_add]

/-- The gate of place `q` of group `e`: nothing outside the chosen group, in it `weight`. -/
def gateAt (f : Fin 4 → ℝ) (x : Fin 4 → Fin 4 → ℝ) (e q : Fin 4) : ℝ :=
  if e = rank f 0 then weight f (x e) (rank f 0) (rank (x e) 0) (rank (x e) 1) q else 0

/-- The logits of the sixteen experts, by group. -/
def byGroup (l : Fin 16 → ℝ) (a j : Fin 4) : ℝ := l ⟨4 * a.val + j.val, by omega⟩

/-- The layer's row, its router's logits `f`, `l` given: the hidden row plus the gated experts of the normed row. -/
def layer (h g : Fin 1024 → EReal) (f : Fin 4 → ℝ) (l : Fin 16 → ℝ) (w1 w3 : Fin 16 → Fin 1024 → Fin 256 → EReal)
    (w2 : Fin 16 → Fin 256 → Fin 1024 → EReal) (k : Fin 1024) : EReal :=
  h k + moe (normed h g) (fun e => (gateAt f (byGroup l) ⟨e.val / 4, by omega⟩ ⟨e.val % 4, by omega⟩ : EReal)) w1 w3 w2 k

end Cert.Route
-- ==== Proof.BlockAt.lean ====
/- One block's result at a row and a column, as a formula in the block's arrays. -/
module

public import proofs.«01_k».proof.Proof.Block
public import proofs.«01_k».proof.Proof.Rows

@[expose] public section

set_option maxRecDepth 100000

noncomputable section

namespace Cert.KernelIdeal.Block

open Cert.KernelIdeal Cert.KernelIdeal.Gen Idealize.ShloMosaic Cert.Route

theorem hid_at (x0 : Vec Ideal S512x1024 .f32) (x1 x2 x3 x4 : Vec Ideal S512x256 .bf16) (x5 : Vec Ideal S1024x1024 .bf16) (i : Fin 512) (k : Fin 1024) :
    hid x0 x1 x2 x3 x4 x5 (ix2 i k) = hidden (fun k => x0 (ix2 i k)) (fun q => x1 (ix2 i q)) (fun q => x2 (ix2 i q)) (fun q => x3 (ix2 i q))
      (fun q => x4 (ix2 i q)) (fun q k => x5 (ix2 q k)) k := by
  unfold hid
  pointwise [k0_pay3]
  rfl

theorem strip_at (xn : FVec Ideal S512x1024 .bf16) (gt : FVec Ideal S512x128 .f32) (w : Vec Ideal S16x1024x512 .bf16) (e : ℕ) (he : e < 16) (inb)
    (ho : S512x128.Slices ![0, 4 + e] S512x1) (i : Fin 512) (f : Fin 256) :
    strip xn gt (View.ld w (Rect.unit ![e, 0, 0] S1x1024x512.size inb)) (4 + e) ho (ix2 i f)
      = act (fun k => xn (ix2 i k)) (fun k => w (ix3 ⟨e, he⟩ k ⟨f.val, by omega⟩)) (fun k => w (ix3 ⟨e, he⟩ k ⟨256 + f.val, by omega⟩))
        * gt (ix2 i ⟨4 + e, by omega⟩) := by
  pointwise [strip]
  rw [act, zero_sub]

/-- Column `q` of the scratch array: expert `q / 256`'s gated activation `q % 256`. -/
def gated (xn : FVec Ideal S512x1024 .bf16) (gt : FVec Ideal S512x128 .f32) (w : Vec Ideal S16x1024x512 .bf16) (i : Fin 512) (q : Fin 4096) : EReal :=
  act (fun k => xn (ix2 i k)) (fun k => w (ix3 ⟨q.val / 256, by omega⟩ k ⟨q.val % 256, by omega⟩))
    (fun k => w (ix3 ⟨q.val / 256, by omega⟩ k ⟨256 + q.val % 256, by omega⟩)) * gt (ix2 i ⟨4 + q.val / 256, by omega⟩)

theorem strip_gated (xn : FVec Ideal S512x1024 .bf16) (gt : FVec Ideal S512x128 .f32) (w : Vec Ideal S16x1024x512 .bf16) (e : ℕ) (he : e < 16) (inb)
    (inb' : ∀ a, ![0, 256 * e] a + S512x256.size a ≤ S512x4096.size a) (ho : S512x128.Slices ![0, 4 + e] S512x1) (x : S512x256.Idx) :
    strip xn gt (View.ld w (Rect.unit ![e, 0, 0] S1x1024x512.size inb)) (4 + e) ho x
      = gated xn gt w ((Rect.unit (s := S512x4096) ![0, 256 * e] S512x256.size inb').emb x 0)
          ((Rect.unit (s := S512x4096) ![0, 256 * e] S512x256.size inb').emb x 1) := by
  obtain ⟨i, f, rfl⟩ : ∃ (i : Fin 512) (f : Fin 256), x = ix2 i f := ⟨x 0, x 1, by funext a; fin_cases a <;> rfl⟩
  rw [strip_at xn gt w e he inb ho i f]
  have h0 : (Rect.unit (s := S512x4096) ![0, 256 * e] S512x256.size inb').emb (ix2 i f) 0 = i :=
    Fin.ext (show 0 + 1 * i.val = i.val by omega)
  have h1 : (Rect.unit (s := S512x4096) ![0, 256 * e] S512x256.size inb').emb (ix2 i f) 1 = (⟨256 * e + f.val, by omega⟩ : Fin 4096) :=
    Fin.ext (show 256 * e + 1 * f.val = 256 * e + f.val by omega)
  rw [h0, h1]
  have e1 : (256 * e + f.val) / 256 = e := by omega
  have e2 : (256 * e + f.val) % 256 = f.val := by omega
  simp only [gated, e1, e2]

/-- The scratch array after the sixteen stores. -/
theorem canon_strips (xn : FVec Ideal S512x1024 .bf16) (gt : FVec Ideal S512x128 .f32) (w : Vec Ideal S16x1024x512 .bf16) (y : S512x4096.Idx) :
    View.canon (strips xn gt w) y = gated xn gt w (y 0) (y 1) := by
  refine View.canon_apply_of_pieces (Val := Elt Ideal) (S := S512x4096) (e := .bf16) (fun y => gated xn gt w (y 0) (y 1)) (strips xn gt w) ?_ y
    (View.cover_of_tiledL (strips xn gt w) S512x256.size (by sl_kernel_rfl) y)
  intro p hp
  simp only [strips, List.mem_cons, List.not_mem_nil, or_false] at hp
  rcases hp with rfl | rfl | rfl | rfl | rfl | rfl | rfl | rfl | rfl | rfl | rfl | rfl | rfl | rfl | rfl | rfl
  · exact strip_gated xn gt w 15 (by omega) _ inb_S512x4096_S512x256_0_3840 slices_S512x128_o0_19_S512x1
  · exact strip_gated xn gt w 14 (by omega) _ inb_S512x4096_S512x256_0_3584 slices_S512x128_o0_18_S512x1
  · exact strip_gated xn gt w 13 (by omega) _ inb_S512x4096_S512x256_0_3328 slices_S512x128_o0_17_S512x1
  · exact strip_gated xn gt w 12 (by omega) _ inb_S512x4096_S512x256_0_3072 slices_S512x128_o0_16_S512x1
  · exact strip_gated xn gt w 11 (by omega) _ inb_S512x4096_S512x256_0_2816 slices_S512x128_o0_15_S512x1
  · exact strip_gated xn gt w 10 (by omega) _ inb_S512x4096_S512x256_0_2560 slices_S512x128_o0_14_S512x1
  · exact strip_gated xn gt w 9 (by omega) _ inb_S512x4096_S512x256_0_2304 slices_S512x128_o0_13_S512x1
  · exact strip_gated xn gt w 8 (by omega) _ inb_S512x4096_S512x256_0_2048 slices_S512x128_o0_12_S512x1
  · exact strip_gated xn gt w 7 (by omega) _ inb_S512x4096_S512x256_0_1792 slices_S512x128_o0_11_S512x1
  · exact strip_gated xn gt w 6 (by omega) _ inb_S512x4096_S512x256_0_1536 slices_S512x128_o0_10_S512x1
  · exact strip_gated xn gt w 5 (by omega) _ inb_S512x4096_S512x256_0_1280 slices_S512x128_o0_9_S512x1
  · exact strip_gated xn gt w 4 (by omega) _ inb_S512x4096_S512x256_0_1024 slices_S512x128_o0_8_S512x1
  · exact strip_gated xn gt w 3 (by omega) _ inb_S512x4096_S512x256_0_768 slices_S512x128_o0_7_S512x1
  · exact strip_gated xn gt w 2 (by omega) _ inb_S512x4096_S512x256_0_512 slices_S512x128_o0_6_S512x1
  · exact strip_gated xn gt w 1 (by omega) _ inb_S512x4096_S512x256_0_256 slices_S512x128_o0_5_S512x1
  · exact strip_gated xn gt w 0 (by omega) _ inb_S512x4096_S512x256_0_0 slices_S512x128_o0_4_S512x1

theorem gated_at (xn : FVec Ideal S512x1024 .bf16) (gt : FVec Ideal S512x128 .f32) (w : Vec Ideal S16x1024x512 .bf16) (i : Fin 512) (e : Fin 16) (f : Fin 256) :
    gated xn gt w i ⟨256 * e.val + f.val, by omega⟩
      = act (fun k => xn (ix2 i k)) (fun k => w (ix3 e k ⟨f.val, by omega⟩)) (fun k => w (ix3 e k ⟨256 + f.val, by omega⟩))
        * gt (ix2 i ⟨4 + e.val, by omega⟩) := by
  have e1 : (256 * e.val + f.val) / 256 = e.val := by omega
  have e2 : (256 * e.val + f.val) % 256 = f.val := by omega
  simp only [gated, e1, e2]

/-- A sum over the scratch's columns, expert by expert. -/
theorem sum_columns (F : Fin 4096 → EReal) : ∑ q, F q = ∑ e : Fin 16, ∑ f : Fin 256, F ⟨256 * e.val + f.val, by omega⟩ := by
  rw [← Fintype.sum_prod_type']
  refine (Fintype.sum_equiv (finProdFinEquiv (m := 16) (n := 256)) _ F fun p => ?_).symm
  refine congrArg F (Fin.ext ?_)
  simp [finProdFinEquiv]; omega

/-- The block's result at row `i`, column `k`, the row's logits being real. -/
theorem block_at (x0 : Vec Ideal S512x1024 .f32) (x1 x2 x3 x4 : Vec Ideal S512x256 .bf16) (x5 : Vec Ideal S1024x1024 .bf16) (x6 : Vec Ideal S1x1024 .f32)
    (x7 : Vec Ideal S1024x128 .bf16) (x8 : Vec Ideal S1x128 .f32) (x9 : Vec Ideal S16x1024x512 .bf16) (x10 : Vec Ideal S4096x1024 .bf16)
    (i : Fin 512) (k : Fin 1024) (g : Fin 1024 → EReal) (hid' : Fin 1024 → EReal) (l : Fin 128 → ℝ)
    (hg : ∀ k, x6 (ix2 0 k) = g k)
    (hh : hidden (fun k => x0 (ix2 i k)) (fun q => x1 (ix2 i q)) (fun q => x2 (ix2 i q)) (fun q => x3 (ix2 i q))
      (fun q => x4 (ix2 i q)) (fun q k => x5 (ix2 q k)) = hid')
    (hl : ∀ k, logit (normed hid' g) (fun q k => x7 (ix2 q k)) (fun k => x8 (ix2 0 k)) k = (l k : EReal)) :
    k0_pay2 (hid x0 x1 x2 x3 x4 x5)
          (View.canon (strips (k0_pay5 (hid x0 x1 x2 x3 x4 x5) (scl x0 x1 x2 x3 x4 x5) x6)
            (gates (hid x0 x1 x2 x3 x4 x5) (scl x0 x1 x2 x3 x4 x5) x6 x7 x8) x9)) x10 (ix2 i k)
      = hid' k + moe (normed hid' g) (fun e => (gateOf l ⟨e.val / 4, by omega⟩ ⟨e.val % 4, by omega⟩ : EReal))
          (fun e q f => x9 (ix3 e q ⟨f.val, by omega⟩)) (fun e q f => x9 (ix3 e q ⟨256 + f.val, by omega⟩))
          (fun e f k => x10 (ix2 ⟨256 * e.val + f.val, by omega⟩ k)) k := by
  have hhid : ∀ k, hid x0 x1 x2 x3 x4 x5 (ix2 i k) = hid' k := fun k => by rw [hid_at, hh]
  have hscl : scl x0 x1 x2 x3 x4 x5 (ix2 i 0) = scale hid' := by
    have e : ∀ k, k0_pay3 x0 x1 (View.ld x5 (Rect.unit ![0, 0] S256x1024.size inb_S1024x1024_S256x1024_0_0))
        x2 (View.ld x5 (Rect.unit ![256, 0] S256x1024.size inb_S1024x1024_S256x1024_256_0))
        x3 (View.ld x5 (Rect.unit ![512, 0] S256x1024.size inb_S1024x1024_S256x1024_512_0))
        x4 (View.ld x5 (Rect.unit ![768, 0] S256x1024.size inb_S1024x1024_S256x1024_768_0)) (ix2 i k) = hid' k := hhid
    unfold scl
    pointwise [k0_pay4]
    simp only [e]
    rfl
  have hxn : ∀ k, k0_pay5 (hid x0 x1 x2 x3 x4 x5) (scl x0 x1 x2 x3 x4 x5) x6 (ix2 i k) = normed hid' g k := fun k => by
    pointwise [k0_pay5]
    rw [hhid, hscl, hg]; rfl
  have hlog : ∀ k, k0_pay6 (hid x0 x1 x2 x3 x4 x5) (scl x0 x1 x2 x3 x4 x5) x6 x7 x8 (ix2 i k) = (l k : EReal) := fun k => by
    rw [← hl]
    pointwise [k0_pay6]
    simp only [hxn]; rfl
  have hgate : ∀ e : Fin 16, gates (hid x0 x1 x2 x3 x4 x5) (scl x0 x1 x2 x3 x4 x5) x6 x7 x8 (ix2 i ⟨4 + e.val, by omega⟩)
      = (gateOf l ⟨e.val / 4, by omega⟩ ⟨e.val % 4, by omega⟩ : EReal) := fun e => by
    rw [← gates_eq _ _ _ _ _ i l hlog]
    refine congrArg (fun q => gates _ _ _ _ _ (ix2 i q)) (Fin.ext ?_)
    show 4 + e.val = 4 + 4 * (e.val / 4) + e.val % 4
    omega
  pointwise [k0_pay2]
  rw [hhid, sum_columns]
  refine congrArg (hid' k + ·) (Finset.sum_congr rfl fun e _ => ?_)
  rw [mul_sum_real _ _ (gateOf_nonneg l _ _)]
  refine Finset.sum_congr rfl fun f _ => ?_
  rw [canon_strips]
  show gated _ _ _ i ⟨256 * e.val + f.val, by omega⟩ * _ = _
  rw [gated_at, hgate, mul_comm (act _ _ _), mul_assoc]
  simp only [hxn]

end Cert.KernelIdeal.Block
-- ==== Proof.Windows.lean ====
/- What the host hands the kernel: each window's array as a function of the arguments. -/
module

public import proofs.«01_k».proof.Proof.BlockAt
public import Idealize.ShloMosaic.Lib.Pipeline.ValueKit

@[expose] public section

set_option maxRecDepth 100000

noncomputable section

namespace Cert.KernelIdeal.Windows

open Cert.KernelIdeal Cert.KernelIdeal.Gen Idealize.ShloMosaic Idealize.ShloMosaic.TcCoe Cert.Route

/-! ## The reshapes -/

theorem flat_x (a : FVec Ideal S16x4096x1024 .f32) (r : Fin 65536) (k : Fin 1024) :
    shapeCast S65536x1024 a shapeCasts_S16x4096x1024_S65536x1024 (ix2 r k)
      = a (ix3 (⟨r.val / 4096, by omega⟩ : Fin 16) (⟨r.val % 4096, by omega⟩ : Fin 4096) k) := by
  pointwise

theorem flat_y (a : FVec Ideal S16x4096x256 .bf16) (r : Fin 65536) (k : Fin 256) :
    shapeCast S65536x256 a shapeCasts_S16x4096x256_S65536x256 (ix2 r k)
      = a (ix3 (⟨r.val / 4096, by omega⟩ : Fin 16) (⟨r.val % 4096, by omega⟩ : Fin 4096) k) := by
  pointwise

theorem flat_w2 (a : FVec Ideal S16x256x1024 .bf16) (e : Fin 16) (f : Fin 256) (k : Fin 1024) :
    shapeCast S4096x1024 a shapeCasts_S16x256x1024_S4096x1024 (ix2 (⟨256 * e.val + f.val, by omega⟩ : Fin 4096) k) = a (ix3 e f k) := by
  pointwise

/-! ## The windows' arrays -/

variable (m : (ℓ : Loc nD τ sig) → Buf (Elt Ideal) ℓ) (c : Dev nD)

/-- Argument 0 as launched. -/
abbrev a0 : FVec Ideal S16x4096x1024 .f32 := m ((c : Thread nD τ).loc main_arg0)
/-- Argument 1 as launched. -/
abbrev a1 : FVec Ideal S16x4096x256 .bf16 := m ((c : Thread nD τ).loc main_arg1)
/-- Argument 2 as launched. -/
abbrev a2 : FVec Ideal S16x4096x256 .bf16 := m ((c : Thread nD τ).loc main_arg2)
/-- Argument 3 as launched. -/
abbrev a3 : FVec Ideal S16x4096x256 .bf16 := m ((c : Thread nD τ).loc main_arg3)
/-- Argument 4 as launched. -/
abbrev a4 : FVec Ideal S16x4096x256 .bf16 := m ((c : Thread nD τ).loc main_arg4)
/-- Argument 5 as launched. -/
abbrev a5 : FVec Ideal S1024x1024 .f32 := m ((c : Thread nD τ).loc main_arg5)
/-- Argument 6 as launched. -/
abbrev a6 : FVec Ideal S1024 .f32 := m ((c : Thread nD τ).loc main_arg6)
/-- Argument 7 as launched. -/
abbrev a7 : FVec Ideal S1024x4 .f32 := m ((c : Thread nD τ).loc main_arg7)
/-- Argument 8 as launched. -/
abbrev a8 : FVec Ideal S4 .f32 := m ((c : Thread nD τ).loc main_arg8)
/-- Argument 9 as launched. -/
abbrev a9 : FVec Ideal S1024x16 .f32 := m ((c : Thread nD τ).loc main_arg9)
/-- Argument 10 as launched. -/
abbrev a10 : FVec Ideal S16 .f32 := m ((c : Thread nD τ).loc main_arg10)
/-- Argument 11 as launched. -/
abbrev a11 : FVec Ideal S16x1024x256 .f32 := m ((c : Thread nD τ).loc main_arg11)
/-- Argument 12 as launched. -/
abbrev a12 : FVec Ideal S16x1024x256 .f32 := m ((c : Thread nD τ).loc main_arg12)
/-- Argument 13 as launched. -/
abbrev a13 : FVec Ideal S16x256x1024 .f32 := m ((c : Thread nD τ).loc main_arg13)

theorem v12_at (r : Fin 65536) (k : Fin 1024) :
    (V m c main_v12 : FVec Ideal S65536x1024 .f32) (ix2 r k) = a0 m c (ix3 (⟨r.val / 4096, by omega⟩ : Fin 16) (⟨r.val % 4096, by omega⟩ : Fin 4096) k) := by
  have e : (V m c main_v12 : FVec Ideal S65536x1024 .f32) = shapeCast S65536x1024 (a0 m c) shapeCasts_S16x4096x1024_S65536x1024 := by
    show StableHlo.after hostOps0 _ (Proc.devRef .tc main_v12) = _
    after_results
    rfl
  rw [e, flat_x]

theorem v13_at (r : Fin 65536) (k : Fin 256) :
    (V m c main_v13 : FVec Ideal S65536x256 .bf16) (ix2 r k) = a1 m c (ix3 (⟨r.val / 4096, by omega⟩ : Fin 16) (⟨r.val % 4096, by omega⟩ : Fin 4096) k) := by
  have e : (V m c main_v13 : FVec Ideal S65536x256 .bf16) = shapeCast S65536x256 (a1 m c) shapeCasts_S16x4096x256_S65536x256 := by
    show StableHlo.after hostOps0 _ (Proc.devRef .tc main_v13) = _
    after_results
    rfl
  rw [e, flat_y]

theorem v14_at (r : Fin 65536) (k : Fin 256) :
    (V m c main_v14 : FVec Ideal S65536x256 .bf16) (ix2 r k) = a2 m c (ix3 (⟨r.val / 4096, by omega⟩ : Fin 16) (⟨r.val % 4096, by omega⟩ : Fin 4096) k) := by
  have e : (V m c main_v14 : FVec Ideal S65536x256 .bf16) = shapeCast S65536x256 (a2 m c) shapeCasts_S16x4096x256_S65536x256 := by
    show StableHlo.after hostOps0 _ (Proc.devRef .tc main_v14) = _
    after_results
    rfl
  rw [e, flat_y]

theorem v15_at (r : Fin 65536) (k : Fin 256) :
    (V m c main_v15 : FVec Ideal S65536x256 .bf16) (ix2 r k) = a3 m c (ix3 (⟨r.val / 4096, by omega⟩ : Fin 16) (⟨r.val % 4096, by omega⟩ : Fin 4096) k) := by
  have e : (V m c main_v15 : FVec Ideal S65536x256 .bf16) = shapeCast S65536x256 (a3 m c) shapeCasts_S16x4096x256_S65536x256 := by
    show StableHlo.after hostOps0 _ (Proc.devRef .tc main_v15) = _
    after_results
    rfl
  rw [e, flat_y]

theorem v16_at (r : Fin 65536) (k : Fin 256) :
    (V m c main_v16 : FVec Ideal S65536x256 .bf16) (ix2 r k) = a4 m c (ix3 (⟨r.val / 4096, by omega⟩ : Fin 16) (⟨r.val % 4096, by omega⟩ : Fin 4096) k) := by
  have e : (V m c main_v16 : FVec Ideal S65536x256 .bf16) = shapeCast S65536x256 (a4 m c) shapeCasts_S16x4096x256_S65536x256 := by
    show StableHlo.after hostOps0 _ (Proc.devRef .tc main_v16) = _
    after_results
    rfl
  rw [e, flat_y]

theorem v0_at (q k : Fin 1024) : (V m c main_v0 : FVec Ideal S1024x1024 .bf16) (ix2 q k) = a5 m c (ix2 q k) := by
  have e : (V m c main_v0 : FVec Ideal S1024x1024 .bf16) = truncf .bf16 (a5 m c) bitsLt_bf16_f32 := by
    show StableHlo.after hostOps0 _ (Proc.devRef .tc main_v0) = _
    after_results
  rw [e]
  pointwise

theorem v1_at (k : Fin 1024) : (V m c main_v1 : FVec Ideal S1x1024 .f32) (ix2 0 k) = a6 m c (ix1 k) := by
  have e : (V m c main_v1 : FVec Ideal S1x1024 .f32) = shapeCast S1x1024 (a6 m c) shapeCasts_S1024_S1x1024 := by
    show StableHlo.after hostOps0 _ (Proc.devRef .tc main_v1) = _
    after_results
    rfl
  rw [e]
  generalize a6 m c = a
  pointwise

/-- The router's columns: the group's four, the experts' sixteen, the rest zero. -/
theorem v4_at (q : Fin 1024) (j : Fin 128) : (V m c main_v4 : FVec Ideal S1024x128 .bf16) (ix2 q j)
    = if h : j.val < 4 then a7 m c (ix2 q ⟨j.val, h⟩) else if h : j.val - 4 < 16 then a9 m c (ix2 q ⟨j.val - 4, h⟩) else 0 := by
  have e : (V m c main_v4 : FVec Ideal S1024x128 .bf16) = truncf .bf16 (concatenate S1024x128 1 [⟨S1024x4, a7 m c⟩, ⟨S1024x16, a9 m c⟩,
      ⟨S1024x108, broadcastInDim S1024x108 ![] bcast_S_S1024x108 (constant S_ .f32 0x00000000#32)⟩]
      concatenates_S1024x4_S1024x16_S1024x108_S1024x128_d1 : FVec Ideal S1024x128 .f32) bitsLt_bf16_f32 := by
    show StableHlo.after hostOps0 _ (Proc.devRef .tc main_v4) = _
    after_results
    rfl
  rw [e]
  pointwise

theorem v7_at (j : Fin 128) : (V m c main_v7 : FVec Ideal S1x128 .f32) (ix2 0 j)
    = if h : j.val < 4 then a8 m c (ix1 ⟨j.val, h⟩) else if h : j.val - 4 < 16 then a10 m c (ix1 ⟨j.val - 4, h⟩) else 0 := by
  have e : (V m c main_v7 : FVec Ideal S1x128 .f32) = shapeCast S1x128 (concatenate S128 0 [⟨S4, a8 m c⟩, ⟨S16, a10 m c⟩,
      ⟨S108, broadcastInDim S108 ![] bcast_S_S108 (constant S_ .f32 0x00000000#32)⟩]
      concatenates_S4_S16_S108_S128_d0 : FVec Ideal S128 .f32) shapeCasts_S128_S1x128 := by
    show StableHlo.after hostOps0 _ (Proc.devRef .tc main_v7) = _
    after_results
    rfl
  rw [e]
  generalize a8 m c = a
  generalize a10 m c = b
  pointwise

/-- The experts' first and third weights side by side. -/
theorem v9_at (e : Fin 16) (q : Fin 1024) (j : Fin 512) : (V m c main_v9 : FVec Ideal S16x1024x512 .bf16) (ix3 e q j)
    = if h : j.val < 256 then a11 m c (ix3 e q ⟨j.val, h⟩) else a12 m c (ix3 e q ⟨j.val - 256, by omega⟩) := by
  have e : (V m c main_v9 : FVec Ideal S16x1024x512 .bf16) = truncf .bf16 (concatenate S16x1024x512 2 [⟨S16x1024x256, a11 m c⟩,
      ⟨S16x1024x256, a12 m c⟩] concatenates_S16x1024x256_S16x1024x256_S16x1024x512_d2 : FVec Ideal S16x1024x512 .f32) bitsLt_bf16_f32 := by
    show StableHlo.after hostOps0 _ (Proc.devRef .tc main_v9) = _
    after_results
  rw [e]
  pointwise

theorem v11_at (e : Fin 16) (f : Fin 256) (k : Fin 1024) :
    (V m c main_v11 : FVec Ideal S4096x1024 .bf16) (ix2 (⟨256 * e.val + f.val, by omega⟩ : Fin 4096) k) = a13 m c (ix3 e f k) := by
  have e : (V m c main_v11 : FVec Ideal S4096x1024 .bf16) = shapeCast S4096x1024 (truncf .bf16 (a13 m c) bitsLt_bf16_f32) shapeCasts_S16x256x1024_S4096x1024 := by
    show StableHlo.after hostOps0 _ (Proc.devRef .tc main_v11) = _
    after_results
    rfl
  rw [e, flat_w2]
  pointwise

/-! ## The windows' blocks -/

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index11 : ∀ t : Fin cfg0.N, win0_11.index t = ![t.val, 0] := (by decide +kernel : ∀ t : Fin grid0.N, win0_11.index t = ![t.val, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index10 : ∀ t : Fin cfg0.N, win0_10.index t = ![0, 0] := (by decide +kernel : ∀ t : Fin grid0.N, win0_10.index t = ![0, 0])
theorem index9 : ∀ t : Fin cfg0.N, win0_9.index t = ![0, 0, 0] := (by decide +kernel : ∀ t : Fin grid0.N, win0_9.index t = ![0, 0, 0])

theorem blk0_at (t : Fin cfg0.N) (i : Fin 512) (k : Fin 1024) (r : Fin 65536) (hr : r.val = t.val * 512 + i.val) :
    (iblk m c 0 t : FVec Ideal S512x1024 .f32) (ix2 i k) = a0 m c (ix3 (⟨r.val / 4096, by omega⟩ : Fin 16) (⟨r.val % 4096, by omega⟩ : Fin 4096) k) := by
  rw [← v12_at]
  blk_simp [iblk]
  refine congrArg (V m c main_v12) ?_
  blk_ext [index0]

theorem blk1_at (t : Fin cfg0.N) (i : Fin 512) (k : Fin 256) (r : Fin 65536) (hr : r.val = t.val * 512 + i.val) :
    (iblk m c 1 t : FVec Ideal S512x256 .bf16) (ix2 i k) = a1 m c (ix3 (⟨r.val / 4096, by omega⟩ : Fin 16) (⟨r.val % 4096, by omega⟩ : Fin 4096) k) := by
  rw [← v13_at]
  blk_simp [iblk]
  refine congrArg (V m c main_v13) ?_
  blk_ext [index1]

theorem blk2_at (t : Fin cfg0.N) (i : Fin 512) (k : Fin 256) (r : Fin 65536) (hr : r.val = t.val * 512 + i.val) :
    (iblk m c 2 t : FVec Ideal S512x256 .bf16) (ix2 i k) = a2 m c (ix3 (⟨r.val / 4096, by omega⟩ : Fin 16) (⟨r.val % 4096, by omega⟩ : Fin 4096) k) := by
  rw [← v14_at]
  blk_simp [iblk]
  refine congrArg (V m c main_v14) ?_
  blk_ext [index2]

theorem blk3_at (t : Fin cfg0.N) (i : Fin 512) (k : Fin 256) (r : Fin 65536) (hr : r.val = t.val * 512 + i.val) :
    (iblk m c 3 t : FVec Ideal S512x256 .bf16) (ix2 i k) = a3 m c (ix3 (⟨r.val / 4096, by omega⟩ : Fin 16) (⟨r.val % 4096, by omega⟩ : Fin 4096) k) := by
  rw [← v15_at]
  blk_simp [iblk]
  refine congrArg (V m c main_v15) ?_
  blk_ext [index3]

theorem blk4_at (t : Fin cfg0.N) (i : Fin 512) (k : Fin 256) (r : Fin 65536) (hr : r.val = t.val * 512 + i.val) :
    (iblk m c 4 t : FVec Ideal S512x256 .bf16) (ix2 i k) = a4 m c (ix3 (⟨r.val / 4096, by omega⟩ : Fin 16) (⟨r.val % 4096, by omega⟩ : Fin 4096) k) := by
  rw [← v16_at]
  blk_simp [iblk]
  refine congrArg (V m c main_v16) ?_
  blk_ext [index4]

theorem blk5_eq (t : Fin cfg0.N) : (iblk m c 5 t : FVec Ideal S1024x1024 .bf16) = (V m c main_v0 : FVec Ideal S1024x1024 .bf16) := by
  funext y
  blk_simp [iblk]
  refine congrArg (V m c main_v0) ?_
  blk_ext [index5]

theorem blk6_eq (t : Fin cfg0.N) : (iblk m c 6 t : FVec Ideal S1x1024 .f32) = (V m c main_v1 : FVec Ideal S1x1024 .f32) := by
  funext y
  blk_simp [iblk]
  refine congrArg (V m c main_v1) ?_
  blk_ext [index6]

theorem blk7_eq (t : Fin cfg0.N) : (iblk m c 7 t : FVec Ideal S1024x128 .bf16) = (V m c main_v4 : FVec Ideal S1024x128 .bf16) := by
  funext y
  blk_simp [iblk]
  refine congrArg (V m c main_v4) ?_
  blk_ext [index7]

theorem blk8_eq (t : Fin cfg0.N) : (iblk m c 8 t : FVec Ideal S1x128 .f32) = (V m c main_v7 : FVec Ideal S1x128 .f32) := by
  funext y
  blk_simp [iblk]
  refine congrArg (V m c main_v7) ?_
  blk_ext [index8]

theorem blk9_eq (t : Fin cfg0.N) : (iblk m c 9 t : FVec Ideal S16x1024x512 .bf16) = (V m c main_v9 : FVec Ideal S16x1024x512 .bf16) := by
  funext y
  blk_simp [iblk]
  refine congrArg (V m c main_v9) ?_
  blk_ext [index9]

theorem blk10_eq (t : Fin cfg0.N) : (iblk m c 10 t : FVec Ideal S4096x1024 .bf16) = (V m c main_v11 : FVec Ideal S4096x1024 .bf16) := by
  funext y
  blk_simp [iblk]
  refine congrArg (V m c main_v11) ?_
  blk_ext [index10]

end Cert.KernelIdeal.Windows
-- ==== Proof.Array.lean ====
/- What the kernel leaves in its result array: at every row the layer's row, the rows' router logits being real. -/
module

public import proofs.«01_k».proof.Proof.Windows

@[expose] public section

set_option maxRecDepth 100000

noncomputable section

namespace Cert.KernelIdeal.Windows

open Cert.KernelIdeal Cert.KernelIdeal.Gen Idealize.ShloMosaic Idealize.ShloMosaic.TcCoe Cert.Route Cert.KernelIdeal.Block

variable (m : (ℓ : Loc nD τ sig) → Buf (Elt Ideal) ℓ) (c : Dev nD)

/-- The hidden row `r`, from the arguments. -/
def hrow (r : Fin 65536) : Fin 1024 → EReal :=
  hidden (fun k => a0 m c (ix3 (⟨r.val / 4096, by omega⟩ : Fin 16) (⟨r.val % 4096, by omega⟩ : Fin 4096) k))
    (fun k => a1 m c (ix3 (⟨r.val / 4096, by omega⟩ : Fin 16) (⟨r.val % 4096, by omega⟩ : Fin 4096) k))
    (fun k => a2 m c (ix3 (⟨r.val / 4096, by omega⟩ : Fin 16) (⟨r.val % 4096, by omega⟩ : Fin 4096) k))
    (fun k => a3 m c (ix3 (⟨r.val / 4096, by omega⟩ : Fin 16) (⟨r.val % 4096, by omega⟩ : Fin 4096) k))
    (fun k => a4 m c (ix3 (⟨r.val / 4096, by omega⟩ : Fin 16) (⟨r.val % 4096, by omega⟩ : Fin 4096) k))
    (fun q k => a5 m c (ix2 q k))

/-- The normed row `r`. -/
def xrow (r : Fin 65536) : Fin 1024 → EReal := normed (hrow m c r) fun k => a6 m c (ix1 k)

/-- The lanes of a row: the group's four logits, the experts' sixteen, zeros. -/
def lanes (f : Fin 4 → ℝ) (l : Fin 16 → ℝ) (j : Fin 128) : ℝ :=
  if h : j.val < 4 then f ⟨j.val, h⟩ else if h : j.val - 4 < 16 then l ⟨j.val - 4, h⟩ else 0

theorem gateOf_lanes (f : Fin 4 → ℝ) (l : Fin 16 → ℝ) : gateOf (lanes f l) = gateAt f (byGroup l) := by
  have h1 : grp (lanes f l) = f := by
    funext j
    simp only [grp, lanes]
    rw [dif_pos j.isLt]
  have h2 : mem (lanes f l) = byGroup l := by
    funext a j
    simp only [mem, lanes, byGroup]
    rw [dif_neg (by omega), dif_pos (by omega)]
    congr 2
    omega
  funext e q
  rw [gateOf, gateAt, h1, h2]

variable (f : Fin 65536 → Fin 4 → ℝ) (l : Fin 65536 → Fin 16 → ℝ)
  (hf : ∀ r j, logit (xrow m c r) (fun q k => a7 m c (ix2 q k)) (fun k => a8 m c (ix1 k)) j = (f r j : EReal))
  (hl : ∀ r j, logit (xrow m c r) (fun q k => a9 m c (ix2 q k)) (fun k => a10 m c (ix1 k)) j = (l r j : EReal))
include hf hl

theorem lanes_at (r : Fin 65536) (j : Fin 128) :
    logit (xrow m c r) (fun q k => (V m c main_v4 : FVec Ideal S1024x128 .bf16) (ix2 q k)) (fun k => (V m c main_v7 : FVec Ideal S1x128 .f32) (ix2 0 k)) j
      = (lanes (f r) (l r) j : EReal) := by
  have e (a : Fin 1024 → EReal) (b v : EReal) (ha : ∀ q, (V m c main_v4 : FVec Ideal S1024x128 .bf16) (ix2 q j) = a q)
      (hb : (V m c main_v7 : FVec Ideal S1x128 .f32) (ix2 0 j) = b) (hv : ∑ q, xrow m c r q * a q + b = v) :
      logit (xrow m c r) (fun q k => (V m c main_v4 : FVec Ideal S1024x128 .bf16) (ix2 q k))
        (fun k => (V m c main_v7 : FVec Ideal S1x128 .f32) (ix2 0 k)) j = v := by
    rw [← hv, logit, hb]
    exact congrArg (· + b) (Finset.sum_congr rfl fun q _ => by rw [ha])
  unfold lanes
  by_cases h : j.val < 4
  · rw [dif_pos h]
    exact e _ _ _ (fun q => (v4_at m c q j).trans (dif_pos h)) ((v7_at m c j).trans (dif_pos h)) (hf r ⟨j.val, h⟩)
  rw [dif_neg h]
  by_cases h' : j.val - 4 < 16
  · rw [dif_pos h']
    exact e _ _ _ (fun q => (v4_at m c q j).trans ((dif_neg h).trans (dif_pos h')))
      ((v7_at m c j).trans ((dif_neg h).trans (dif_pos h'))) (hl r ⟨j.val - 4, h'⟩)
  · rw [dif_neg h']
    exact e _ _ _ (fun q => (v4_at m c q j).trans ((dif_neg h).trans (dif_neg h')))
      ((v7_at m c j).trans ((dif_neg h).trans (dif_neg h'))) (by simp)

/-- The result array at row `r`, column `k`. -/
theorem array_eq : (Gen.dats m 0 c).arrAt 11 cfg0.N = fun i : S65536x1024.Idx =>
    layer (hrow m c (i 0)) (fun k => a6 m c (ix1 k)) (f (i 0)) (l (i 0)) (fun e q j => a11 m c (ix3 e q j)) (fun e q j => a12 m c (ix3 e q j))
      (fun e j k => a13 m c (ix3 e j k)) (i 1) := by
  refine (Gen.dats m 0 c).arrAt_eq_of_covers 11 _ (by decide +kernel) fun t hf' y => ?_
  blk_simp
  rw [after0_11]
  obtain ⟨i, k, rfl⟩ : ∃ (i : Fin 512) (k : Fin 1024), y = ix2 i k := ⟨y 0, y 1, by funext a; fin_cases a <;> rfl⟩
  have ht : t.val < 128 := t.isLt
  obtain ⟨r, hr⟩ : ∃ r : Fin 65536, r.val = t.val * 512 + i.val := ⟨⟨t.val * 512 + i.val, by omega⟩, rfl⟩
  have h0 : ((win0_11.blk t).view.emb (ix2 i k) : S65536x1024.Idx) = ix2 r k := by blk_ext [index11]
  refine Eq.trans ?_ (congrArg (fun i : S65536x1024.Idx =>
    layer (hrow m c (i 0)) (fun k => a6 m c (ix1 k)) (f (i 0)) (l (i 0)) (fun e q j => a11 m c (ix3 e q j)) (fun e q j => a12 m c (ix3 e q j))
      (fun e j k => a13 m c (ix3 e j k)) (i 1)) h0).symm
  refine (congrFun (out_eq _ _ _ _ _ _ _ _ _ _ _ _ _ _ _ _ _ _ _ _ _ _ _ _ _ _ _ _ _ _ _ _ _ _ _ _ _ _ _) (ix2 i k)).trans ?_
  rw [blk5_eq, blk6_eq, blk7_eq, blk8_eq, blk9_eq, blk10_eq]
  rw [block_at _ _ _ _ _ _ _ _ _ _ _ i k (fun k => a6 m c (ix1 k)) (hrow m c r) (lanes (f r) (l r)) (v1_at m c) ?_ (lanes_at m c f l hf hl r)]
  · rw [gateOf_lanes]
    have key {u u' v v' : Fin 16 → Fin 1024 → Fin 256 → EReal} {w w' : Fin 16 → Fin 256 → Fin 1024 → EReal} (hu : u = u') (hv : v = v') (hw : w = w')
        (n : Fin 1024 → EReal) (g : Fin 16 → EReal) (h : EReal) : h + moe n g u v w k = h + moe n g u' v' w' k := by
      rw [hu, hv, hw]
    refine key ?_ ?_ ?_ _ _ _
    · funext e q j
      exact (v9_at m c e q _).trans (dif_pos j.isLt)
    · funext e q j
      refine (v9_at m c e q _).trans ((dif_neg (by simp)).trans (congrArg (fun j => a12 m c (ix3 e q j)) (Fin.ext ?_)))
      exact Nat.add_sub_cancel_left 256 j.val
    · funext e j k
      exact v11_at m c e j k
  · simp only [blk0_at m c t i _ r hr, blk1_at m c t i _ r hr, blk2_at m c t i _ r hr, blk3_at m c t i _ r hr, blk4_at m c t i _ r hr, v0_at]
    rfl

end Cert.KernelIdeal.Windows
-- ==== Proof.RefRows.lean ====
/- The reference's hidden rows, their norms and the router's logits. -/
module

public import proofs.«01_k».proof.Proof.Rows
public import proofs.«01_k».proof.Proof.Gen.ReferenceIdeal.Run
public import proofs.«01_k».proof.Proof.Gen.ReferenceIdeal.Read

@[expose] public section

set_option maxRecDepth 100000

noncomputable section

namespace Cert.ReferenceIdeal.Rows

open Cert.ReferenceIdeal Cert.ReferenceIdeal.Gen Cert.ReferenceIdeal.Read Idealize.ShloMosaic Cert.Route

/-- A sum over the four mixers' columns side by side. -/
theorem sum_quarters (F : Fin 1024 → EReal) : ∑ q, F q = ∑ q : Fin 256, F ⟨q.val, by omega⟩ + ∑ q : Fin 256, F ⟨256 + q.val, by omega⟩
    + ∑ q : Fin 256, F ⟨512 + q.val, by omega⟩ + ∑ q : Fin 256, F ⟨768 + q.val, by omega⟩ := by
  have h : ∑ q, F q = ∑ a : Fin 4, ∑ q : Fin 256, F ⟨256 * a.val + q.val, by omega⟩ := by
    rw [← Fintype.sum_prod_type']
    refine (Fintype.sum_equiv (finProdFinEquiv (m := 4) (n := 256)) _ F fun p => ?_).symm
    refine congrArg F (Fin.ext ?_)
    simp [finProdFinEquiv]; omega
  rw [h, Fin.sum_univ_four]
  simp

variable (x0 : FVec Ideal S16x4096x1024 .f32) (x1 x2 x3 x4 : FVec Ideal S16x4096x256 .bf16) (x5 : FVec Ideal S1024x1024 .f32) (x6 : FVec Ideal S1024 .f32)

/-- The hidden row at place `s` of sequence `b`. -/
def hrow (b : Fin 16) (s : Fin 4096) : Fin 1024 → EReal :=
  hidden (fun k => x0 (ix3 b s k)) (fun k => x1 (ix3 b s k)) (fun k => x2 (ix3 b s k)) (fun k => x3 (ix3 b s k)) (fun k => x4 (ix3 b s k))
    (fun q k => x5 (ix2 q k))

theorem v6_at (b : Fin 16) (s : Fin 4096) (k : Fin 1024) : val_main_v6 (F := Ideal) x0 x1 x2 x3 x4 x5 (ix3 b s k) = hrow x0 x1 x2 x3 x4 x5 b s k := by
  pointwise [val_main_v6, val_main_v5, val_main_v4, val_main_v3, val_main_v2, val_main_v1, val_main_v0]
  rw [sum_quarters, hrow, Cert.Route.hidden, add_assoc (x0 _ + _ + _), add_assoc (x0 _ + _), add_assoc (x0 _)]
  rw [add_assoc, add_assoc]
  refine congrArg (x0 _ + ·) (congrArg₂ (· + ·) ?_ (congrArg₂ (· + ·) ?_ (congrArg₂ (· + ·) ?_ ?_))) <;>
    refine Finset.sum_congr rfl fun q _ => congrArg (· * _) ?_
  · exact dif_pos q.isLt
  · rw [dif_neg (by simp), dif_pos (by simp)]
    exact congrArg (fun q => x2 (ix3 b s q)) (Fin.ext (by simp))
  · rw [dif_neg (by simp; omega), dif_neg (by simp; omega), dif_pos (by simp; omega)]
    exact congrArg (fun q => x3 (ix3 b s q)) (Fin.ext (by simp; omega))
  · rw [dif_neg (by simp; omega), dif_neg (by simp; omega), dif_neg (by simp; omega)]
    exact congrArg (fun q => x4 (ix3 b s q)) (Fin.ext (by simp; omega))

theorem v20_at (b : Fin 16) (s : Fin 4096) (k : Fin 1024) :
    val_main_v20 (F := Ideal) x0 x1 x2 x3 x4 x5 x6 (ix3 b s k) = normed (hrow x0 x1 x2 x3 x4 x5 b s) (fun k => x6 (ix1 k)) k := by
  pointwise [val_main_v20, val_main_v19, val_main_v18, val_main_v17, val_main_v16, val_main_v15, val_main_v14, val_main_v13, val_main_v12, val_main_v11,
    val_main_v10, val_main_v9, val_main_v8, val_main_cst, val_main_cst_0, val_main_cst_1]
  simp only [v6_at]
  rfl

/-- The hidden row `r` of all sequences, one after the other. -/
def hflat (r : Fin 65536) : Fin 1024 → EReal := hrow x0 x1 x2 x3 x4 x5 ⟨r.val / 4096, by omega⟩ ⟨r.val % 4096, by omega⟩

/-- The normed row `r`. -/
def xflat (r : Fin 65536) : Fin 1024 → EReal := normed (hflat x0 x1 x2 x3 x4 x5 r) fun k => x6 (ix1 k)

theorem v7_at (r : Fin 65536) (k : Fin 1024) : val_main_v7 (F := Ideal) x0 x1 x2 x3 x4 x5 (ix2 r k) = hflat x0 x1 x2 x3 x4 x5 r k := by
  pointwise [val_main_v7]
  rw [v6_at, hflat]

theorem v21_at (r : Fin 65536) (k : Fin 1024) : val_main_v21 (F := Ideal) x0 x1 x2 x3 x4 x5 x6 (ix2 r k) = xflat x0 x1 x2 x3 x4 x5 x6 r k := by
  pointwise [val_main_v21]
  rw [v20_at, xflat, hflat]

theorem v25_at (x7 : FVec Ideal S1024x4 .f32) (x8 : FVec Ideal S4 .f32) (r : Fin 65536) (j : Fin 4) :
    val_main_v25 (F := Ideal) x0 x1 x2 x3 x4 x5 x6 x7 x8 (ix2 r j)
      = logit (xflat x0 x1 x2 x3 x4 x5 x6 r) (fun q k => x7 (ix2 q k)) (fun k => x8 (ix1 k)) j := by
  pointwise [val_main_v25, val_main_v24, val_main_v23, val_main_v22]
  simp only [v21_at]
  rfl

theorem v44_at (x9 : FVec Ideal S1024x16 .f32) (x10 : FVec Ideal S16 .f32) (r : Fin 65536) (j : Fin 16) :
    val_main_v44 (F := Ideal) x0 x1 x2 x3 x4 x5 x6 x9 x10 (ix2 r j)
      = logit (xflat x0 x1 x2 x3 x4 x5 x6 r) (fun q k => x9 (ix2 q k)) (fun k => x10 (ix1 k)) j := by
  pointwise [val_main_v44, val_main_v43, val_main_v42, val_main_v41]
  simp only [v21_at]
  rfl

end Cert.ReferenceIdeal.Rows
-- ==== Proof.RefRoute.lean ====
/- The reference's gates: for one row of real logits, softmax and greatest group, softmax and two greatest experts of that group. -/
module

public import proofs.«01_k».proof.Proof.RefRows

@[expose] public section

set_option maxRecDepth 100000

noncomputable section

namespace Cert.ReferenceIdeal.Rows

open Cert.ReferenceIdeal Cert.ReferenceIdeal.Gen Cert.ReferenceIdeal.Read Idealize.ShloMosaic Cert.Route

/-! ## Sorting a row of four -/

theorem rank_congr {n : ℕ} {p f : Fin n → ℝ} (h : ∀ i j, p i < p j ↔ f i < f j) : rank p = rank f := by
  unfold rank
  simp only [h]

theorem along_row (r : Fin 65536) (k k' : Fin 4) : Shape.Idx.along (s := S65536x4) (ix2 r k) 1 k' = ix2 r k' := by
  funext a
  fin_cases a <;> rfl

theorem sort_at (x : FVec Ideal S65536x4 .f32) (y : IVec S65536x4 32) (r : Fin 65536) (p : Fin 4 → ℝ) (hx : ∀ j, x (ix2 r j) = (p j : EReal)) (k : Fin 4) :
    (Host.sort2 S65536x4 1 (fun l r => FloatOps.cmpfTotal (F := Ideal) (φ := .f32) .gt l.1 r.1) x y).1 (ix2 r k) = (p (rank p k) : EReal)
      ∧ (Host.sort2 S65536x4 1 (fun l r => FloatOps.cmpfTotal (F := Ideal) (φ := .f32) .gt l.1 r.1) x y).2 (ix2 r k) = y (ix2 r (rank p k)) := by
  have e : (sortedFrom (n := 4) fun k₁ k₂ => FloatOps.cmpfTotal (F := Ideal) (φ := .f32) .gt (x (Shape.Idx.along (s := S65536x4) (ix2 r k) 1 k₁))
      (x (Shape.Idx.along (s := S65536x4) (ix2 r k) 1 k₂)) == 1#1) = rank p := by
    unfold rank
    refine congrArg sortedFrom (funext fun k₁ => funext fun k₂ => ?_)
    rw [along_row, along_row, hx, hx]
    show (BitVec.ofBool (decide ((p k₂ : EReal) < p k₁)) == 1#1) = _
    by_cases h : p k₂ < p k₁ <;> simp [h, EReal.coe_lt_coe_iff]
  exact ⟨(congrArg (fun k' => x (Shape.Idx.along (s := S65536x4) (ix2 r k) 1 k')) (congrFun e k)).trans (by rw [along_row, hx]),
    (congrArg (fun k' => y (Shape.Idx.along (s := S65536x4) (ix2 r k) 1 k')) (congrFun e k)).trans (by rw [along_row])⟩

theorem top1_at (x : FVec Ideal S65536x4 .f32) (r : Fin 65536) (p : Fin 4 → ℝ) (hx : ∀ j, x (ix2 r j) = (p j : EReal)) :
    (Host.topK S65536x1 1 (FloatOps.cmpfTotal .gt) x sliceFits_S65536x4_S65536x1).2 (ix2 r 0) = BitVec.ofNat 32 (rank p 0).val := by
  unfold Host.topK
  pointwise
  exact ((sort_at x _ r p hx 0).2).trans rfl

theorem top2_at (x : FVec Ideal S65536x4 .f32) (r : Fin 65536) (p : Fin 4 → ℝ) (hx : ∀ j, x (ix2 r j) = (p j : EReal)) (q : Fin 2) :
    (Host.topK S65536x2 1 (FloatOps.cmpfTotal .gt) x sliceFits_S65536x4_S65536x2).1 (ix2 r q) = (p (rank p (q.castLE (by omega))) : EReal)
    ∧ (Host.topK S65536x2 1 (FloatOps.cmpfTotal .gt) x sliceFits_S65536x4_S65536x2).2 (ix2 r q) = BitVec.ofNat 32 (rank p (q.castLE (by omega))).val := by
  unfold Host.topK
  constructor
  · pointwise
    exact (sort_at x _ r p hx _).1
  · pointwise
    exact ((sort_at x _ r p hx _).2).trans rfl

/-! ## The softmax of a row of four -/

theorem max_at (f : Fin 4 → ℝ) : max (⊥ : EReal) (Finset.univ.fold max ⊥ fun j => (f j : EReal)) = f (rank f 0) := by
  rw [foldMax_eq _ (fun j => EReal.coe_le_coe_iff.2 ((first_rank f).1 j)) (rank f 0) rfl]
  exact max_eq_right bot_le

theorem soft_at (f : Fin 4 → ℝ) (j : Fin 4) :
    Ideal.div (Ideal.exp ((f j : EReal) - f (rank f 0))) (∑ i, Ideal.exp ((f i : EReal) - f (rank f 0))) = (soft f (rank f 0) j : EReal) := by
  simp only [← EReal.coe_sub, Ideal.exp_coe, ← coe_sum]
  rw [div_real _ (expsum_pos f _).ne', soft]

theorem rank_soft (f : Fin 4 → ℝ) : rank (fun j => soft f (rank f 0) j) = rank f := rank_congr fun i j => soft_lt f _

theorem lit_bot : Ideal.ofBits .f32 0xFF800000#32 = ⊥ := by simp [Ideal.ofBits, Ideal.ieee]

/-- The bit of an equality of two places, as a number. -/
theorem onehot (a b : Fin 4) : FloatOps.uitofp (F := Ideal) .f32 (IntOp.cmpi .eq (BitVec.ofNat 32 a.val) (BitVec.ofNat 32 b.val)) = if b = a then (1 : EReal) else 0 := by
  have h : ∀ a b : Fin 4, IntOp.cmpi .eq (BitVec.ofNat 32 a.val) (BitVec.ofNat 32 b.val) = BitVec.ofBool (decide (b = a)) := by decide
  rw [h]
  show (((BitVec.ofBool (decide (b = a))).toNat : ℝ) : EReal) = _
  by_cases e : b = a <;> simp [e]

section

variable (x0 : FVec Ideal S16x4096x1024 .f32) (x1 x2 x3 x4 : FVec Ideal S16x4096x256 .bf16) (x5 : FVec Ideal S1024x1024 .f32) (x6 : FVec Ideal S1024 .f32)
  (x7 : FVec Ideal S1024x4 .f32) (x8 : FVec Ideal S4 .f32) (r : Fin 65536) (f : Fin 4 → ℝ)
  (hf : ∀ j, val_main_v25 (F := Ideal) x0 x1 x2 x3 x4 x5 x6 x7 x8 (ix2 r j) = (f j : EReal))
include hf

theorem v36_at (j : Fin 4) : val_main_v36 (F := Ideal) x0 x1 x2 x3 x4 x5 x6 x7 x8 (ix2 r j) = (soft f (rank f 0) j : EReal) := by
  pointwise [val_main_v36, val_main_v35, val_main_v34, val_main_v33, val_main_v32, val_main_v31, val_main_v30, val_main_v29, val_main_v28, val_main_v27,
    val_main_v26, val_main_cst_2, val_main_cst_3, val_main_cst_4]
  simp only [hf, lit_bot, max_at, soft_at]

theorem v38_at (a : Fin 4) : val_main_v38 (F := Ideal) x0 x1 x2 x3 x4 x5 x6 x7 x8 (ix2 r a) = if a = rank f 0 then (1 : EReal) else 0 := by
  have h := top1_at _ r _ (v36_at x0 x1 x2 x3 x4 x5 x6 x7 x8 r f hf)
  rw [rank_soft] at h
  pointwise [val_main_v38, val_main_call0_v4, val_main_call0_v3, val_main_call0_v2, val_main_call0_v1, val_main_call0_v0, val_main_v37, val_main_indices]
  rw [h]
  exact onehot _ _

theorem v40_at : val_main_v40 (F := Ideal) x0 x1 x2 x3 x4 x5 x6 x7 x8 (ix1 r) = (share f (rank f 0) : EReal) := by
  pointwise [val_main_v40, val_main_v39, val_main_cst_5]
  simp only [v36_at x0 x1 x2 x3 x4 x5 x6 x7 x8 r f hf, v38_at x0 x1 x2 x3 x4 x5 x6 x7 x8 r f hf]
  simp [share, soft]

end

end Cert.ReferenceIdeal.Rows
-- ==== Proof.RefGate.lean ====
/- The reference's gates of the sixteen experts. -/
module

public import proofs.«01_k».proof.Proof.RefRoute

@[expose] public section

set_option maxRecDepth 100000

noncomputable section

namespace Cert.ReferenceIdeal.Rows

open Cert.ReferenceIdeal Cert.ReferenceIdeal.Gen Cert.ReferenceIdeal.Read Idealize.ShloMosaic Cert.Route

/-- The two places' shares among themselves, put at their places of the chosen group and scaled by its weight, are the gates. -/
theorem pick_two (f : Fin 4 → ℝ) (x : Fin 4 → Fin 4 → ℝ) (a j : Fin 4) :
    ((if a = rank f 0 then (1 : EReal) else 0)
        * ∑ q : Fin 2, Ideal.div (soft (x (rank f 0)) (rank (x (rank f 0)) 0) (rank (x (rank f 0)) (q.castLE (by omega))) : EReal)
              (∑ q : Fin 2, (soft (x (rank f 0)) (rank (x (rank f 0)) 0) (rank (x (rank f 0)) (q.castLE (by omega))) : EReal))
            * if j = rank (x (rank f 0)) (q.castLE (by omega)) then (1 : EReal) else 0)
      * (share f (rank f 0) : EReal) = (gateAt f x a j : EReal) := by
  have e0 : ((0 : Fin 2).castLE (by omega) : Fin 4) = 0 := rfl
  have e1 : ((1 : Fin 2).castLE (by omega) : Fin 4) = 1 := rfl
  unfold gateAt
  by_cases ha : a = rank f 0
  · rw [if_pos ha, if_pos ha, ← ha]
    generalize hx : x a = y
    have hne : rank y 1 ≠ rank y 0 := (second_rank y).1
    have hs : soft y (rank y 0) (rank y 0) + soft y (rank y 0) (rank y 1) ≠ 0 :=
      (add_pos (soft_pos _ _ _) (soft_pos _ _ _)).ne'
    simp only [Fin.sum_univ_two, e0, e1, ← EReal.coe_add, div_real _ hs, one_mul]
    unfold weight
    by_cases h0 : j = rank y 0
    · have h1 : j ≠ rank y 1 := fun h => hne (h ▸ h0)
      rw [if_pos h0, if_neg h1, if_pos h0, mul_one, mul_zero, add_zero, ← EReal.coe_mul]
    · rw [if_neg h0, if_neg h0, mul_zero, zero_add]
      by_cases h1 : j = rank y 1
      · rw [if_pos h1, if_pos h1, mul_one, ← EReal.coe_mul]
      · rw [if_neg h1, if_neg h1, mul_zero, zero_mul]; rfl
  · rw [if_neg ha, if_neg ha, zero_mul, zero_mul]; rfl

variable (x0 : FVec Ideal S16x4096x1024 .f32) (x1 x2 x3 x4 : FVec Ideal S16x4096x256 .bf16) (x5 : FVec Ideal S1024x1024 .f32) (x6 : FVec Ideal S1024 .f32)
  (x7 : FVec Ideal S1024x4 .f32) (x8 : FVec Ideal S4 .f32) (x9 : FVec Ideal S1024x16 .f32) (x10 : FVec Ideal S16 .f32) (r : Fin 65536)
  (f : Fin 4 → ℝ) (l : Fin 16 → ℝ)
  (hf : ∀ j, val_main_v25 (F := Ideal) x0 x1 x2 x3 x4 x5 x6 x7 x8 (ix2 r j) = (f j : EReal))
  (hl : ∀ j, val_main_v44 (F := Ideal) x0 x1 x2 x3 x4 x5 x6 x9 x10 (ix2 r j) = (l j : EReal))
include hf hl

/-- The chosen group's four logits. -/
theorem v46_at (j : Fin 4) : val_main_v46 (F := Ideal) x0 x1 x2 x3 x4 x5 x6 x7 x8 x9 x10 (ix2 r j) = (byGroup l (rank f 0) j : EReal) := by
  pointwise [val_main_v46, val_main_v45]
  simp only [v38_at x0 x1 x2 x3 x4 x5 x6 x7 x8 r f hf, hl]
  simp only [mul_ite, mul_one, mul_zero, Finset.sum_ite_eq', Finset.mem_univ, if_true]
  exact congrArg (fun k => (l k : EReal)) (Fin.ext (by simp only; omega))

theorem v57_at (j : Fin 4) : val_main_v57 (F := Ideal) x0 x1 x2 x3 x4 x5 x6 x7 x8 x9 x10 (ix2 r j)
    = (soft (byGroup l (rank f 0)) (rank (byGroup l (rank f 0)) 0) j : EReal) := by
  pointwise [val_main_v57, val_main_v56, val_main_v55, val_main_v54, val_main_v53, val_main_v52, val_main_v51, val_main_v50, val_main_v49, val_main_v48,
    val_main_v47, val_main_cst_6, val_main_cst_7, val_main_cst_8]
  simp only [v46_at x0 x1 x2 x3 x4 x5 x6 x7 x8 x9 x10 r f l hf hl, lit_bot, max_at, soft_at]

/-- The two greatest and their places. -/
theorem top_at (q : Fin 2) :
    val_main_values_9 (F := Ideal) x0 x1 x2 x3 x4 x5 x6 x7 x8 x9 x10 (ix2 r q)
        = (soft (byGroup l (rank f 0)) (rank (byGroup l (rank f 0)) 0) (rank (byGroup l (rank f 0)) (q.castLE (by omega))) : EReal)
      ∧ val_main_indices_10 (F := Ideal) x0 x1 x2 x3 x4 x5 x6 x7 x8 x9 x10 (ix2 r q)
        = BitVec.ofNat 32 (rank (byGroup l (rank f 0)) (q.castLE (by omega))).val := by
  have h := top2_at _ r _ (v57_at x0 x1 x2 x3 x4 x5 x6 x7 x8 x9 x10 r f l hf hl) q
  rw [rank_soft] at h
  exact h

theorem v62_at (q : Fin 2) (j : Fin 4) : val_main_v62 (F := Ideal) x0 x1 x2 x3 x4 x5 x6 x7 x8 x9 x10 (ix3 r q j)
    = if j = rank (byGroup l (rank f 0)) (q.castLE (by omega)) then (1 : EReal) else 0 := by
  pointwise [val_main_v62, val_main_call1_v4, val_main_call1_v3, val_main_call1_v2, val_main_call1_v1, val_main_call1_v0]
  rw [(top_at x0 x1 x2 x3 x4 x5 x6 x7 x8 x9 x10 r f l hf hl q).2]
  exact onehot _ _

/-- The gate of place `j` of group `a`. -/
theorem v71_at (a j : Fin 4) : val_main_v71 (F := Ideal) x0 x1 x2 x3 x4 x5 x6 x7 x8 x9 x10 (ix3 r a j) = (gateAt f (byGroup l) a j : EReal) := by
  pointwise [val_main_v71, val_main_v70, val_main_v69, val_main_v68, val_main_v67, val_main_v66, val_main_v65, val_main_v64, val_main_v63,
    val_main_v61, val_main_v60, val_main_v59, val_main_v58, val_main_cst_11]
  simp only [v38_at x0 x1 x2 x3 x4 x5 x6 x7 x8 r f hf, v40_at x0 x1 x2 x3 x4 x5 x6 x7 x8 r f hf, (top_at x0 x1 x2 x3 x4 x5 x6 x7 x8 x9 x10 r f l hf hl _).1,
    v62_at x0 x1 x2 x3 x4 x5 x6 x7 x8 x9 x10 r f l hf hl]
  exact pick_two f (byGroup l) a j

theorem v72_at (e : Fin 16) : val_main_v72 (F := Ideal) x0 x1 x2 x3 x4 x5 x6 x7 x8 x9 x10 (ix2 r e)
    = (gateAt f (byGroup l) ⟨e.val / 4, by omega⟩ ⟨e.val % 4, by omega⟩ : EReal) := by
  pointwise [val_main_v72]
  exact v71_at x0 x1 x2 x3 x4 x5 x6 x7 x8 x9 x10 r f l hf hl _ _

end Cert.ReferenceIdeal.Rows
-- ==== Proof.RefExperts.lean ====
/- The reference's experts. -/
module

public import proofs.«01_k».proof.Proof.RefGate
public import Idealize.ShloMosaic.Lib.IdealHost

@[expose] public section

set_option maxRecDepth 100000

noncomputable section

namespace Cert.ReferenceIdeal.Rows

open Cert.ReferenceIdeal Cert.ReferenceIdeal.Gen Cert.ReferenceIdeal.Read Idealize.ShloMosaic Cert.Route

variable (x0 : FVec Ideal S16x4096x1024 .f32) (x1 x2 x3 x4 : FVec Ideal S16x4096x256 .bf16) (x5 : FVec Ideal S1024x1024 .f32) (x6 : FVec Ideal S1024 .f32)
  (x7 : FVec Ideal S1024x4 .f32) (x8 : FVec Ideal S4 .f32) (x9 : FVec Ideal S1024x16 .f32) (x10 : FVec Ideal S16 .f32)
  (x11 x12 : FVec Ideal S16x1024x256 .f32) (x13 : FVec Ideal S16x256x1024 .f32) (r : Fin 65536)

/-- One expert's matrix out of the sixteen, the first products'. -/
theorem cut_w (e : Fin 16) : S16x1024x256.Slices ![e.val, 0, 0] S1x1024x256 := by revert e; decide

/-- One expert's matrix out of the sixteen, the second product's. -/
theorem cut_w2 (e : Fin 16) : S16x256x1024.Slices ![e.val, 0, 0] S1x256x1024 := by revert e; decide

/-- One expert's column of gates. -/
theorem cut_gate (e : Fin 16) : S65536x16.Slices ![0, e.val] S65536x1 := by revert e; decide

/-- The rows `t` times one expert's matrix. -/
def first (t : FVec Ideal S65536x1024 .f32) (w : FVec Ideal S16x1024x256 .f32) (e : Fin 16) : FVec Ideal S65536x256 .f32 :=
  Host.dotGeneral dot_S65536x1024_S1024x256_S65536x256_1_0_0_1_n_n none t
    (shapeCast S1024x256 (extractStridedSlice S1x1024x256 ![e.val, 0, 0] w (cut_w e)) shapeCasts_S1x1024x256_S1024x256 : FVec Ideal S1024x256 .f32)

/-- One expert's part of the result: its gated activations times its second matrix, weighted by its column of gates. -/
def expert (t : FVec Ideal S65536x1024 .f32) (g : FVec Ideal S65536x16 .f32) (w1 w3 : FVec Ideal S16x1024x256 .f32)
    (w2 : FVec Ideal S16x256x1024 .f32) (e : Fin 16) : FVec Ideal S65536x1024 .f32 :=
  have one : FVec Ideal S65536x256 .f32 := broadcastInDim S65536x256 ![] bcast_S_S65536x256 (constant S_ .f32 0x3F800000#32)
  mulf (broadcastInDim S65536x1024 ![0, 1] bcast_S65536x1_S65536x1024_0_1 (extractStridedSlice S65536x1 ![0, e.val] g (cut_gate e)))
    (Host.dotGeneral dot_S65536x256_S256x1024_S65536x1024_1_0_0_1_n_n none
      (mulf (mulf (first t w1 e) (Host.divf one (addf one (Host.exp (Host.negf (first t w1 e)))))) (first t w3 e))
      (shapeCast S256x1024 (extractStridedSlice S1x256x1024 ![e.val, 0, 0] w2 (cut_w2 e)) shapeCasts_S1x256x1024_S256x1024 : FVec Ideal S256x1024 .f32))

theorem first_at (t : FVec Ideal S65536x1024 .f32) (w : FVec Ideal S16x1024x256 .f32) (e : Fin 16) (r : Fin 65536) (f : Fin 256) :
    first t w e (ix2 r f) = ∑ q, t (ix2 r q) * w (ix3 e q f) := by
  pointwise [first]

theorem expert_at (t : FVec Ideal S65536x1024 .f32) (g : FVec Ideal S65536x16 .f32) (w1 w3 : FVec Ideal S16x1024x256 .f32)
    (w2 : FVec Ideal S16x256x1024 .f32) (e : Fin 16) (r : Fin 65536) (k : Fin 1024) :
    expert t g w1 w3 w2 e (ix2 r k)
      = g (ix2 r e) * ∑ f, act (fun q => t (ix2 r q)) (fun q => w1 (ix3 e q f)) (fun q => w3 (ix3 e q f)) * w2 (ix3 e f k) := by
  pointwise [expert]
  simp only [first_at, Ideal.ofBits_one_f32]
  rfl

/-- The reference adds the experts' parts to zero one after another. -/
theorem v313_eq : val_main_v313 (F := Ideal) x0 x1 x2 x3 x4 x5 x6 x7 x8 x9 x10 x11 x12 x13
    = (List.finRange 16).foldl (fun acc e => addf acc (expert (val_main_v21 (F := Ideal) x0 x1 x2 x3 x4 x5 x6)
        (val_main_v72 (F := Ideal) x0 x1 x2 x3 x4 x5 x6 x7 x8 x9 x10) x11 x12 x13 e)) (val_main_v73 (F := Ideal)) := rfl

theorem foldl_addf {S : Shape} (F : Fin 16 → FVec Ideal S .f32) (z : FVec Ideal S .f32) (i : S.Idx) :
    ((List.finRange 16).foldl (fun acc e => addf acc (F e)) z) i = z i + ∑ e, (F e i : EReal) := by
  have h : ∀ (l : List (Fin 16)) (z : FVec Ideal S .f32), (l.foldl (fun acc e => addf acc (F e)) z) i = z i + ((l.map fun e => (F e i : EReal)).sum : EReal) := by
    intro l
    induction l with
    | nil => intro z; exact (add_zero _).symm
    | cons e l ih =>
      intro z
      rw [List.foldl_cons, ih, List.map_cons, List.sum_cons, ← add_assoc]
      rfl
  rw [h, ← List.ofFn_eq_map, List.sum_ofFn]

/-- The experts' sum at a row. -/
theorem v313_at (k : Fin 1024) : val_main_v313 (F := Ideal) x0 x1 x2 x3 x4 x5 x6 x7 x8 x9 x10 x11 x12 x13 (ix2 r k)
    = ∑ e, val_main_v72 (F := Ideal) x0 x1 x2 x3 x4 x5 x6 x7 x8 x9 x10 (ix2 r e)
        * ∑ f, act (xflat x0 x1 x2 x3 x4 x5 x6 r) (fun q => x11 (ix3 e q f)) (fun q => x12 (ix3 e q f)) * x13 (ix3 e f k) := by
  have z : (val_main_v73 (F := Ideal) (ix2 r k) : EReal) = 0 := by
    pointwise [val_main_v73, val_main_cst_12]
  rw [v313_eq, foldl_addf, z, zero_add]
  simp only [expert_at, v21_at]

end Cert.ReferenceIdeal.Rows
-- ==== Proof.RefResult.lean ====
/- The reference's result, row by row. -/
module

public import proofs.«01_k».proof.Proof.RefExperts

@[expose] public section

set_option maxRecDepth 100000

noncomputable section

namespace Cert.ReferenceIdeal.Rows

open Cert.ReferenceIdeal Cert.ReferenceIdeal.Gen Cert.ReferenceIdeal.Read Idealize.ShloMosaic Cert.Route

variable (x0 : FVec Ideal S16x4096x1024 .f32) (x1 x2 x3 x4 : FVec Ideal S16x4096x256 .bf16) (x5 : FVec Ideal S1024x1024 .f32) (x6 : FVec Ideal S1024 .f32)
  (x7 : FVec Ideal S1024x4 .f32) (x8 : FVec Ideal S4 .f32) (x9 : FVec Ideal S1024x16 .f32) (x10 : FVec Ideal S16 .f32)
  (x11 x12 : FVec Ideal S16x1024x256 .f32) (x13 : FVec Ideal S16x256x1024 .f32) (r : Fin 65536)

/-- The reference's result is the layer's row. -/
theorem v314_at (f : Fin 4 → ℝ) (l : Fin 16 → ℝ)
    (hf : ∀ j, logit (xflat x0 x1 x2 x3 x4 x5 x6 r) (fun q k => x7 (ix2 q k)) (fun k => x8 (ix1 k)) j = (f j : EReal))
    (hl : ∀ j, logit (xflat x0 x1 x2 x3 x4 x5 x6 r) (fun q k => x9 (ix2 q k)) (fun k => x10 (ix1 k)) j = (l j : EReal)) (k : Fin 1024) :
    val_main_v314 (F := Ideal) x0 x1 x2 x3 x4 x5 x6 x7 x8 x9 x10 x11 x12 x13 (ix2 r k)
      = layer (hflat x0 x1 x2 x3 x4 x5 r) (fun k => x6 (ix1 k)) f l (fun e q j => x11 (ix3 e q j)) (fun e q j => x12 (ix3 e q j))
          (fun e j k => x13 (ix3 e j k)) k := by
  pointwise [val_main_v314]
  rw [v7_at, v313_at]
  unfold layer moe
  congr 1
  refine Finset.sum_congr rfl fun e _ => ?_
  rw [v72_at x0 x1 x2 x3 x4 x5 x6 x7 x8 x9 x10 r f l (fun j => (v25_at x0 x1 x2 x3 x4 x5 x6 x7 x8 r j).trans (hf j))
    (fun j => (v44_at x0 x1 x2 x3 x4 x5 x6 x9 x10 r j).trans (hl j))]
  rfl

end Cert.ReferenceIdeal.Rows
-- ==== Proof.Equation.lean ====
/- The kernel's array and the reference's array are one, row by row. -/
module

public import proofs.«01_k».proof.Defs
public import proofs.«01_k».proof.Proof.Array
public import proofs.«01_k».proof.Proof.RefResult

@[expose] public section

set_option maxRecDepth 100000

noncomputable section

namespace Cert.Equation

open Idealize.ShloMosaic Idealize.ShloMosaic.TcCoe Cert.Route

/-- The shapes the precondition's comparisons broadcast to. -/
theorem preFacts : Cert.Pre_router_finite.Facts where
  bcast_S_S1024 := by decide
  bcast_S_S1024x4 := by decide
  bcast_S_S4 := by decide
  bcast_S_S1024x16 := by decide
  bcast_S_S16 := by decide

/-- An array whose absolute values are all below infinity is an array of reals. -/
theorem real_of_below {S : Shape} (a : FVec Ideal S .f32) (hb : (⟨0, ![]⟩ : Shape).BroadcastsInDim S (![] : Fin 0 → Fin S.rank))
    (h : cmpf .olt (Host.absf a) (broadcastInDim S ![] hb (constant ⟨0, ![]⟩ .f32 0x7F800000#32)) = fun _ => 1#1) :
    ∃ f : S.Idx → ℝ, ∀ i, a i = (f i : EReal) := by
  have hi : ∀ i, ∃ y : ℝ, a i = (y : EReal) := fun i => by
    have e := congrFun h i
    have top : Ideal.ofBits .f32 0x7F800000#32 = ⊤ := by simp [Ideal.ofBits, Ideal.ieee]
    have e' : BitVec.ofBool (decide (max (a i : EReal) (-(a i : EReal)) < Ideal.ofBits .f32 0x7F800000#32)) = 1#1 := e
    rw [top] at e'
    generalize (a i : EReal) = z at *
    induction z using EReal.rec with
    | bot => simp at e'
    | top => simp at e'
    | coe y => exact ⟨y, rfl⟩
  choose f hf using hi
  exact ⟨f, hf⟩

section
attribute [local instance] preFacts

variable (m : (ℓ : Loc Cert.KernelIdeal.nD Cert.KernelIdeal.τ Cert.KernelIdeal.sig) → Buf (Elt Ideal) ℓ) (c : Dev Cert.KernelIdeal.nD)

open Cert.KernelIdeal.Windows in
/-- Under the precondition both arrays are the layer, row by row. -/
theorem arrays_eq (hp : Cert.Pre_KernelIdeal_router_finite m) :
    (Cert.KernelIdeal.Gen.dats m 0 c).arrAt 11 Cert.KernelIdeal.cfg0.N
      = Cert.ReferenceIdeal.Read.val_main_v314 (F := Ideal) (a0 m c) (a1 m c) (a2 m c) (a3 m c) (a4 m c) (a5 m c) (a6 m c) (a7 m c) (a8 m c)
          (a9 m c) (a10 m c) (a11 m c) (a12 m c) (a13 m c) := by
  obtain ⟨h6, h7, h8, h9, h10⟩ := hp c
  obtain ⟨g, hg⟩ := real_of_below (a6 m c) _ h6
  obtain ⟨wg, hwg⟩ := real_of_below (a7 m c) _ h7
  obtain ⟨bg, hbg⟩ := real_of_below (a8 m c) _ h8
  obtain ⟨we, hwe⟩ := real_of_below (a9 m c) _ h9
  obtain ⟨be, hbe⟩ := real_of_below (a10 m c) _ h10
  have hx : ∀ r : Fin 65536, ∃ x : Fin 1024 → ℝ, ∀ k, xrow m c r k = (x k : EReal) := fun r => by
    unfold xrow
    simp only [hg]
    exact normed_real _ _
  choose x hx using hx
  have hl4 : ∀ r j, logit (xrow m c r) (fun q k => a7 m c (ix2 q k)) (fun k => a8 m c (ix1 k)) j
      = ((∑ q, x r q * wg (ix2 q j) + bg (ix1 j) : ℝ) : EReal) := fun r j => by
    have e : xrow m c r = fun q => (x r q : EReal) := funext (hx r)
    rw [e]
    simp only [hwg, hbg]
    exact logit_real (x r) (fun q k => wg (ix2 q k)) (fun k => bg (ix1 k)) j
  have hl16 : ∀ r j, logit (xrow m c r) (fun q k => a9 m c (ix2 q k)) (fun k => a10 m c (ix1 k)) j
      = ((∑ q, x r q * we (ix2 q j) + be (ix1 j) : ℝ) : EReal) := fun r j => by
    have e : xrow m c r = fun q => (x r q : EReal) := funext (hx r)
    rw [e]
    simp only [hwe, hbe]
    exact logit_real (x r) (fun q k => we (ix2 q k)) (fun k => be (ix1 k)) j
  refine (array_eq m c _ _ hl4 hl16).trans (funext fun i => ?_)
  obtain ⟨r, k, rfl⟩ : ∃ (r : Fin 65536) (k : Fin 1024), i = ix2 r k := ⟨i 0, i 1, by funext d; fin_cases d <;> rfl⟩
  exact (Cert.ReferenceIdeal.Rows.v314_at (a0 m c) (a1 m c) (a2 m c) (a3 m c) (a4 m c) (a5 m c) (a6 m c) (a7 m c) (a8 m c)
    (a9 m c) (a10 m c) (a11 m c) (a12 m c) (a13 m c) r _ _ (hl4 r) (hl16 r) k).symm

open Cert.KernelIdeal.Windows in
/-- The same, the reference's arguments named apart. -/
theorem arrays_eq' (hp : Cert.Pre_KernelIdeal_router_finite m)
    (x0 : FVec Ideal Cert.ReferenceIdeal.S16x4096x1024 .f32) (x1 x2 x3 x4 : FVec Ideal Cert.ReferenceIdeal.S16x4096x256 .bf16)
    (x5 : FVec Ideal Cert.ReferenceIdeal.S1024x1024 .f32) (x6 : FVec Ideal Cert.ReferenceIdeal.S1024 .f32)
    (x7 : FVec Ideal Cert.ReferenceIdeal.S1024x4 .f32) (x8 : FVec Ideal Cert.ReferenceIdeal.S4 .f32)
    (x9 : FVec Ideal Cert.ReferenceIdeal.S1024x16 .f32) (x10 : FVec Ideal Cert.ReferenceIdeal.S16 .f32)
    (x11 x12 : FVec Ideal Cert.ReferenceIdeal.S16x1024x256 .f32) (x13 : FVec Ideal Cert.ReferenceIdeal.S16x256x1024 .f32)
    (h0 : x0 = a0 m c) (h1 : x1 = a1 m c) (h2 : x2 = a2 m c) (h3 : x3 = a3 m c) (h4 : x4 = a4 m c) (h5 : x5 = a5 m c) (h6 : x6 = a6 m c) (h7 : x7 = a7 m c) (h8 : x8 = a8 m c) (h9 : x9 = a9 m c) (h10 : x10 = a10 m c) (h11 : x11 = a11 m c) (h12 : x12 = a12 m c) (h13 : x13 = a13 m c) :
    Cert.ReferenceIdeal.Read.val_main_v314 (F := Ideal) x0 x1 x2 x3 x4 x5 x6 x7 x8 x9 x10 x11 x12 x13 = (Cert.KernelIdeal.Gen.dats m 0 c).arrAt 11 Cert.KernelIdeal.cfg0.N := by
  rw [arrays_eq m c hp, h0, h1, h2, h3, h4, h5, h6, h7, h8, h9, h10, h11, h12, h13]

end

end Cert.Equation
-- ==== Proof.AttnSoftmax.lean ====
/- A softmax taken one tile of keys after another: the greatest score so far and the sum scaled by it, and what they are after each tile. -/
module

public import proofs.«01_k».proof.Proof.Route

@[expose] public section

noncomputable section

namespace Cert.Attn

open Idealize.ShloMosaic Cert.Route

/-- The scale of the scores, `1/√32`. -/
def scale : ℝ := (Real.sqrt 32)⁻¹

/-- The scale of the scores times `log₂ e`. -/
def scale2 : ℝ := (Real.sqrt 32)⁻¹ * (Real.log 2)⁻¹

theorem scale_pos : 0 < scale := inv_pos.2 (Real.sqrt_pos.2 (by norm_num))

theorem scale2_pos : 0 < scale2 := mul_pos scale_pos (inv_pos.2 (Real.log_pos (by norm_num)))

theorem exp2_real (x : ℝ) : Ideal.exp2 ((x : EReal) * (scale2 : EReal)) = (Real.exp (x * scale) : EReal) := by
  rw [← EReal.coe_mul, Ideal.exp2_coe]
  refine congrArg _ ((Real.rpow_def_of_pos (by norm_num) _).trans (congrArg _ ?_))
  have h : Real.log 2 ≠ 0 := (Real.log_pos (by norm_num)).ne'
  unfold scale2 scale
  field_simp

theorem exp2_none : Ideal.exp2 ((⊥ : EReal) * (scale2 : EReal)) = 0 := by
  rw [EReal.bot_mul_coe_of_pos scale2_pos, Ideal.exp2_bot]

theorem none_bits : Ideal.ofBits .f32 0xFF800000#32 = ⊥ := by simp [Ideal.ofBits, Ideal.ieee]

/-- The weight of a key before the division: `exp` of its scaled score if the query sees it, and nothing otherwise. -/
def weight (S : ℕ → ℝ) (vis : ℕ → Prop) [DecidablePred vis] (j : ℕ) : ℝ := if vis j then Real.exp (S j * scale) else 0

/-- `m` and `a` are a greatest score and a weighted sum of `val` over the first `n` keys, scaled by that score. -/
def Seen (S : ℕ → ℝ) (vis : ℕ → Prop) [DecidablePred vis] (val : ℕ → ℝ) (n : ℕ) (m a : EReal) : Prop :=
  (n = 0 → m = ⊥ ∧ a = 0) ∧
  (0 < n → ∃ μ : ℝ, m = μ ∧ a = ((Real.exp (-(μ * scale)) * ∑ j ∈ Finset.range n, weight S vis j * val j : ℝ) : EReal))

theorem max_real {w : ℕ} (m : EReal) (s : Fin w → EReal) (hm : m ≠ ⊤) (hs : ∀ j, s j ≠ ⊤) (hex : ∃ j, s j ≠ ⊥) :
    ∃ μ : ℝ, max m (Finset.univ.fold max ⊥ s) = μ := by
  obtain ⟨j, hj⟩ := hex
  have h1 : max m (Finset.univ.fold max ⊥ s) ≠ ⊤ :=
    (max_lt hm.lt_top (Finset.fold_max_lt ⊤ |>.2 ⟨bot_lt_top, fun k _ => (hs k).lt_top⟩)).ne
  have h2 : max m (Finset.univ.fold max ⊥ s) ≠ ⊥ :=
    (lt_of_lt_of_le (bot_lt_iff_ne_bot.2 hj) (le_max_of_le_right (Finset.le_fold_max _ |>.2 (.inr ⟨j, Finset.mem_univ _, le_rfl⟩)))).ne'
  exact ⟨_, (EReal.coe_toReal h1 h2).symm⟩

theorem weight_at (S : ℕ → ℝ) (vis : ℕ → Prop) [DecidablePred vis] (j : ℕ) (μ : ℝ) :
    Ideal.exp2 (((if vis j then (S j : EReal) else ⊥) - (μ : EReal)) * (scale2 : EReal)) = ((Real.exp (-(μ * scale)) * weight S vis j : ℝ) : EReal) := by
  unfold weight
  split
  · rw [← EReal.coe_sub, exp2_real, ← Real.exp_add]
    congr 2
    ring
  · rw [show (⊥ : EReal) - (μ : EReal) = ⊥ from EReal.bot_sub _, exp2_none, mul_zero, EReal.coe_zero]

theorem seen_step {w n : ℕ} (S : ℕ → ℝ) (vis : ℕ → Prop) [DecidablePred vis] (val : ℕ → ℝ) (m a : EReal) (s v : Fin w → EReal)
    (h : Seen S vis val n m a) (hs : ∀ j, s j = if vis (n + j) then (S (n + j) : EReal) else ⊥) (hv : ∀ j, v j = (val (n + j) : EReal))
    (hex : ∃ j : Fin w, vis (n + j)) :
    Seen S vis val (n + w) (max m (Finset.univ.fold max ⊥ s))
      (Ideal.exp2 ((m - max m (Finset.univ.fold max ⊥ s)) * (scale2 : EReal)) * a
        + ∑ j, Ideal.exp2 ((s j - max m (Finset.univ.fold max ⊥ s)) * (scale2 : EReal)) * v j) := by
  have hw : 0 < w := Fin.pos_iff_nonempty.2 ⟨hex.choose⟩
  have hm : m ≠ ⊤ := by
    rcases Nat.eq_zero_or_pos n with e | e
    · rw [(h.1 e).1]; exact bot_ne_top
    · obtain ⟨μ, e, -⟩ := h.2 e
      rw [e]; exact EReal.coe_ne_top μ
  obtain ⟨μ', e'⟩ := max_real m s hm (fun j => by rw [hs]; split; exacts [EReal.coe_ne_top _, bot_ne_top])
    (hex.imp fun j hj => by rw [hs, if_pos hj]; exact EReal.coe_ne_bot _)
  rw [e']
  have hsum : (∑ j, Ideal.exp2 ((s j - (μ' : EReal)) * (scale2 : EReal)) * v j)
      = ((Real.exp (-(μ' * scale)) * ∑ j ∈ Finset.range w, weight S vis (n + j) * val (n + j) : ℝ) : EReal) := by
    rw [Finset.sum_range, Finset.mul_sum, coe_sum]
    refine Finset.sum_congr rfl fun j _ => ?_
    rw [hs, hv, weight_at, ← EReal.coe_mul, mul_assoc]
  rw [hsum]
  refine ⟨fun e => absurd e (by omega), fun _ => ⟨μ', rfl, ?_⟩⟩
  rw [Finset.sum_range_add]
  rcases Nat.eq_zero_or_pos n with e | e
  · rw [(h.1 e).2, mul_zero, zero_add, e, Finset.sum_range_zero, zero_add]
  · obtain ⟨μ, e1, e2⟩ := h.2 e
    rw [e1, e2, ← EReal.coe_sub, exp2_real, ← EReal.coe_mul, ← EReal.coe_add]
    refine congrArg _ ?_
    rw [mul_add, ← mul_assoc, ← Real.exp_add]
    congr 3
    ring

/-- What is divided at the end: the two sums have the same scale. -/
theorem seen_div {n n' : ℕ} (S : ℕ → ℝ) (vis : ℕ → Prop) [DecidablePred vis] (val : ℕ → ℝ) (m a z : EReal) (hn : 0 < n) (hn' : n ≤ n')
    (hvis : ∀ j, n ≤ j → ¬vis j) (h0 : vis 0)
    (h : Seen S vis val n m a) (hz : Seen S vis (fun _ => 1) n m z) :
    a * Ideal.div 1 z = ((∑ j ∈ Finset.range n', weight S vis j / (∑ i ∈ Finset.range n', weight S vis i) * val j : ℝ) : EReal) := by
  have hex : ∀ f : ℕ → ℝ, ∑ j ∈ Finset.range n', weight S vis j * f j = ∑ j ∈ Finset.range n, weight S vis j * f j := fun f => by
    refine (Finset.sum_subset (Finset.range_subset_range.2 hn') fun j _ hj => ?_).symm
    rw [weight, if_neg (hvis j (not_lt.1 fun e => hj (Finset.mem_range.2 e))), zero_mul]
  have h1 : ∑ j ∈ Finset.range n', weight S vis j = ∑ j ∈ Finset.range n, weight S vis j * 1 := by
    rw [← hex]; simp
  have hpos : 0 < ∑ j ∈ Finset.range n, weight S vis j * 1 := by
    refine Finset.sum_pos' (fun j _ => ?_) ⟨0, Finset.mem_range.2 hn, ?_⟩
    · rw [mul_one, weight]; split; exacts [(Real.exp_pos _).le, le_rfl]
    · rw [mul_one, weight, if_pos h0]; exact Real.exp_pos _
  obtain ⟨μ, e, ha⟩ := h.2 hn
  obtain ⟨μ', e', hz⟩ := hz.2 hn
  have hμ : μ = μ' := EReal.coe_injective (e.symm.trans e')
  subst hμ
  rw [ha, hz, show (1 : EReal) = ((1 : ℝ) : EReal) from rfl, div_real _ (mul_pos (Real.exp_pos _) hpos).ne', ← EReal.coe_mul]
  refine congrArg _ ?_
  rw [h1]
  have hx := (Real.exp_pos (-(μ * scale))).ne'
  have := hpos.ne'
  rw [← Finset.sum_congr rfl fun j _ => (div_mul_eq_mul_div (weight S vis j) (∑ j ∈ Finset.range n, weight S vis j * 1) (val j)).symm, ← Finset.sum_div, hex]
  field_simp

end Cert.Attn
-- ==== Proof.AttnRow.lean ====
/- One row of the differential attention: the two maps' averages, their difference, and its norm. -/
module

public import proofs.«01_k».proof.Proof.AttnSoftmax

@[expose] public section

noncomputable section

namespace Cert.Attn

open Idealize.ShloMosaic Cert.Route

/-- One row, divided by the root of its mean square, times its gain. -/
def rms (d g : Fin 64 → EReal) (e : Fin 64) : EReal :=
  d e * Ideal.rsqrt (Ideal.div (∑ k, d k * d k) (Ideal.ofBits .f32 0x42800000#32) + Ideal.ofBits .f32 0x358637BD#32) * g e * Ideal.ofBits .f32 0x3F24FD5C#32

theorem one_bits : Ideal.ofBits .f32 0x3F800000#32 = 1 := by
  simp [Ideal.ofBits, Ideal.ieee]
  rw [← EReal.coe_mul]
  norm_num

/-- The average of `val` that a softmax of the scores `S` takes over the keys seen. -/
def avg (S : ℕ → ℝ) (vis : ℕ → Prop) [DecidablePred vis] (val : ℕ → ℝ) : ℝ :=
  ∑ j ∈ Finset.range 4096, weight S vis j / (∑ i ∈ Finset.range 4096, weight S vis i) * val j

/-- A query at position `R` sees the keys of its own chunk of 64 and of those before. -/
def seen (R j : ℕ) : Prop := j / 64 ≤ R / 64

instance (R : ℕ) : DecidablePred (seen R) := fun _ => Nat.decLe _ _

/-- The average of head `h` under its map `s`, for the query at `R`. -/
def attend (q k v : ℕ → ℕ → ℝ) (h s R e : ℕ) : ℝ :=
  avg (fun j => ∑ d : Fin 32, q R (64 * h + 32 * s + d.val) * k j (64 * h + 32 * s + d.val)) (seen R) fun j => v j (64 * h + e)

/-- A head's row: map 0's average less `l` times map 1's, normed. -/
def attnRow (q k v : ℕ → ℕ → ℝ) (l : ℝ) (g : Fin 64 → EReal) (h R : ℕ) (e : Fin 64) : EReal :=
  rms (fun e => ((attend q k v h 0 R e.val - l * attend q k v h 1 R e.val : ℝ) : EReal)) g e

/-- The factor of map 1. -/
def factor (p : Fin 4 → Fin 32 → EReal) : EReal :=
  Ideal.exp (∑ d, p 0 d * p 1 d) - Ideal.exp (∑ d, p 2 d * p 3 d) + Ideal.ofBits .f32 0x3EB60549#32

end Cert.Attn
-- ==== Proof.PrepRow.lean ====
/- A row of queries or keys before the attention: normed head by head, then its first lanes turned by the position. -/
module

public import proofs.«01_k».proof.Proof.AttnRow

@[expose] public section

set_option maxRecDepth 100000

noncomputable section

namespace Cert.Prep

open Idealize.ShloMosaic Cert.Route

/-- The mean of the squares of group `h` of 32 lanes. -/
def meanSq (x : ℕ → ℝ) (h : ℕ) : ℝ := (∑ e : Fin 32, x (32 * h + e.val) * x (32 * h + e.val)) / 32

/-- Lane `w` normed within its group of 32. -/
def unit (x : ℕ → ℝ) (g : Fin 32 → EReal) (w : ℕ) : EReal :=
  (x w : EReal) * Ideal.rsqrt ((meanSq x (w / 32) : EReal) + Ideal.ofBits .f32 0x358637BD#32) * g ⟨w % 32, Nat.mod_lt _ (by decide)⟩

/-- Lane `w` after the turn: in each group of 32, lanes 0 to 3 with lanes 4 to 7, the rest as they are. -/
def turned (y : ℕ → EReal) (cs sn : Fin 4 → EReal) (w : ℕ) : EReal :=
  if h : w % 32 < 4 then y w * cs ⟨w % 32, h⟩ - y (w + 4) * sn ⟨w % 32, h⟩
  else if h : w % 32 < 8 then y w * cs ⟨w % 32 - 4, by omega⟩ + y (w - 4) * sn ⟨w % 32 - 4, by omega⟩
  else y w

/-- The table of cosines, lane by lane. -/
def cosLane (cs : Fin 4 → EReal) (w : ℕ) : EReal :=
  if h : w % 32 < 4 then cs ⟨w % 32, h⟩ else if h : w % 32 < 8 then cs ⟨w % 32 - 4, by omega⟩ else 1

/-- The table of sines, lane by lane, the first four negated. -/
def sinLane (sn : Fin 4 → EReal) (w : ℕ) : EReal :=
  if h : w % 32 < 4 then -sn ⟨w % 32, h⟩ else if h : w % 32 < 8 then sn ⟨w % 32 - 4, by omega⟩ else 0

/-- The turn by tables that cover every lane. -/
theorem turned_eq (y : ℕ → EReal) (cs sn : Fin 4 → EReal) (w : ℕ) (u : EReal) (h0 : w % 32 < 4 → u = y (w + 4))
    (h1 : 4 ≤ w % 32 → w % 32 < 8 → u = y (w - 4)) : y w * cosLane cs w + u * sinLane sn w = turned y cs sn w := by
  unfold cosLane sinLane turned
  split_ifs with a b
  · rw [h0 a, mul_neg, sub_eq_add_neg]
  · rw [h1 (by omega) b]
  · rw [mul_one, mul_zero, add_zero]

/-- The sum over all lanes against a block of 1/32 is the mean over the lane's own group. -/
theorem mean_of (x : ℕ → ℝ) (h : Fin 8) : ∑ q : Fin 256, x q.val * x q.val * (if q.val / 32 = h.val then (1 / 32 : ℝ) else 0) = meanSq x h.val := by
  have e : ∑ q : Fin 256, x q.val * x q.val * (if q.val / 32 = h.val then (1 / 32 : ℝ) else 0)
      = ∑ p : Fin 8 × Fin 32, x (32 * p.1.val + p.2.val) * x (32 * p.1.val + p.2.val) * (if p.1.val = h.val then (1 / 32 : ℝ) else 0) := by
    refine (Fintype.sum_equiv (finProdFinEquiv (m := 8) (n := 32)) _ _ fun p => ?_).symm
    obtain ⟨a, b⟩ := p
    have hv : (finProdFinEquiv (a, b) : Fin (8 * 32)).val = 32 * a.val + b.val := by simp [finProdFinEquiv]; omega
    have hd : (32 * a.val + b.val) / 32 = a.val := by omega
    simp only [hv, hd]
  rw [e, Fintype.sum_prod_type, Finset.sum_eq_single h]
  · unfold meanSq
    rw [Finset.sum_div]
    exact Finset.sum_congr rfl fun d _ => by rw [if_pos rfl]; ring
  · intro a _ ha
    refine Finset.sum_eq_zero fun d _ => ?_
    rw [if_neg fun c => ha (Fin.ext c), mul_zero]
  · exact fun c => absurd (Finset.mem_univ h) c

/-- The same over the extended reals, with the two remainders that the split of a real square leaves. -/
theorem mean_split (x : ℕ → ℝ) (h : Fin 8) :
    ∑ q : Fin 256, (x q.val : EReal) * x q.val * ((if q.val / 32 = h.val then (1 / 32 : ℝ) else 0 : ℝ) : EReal)
      + ∑ q : Fin 256, ((x q.val : EReal) * x q.val - (x q.val : EReal) * x q.val) * ((if q.val / 32 = h.val then (1 / 32 : ℝ) else 0 : ℝ) : EReal)
      + ∑ q : Fin 256, ((x q.val : EReal) * x q.val - (x q.val : EReal) * x q.val - ((x q.val : EReal) * x q.val - (x q.val : EReal) * x q.val))
          * ((if q.val / 32 = h.val then (1 / 32 : ℝ) else 0 : ℝ) : EReal)
      = (meanSq x h.val : EReal) := by
  simp only [← EReal.coe_mul, ← EReal.coe_sub, ← coe_sum, sub_self, zero_mul, Finset.sum_const_zero, EReal.coe_zero, add_zero, sub_zero]
  rw [mean_of]

end Cert.Prep
-- ==== Proof.PrepBlock.lean ====
/- One block of 512 rows of keys: the kernel's norm and turn, lane by lane. -/
module

public import proofs.«01_k».proof.Proof.PrepRow
public import proofs.«01_k».proof.Proof.Gen.AttnPrepIdeal.Frame
public import Idealize.ShloMosaic.Lib.Pipeline.ValueKit

@[expose] public section

set_option maxRecDepth 100000

noncomputable section

namespace Cert.AttnPrepIdeal.Block

open Cert.AttnPrepIdeal Cert.AttnPrepIdeal.Gen Idealize.ShloMosaic Idealize.ShloMosaic.TcCoe Cert.Route Cert.Prep

/-- The lanes that the turn takes with the four after them. -/
theorem first_at (w : Fin 256) : (k0_pay4 : IVec S1x256 1) (ix2 0 w) = if w.val % 32 < 4 then 1#1 else 0#1 := by
  revert w
  decide +kernel

/-- The normed keys of a block, before their turn. -/
def normed (v : FVec Ideal S512x768 .f32) (pm : FVec Ideal S256x256 .bf16) (s : Vec Ideal S1x256 .f32) : FVec Ideal S512x256 .f32 :=
  have k : FVec Ideal S512x256 .f32 := extractStridedSlice S512x256 ![0, 256] v slices_S512x768_o0_256_S512x256
  have zero : FVec Ideal S512x256 .f32 := constant S512x256 .f32 0x00000000#32
  have square : FVec Ideal S512x256 .f32 := mulf k k
  have high : FVec Ideal S512x256 .bf16 := truncf .bf16 square bitsLt_bf16_f32
  have rest : FVec Ideal S512x256 .f32 := subf square (extf .f32 high bitsLt_bf16_f32)
  have middle : FVec Ideal S512x256 .bf16 := truncf .bf16 rest bitsLt_bf16_f32
  have low : FVec Ideal S512x256 .bf16 := truncf .bf16 (subf rest (extf .f32 middle bitsLt_bf16_f32)) bitsLt_bf16_f32
  have mean : FVec Ideal S512x256 .f32 := addf (addf (matmul dot_S512x256_S256x256_S512x256_1_0_0_1_n_n none high pm zero)
    (matmul dot_S512x256_S256x256_S512x256_1_0_0_1_n_n none middle pm zero)) (matmul dot_S512x256_S256x256_S512x256_1_0_0_1_n_n none low pm zero)
  mulf (mulf k (rsqrt (addf mean (broadcast S512x256 (Scalar.ofBits .f32 0x358637BD#32)))))
    (broadcastTo S512x256 (shapeCast S1x256 s shapeCasts_S1x256_S1x256) broadcasts_S1x256_S512x256)

/-- The partner of each lane. -/
def partner (y : FVec Ideal S512x256 .f32) : FVec Ideal S512x256 .f32 :=
  select (broadcastTo S512x256 (shapeCast S1x256 k0_pay4 shapeCasts_S1x256_S1x256) broadcasts_S1x256_S512x256)
    (dynamicRotate 1 252#32 none y rotates_S512x256_d1) (dynamicRotate 1 4#32 none y rotates_S512x256_d1)

/-- The turned keys are the normed keys times the cosines and their partners times the sines. -/
theorem pay14_eq (v : FVec Ideal S512x768 .f32) (cosT sinT : FVec Ideal S512x256 .f32) (pm : FVec Ideal S256x256 .bf16) (s : Vec Ideal S1x256 .f32) :
    k0_pay14 v cosT sinT pm k0_pay4 s = addf (mulf (normed v pm s) cosT) (mulf (partner (normed v pm s)) sinT) := rfl

variable (r : Fin 512) (x : ℕ → ℝ) (g : Fin 32 → EReal) (pm : FVec Ideal S256x256 .bf16)
  (hm : ∀ j w : Fin 256, pm (ix2 j w) = ((if j.val / 32 = w.val / 32 then (1 / 32 : ℝ) else 0 : ℝ) : EReal))

include hm in
/-- The normed keys: the three products of the split squares add up to the mean over the lane's group. -/
theorem normed_at (v : FVec Ideal S512x768 .f32) (s : Vec Ideal S1x256 .f32) (hx : ∀ w : Fin 256, v (ix2 r ⟨256 + w.val, by omega⟩) = (x w.val : EReal))
    (hg : ∀ w : Fin 256, s (ix2 0 w) = g ⟨w.val % 32, Nat.mod_lt _ (by decide)⟩) (w : Fin 256) :
    normed v pm s (ix2 r w) = unit x g w.val := by
  pointwise [normed]
  simp only [hx, hm, hg]
  exact congrArg (fun e => (x w.val : EReal) * Ideal.rsqrt (e + Ideal.ofBits .f32 0x358637BD#32) * g ⟨w.val % 32, Nat.mod_lt _ (by decide)⟩)
    (mean_split x ⟨w.val / 32, by omega⟩)

/-- Lanes of the first four take the fourth lane after them, the others the fourth before. -/
theorem partner_at (v : FVec Ideal S512x256 .f32) (y : ℕ → EReal) (h : ∀ w : Fin 256, v (ix2 r w) = y w.val) (w : Fin 256) :
    partner v (ix2 r w) = if w.val % 32 < 4 then y ((w.val + 4) % 256) else y ((w.val + 252) % 256) := by
  pointwise [partner]
  rw [first_at, h, h]
  have e0 : (w.val + 256 - 252) % 256 = (w.val + 4) % 256 := by omega
  have e1 : (w.val + 256 - 4) % 256 = (w.val + 252) % 256 := by omega
  simp only [e0, e1]
  split_ifs <;> rfl

include hm in
/-- What the block of keys holds. -/
theorem keys_at (x0 : Vec Ideal S1x512x768 .f32) (x1 x2 : Vec Ideal S512x256 .f32) (x4 : Vec Ideal S1x256 .f32) (cs sn : Fin 4 → EReal)
    (hx : ∀ w : Fin 256, x0 (ix3 0 r ⟨256 + w.val, by omega⟩) = (x w.val : EReal))
    (hg : ∀ w : Fin 256, x4 (ix2 0 w) = g ⟨w.val % 32, Nat.mod_lt _ (by decide)⟩)
    (hc : ∀ w : Fin 256, x1 (ix2 r w) = cosLane cs w.val) (hs : ∀ w : Fin 256, x2 (ix2 r w) = sinLane sn w.val) (w : Fin 256) :
    (k0_pay17 (k0_pay14 (k0_pay1 x0) (k0_pay2 x1) (k0_pay3 x2) pm k0_pay4 x4) : FVec Ideal S1x512x256 .f32) (ix3 0 r w)
      = turned (unit x g) cs sn w.val := by
  have hx' : ∀ w : Fin 256, (k0_pay1 x0 : FVec Ideal S512x768 .f32) (ix2 r ⟨256 + w.val, by omega⟩) = (x w.val : EReal) := fun w => by
    pointwise [k0_pay1]
    exact hx w
  have h := normed_at r x g pm hm _ x4 hx' hg
  have es : (k0_pay3 x2 : FVec Ideal S512x256 .f32) (ix2 r w) = sinLane sn w.val := by
    pointwise [k0_pay3]
    exact hs w
  have ec : (k0_pay2 x1 : FVec Ideal S512x256 .f32) (ix2 r w) = cosLane cs w.val := by
    pointwise [k0_pay2]
    exact hc w
  have et : (k0_pay17 (k0_pay14 (k0_pay1 x0) (k0_pay2 x1) (k0_pay3 x2) pm k0_pay4 x4) : FVec Ideal S1x512x256 .f32) (ix3 0 r w)
      = normed (k0_pay1 x0) pm x4 (ix2 r w) * (k0_pay2 x1 : FVec Ideal S512x256 .f32) (ix2 r w)
        + partner (normed (k0_pay1 x0) pm x4) (ix2 r w) * (k0_pay3 x2 : FVec Ideal S512x256 .f32) (ix2 r w) := by
    rw [pay14_eq]
    pointwise [k0_pay17]
  rw [et, h, partner_at r _ _ h, es, ec]
  refine turned_eq _ cs sn _ _ (fun h0 => ?_) fun h0 h1 => ?_
  · rw [if_pos h0]
    exact congrArg _ (by omega)
  · rw [if_neg (by omega)]
    exact congrArg _ (by omega)

/-- The block of values is the last third of the rows. -/
theorem values_at (x0 : Vec Ideal S1x512x768 .f32) (w : Fin 256) :
    (k0_pay18 (k0_pay1 x0) : FVec Ideal S1x512x256 .f32) (ix3 0 r w) = x0 (ix3 0 r ⟨512 + w.val, by omega⟩) := by
  pointwise [k0_pay18, k0_pay15, k0_pay1]

end Cert.AttnPrepIdeal.Block
-- ==== Proof.PrepTable.lean ====
/- The constant matrix of the means: in each group of 32 lanes, the word of 1/32 on the group's own block. -/
module

public import proofs.«01_k».proof.AttnPrepIdeal
public import Idealize.ShloMosaic.Lib.Pipeline.ValueKit
public import Mathlib.Tactic.IntervalCases

@[expose] public section

set_option maxRecDepth 100000

namespace Cert.AttnPrepIdeal.Table

open Cert.AttnPrepIdeal Idealize.ShloMosaic

/-! ## The half rows: one that is zero, and four with one group of their lanes set -/

theorem none_at (i : ℕ) : lit0t0_1 i = 0x0000#16 := by
  have h : i % 128 < 128 := Nat.mod_lt _ (by decide)
  unfold lit0t0_1
  generalize i % 128 = r at h ⊢
  revert r
  decide +kernel

theorem first_at (i : ℕ) : lit0t0_0 i = if i % 128 / 32 = 0 then 0x3D00#16 else 0x0000#16 := by
  have h : i % 128 < 128 := Nat.mod_lt _ (by decide)
  unfold lit0t0_0
  generalize i % 128 = r at h ⊢
  revert r
  decide +kernel

theorem second_at (i : ℕ) : lit0t0_64 i = if i % 128 / 32 = 1 then 0x3D00#16 else 0x0000#16 := by
  have h : i % 128 < 128 := Nat.mod_lt _ (by decide)
  unfold lit0t0_64
  generalize i % 128 = r at h ⊢
  revert r
  decide +kernel

theorem third_at (i : ℕ) : lit0t0_128 i = if i % 128 / 32 = 2 then 0x3D00#16 else 0x0000#16 := by
  have h : i % 128 < 128 := Nat.mod_lt _ (by decide)
  unfold lit0t0_128
  generalize i % 128 = r at h ⊢
  revert r
  decide +kernel

theorem fourth_at (i : ℕ) : lit0t0_192 i = if i % 128 / 32 = 3 then 0x3D00#16 else 0x0000#16 := by
  have h : i % 128 < 128 := Nat.mod_lt _ (by decide)
  unfold lit0t0_192
  generalize i % 128 = r at h ⊢
  revert r
  decide +kernel

/-! ## The quarters: 64 rows are 128 half rows -/

theorem quarter0 (i : ℕ) : lit0t1_0 i = if i / 128 % 128 % 2 = 0 then (if i / 128 % 128 < 64 then lit0t0_0 i else lit0t0_64 i) else lit0t0_1 i := by
  have h : i / 128 % 128 < 128 := Nat.mod_lt _ (by decide)
  unfold lit0t1_0
  generalize i / 128 % 128 = q at h ⊢
  interval_cases q <;> rfl

theorem quarter1 (i : ℕ) : lit0t1_1 i = if i / 128 % 128 % 2 = 0 then (if i / 128 % 128 < 64 then lit0t0_128 i else lit0t0_192 i) else lit0t0_1 i := by
  have h : i / 128 % 128 < 128 := Nat.mod_lt _ (by decide)
  unfold lit0t1_1
  generalize i / 128 % 128 = q at h ⊢
  interval_cases q <;> rfl

theorem quarter2 (i : ℕ) : lit0t1_2 i = if i / 128 % 128 % 2 = 0 then lit0t0_1 i else if i / 128 % 128 < 64 then lit0t0_0 i else lit0t0_64 i := by
  have h : i / 128 % 128 < 128 := Nat.mod_lt _ (by decide)
  unfold lit0t1_2
  generalize i / 128 % 128 = q at h ⊢
  interval_cases q <;> rfl

theorem quarter3 (i : ℕ) : lit0t1_3 i = if i / 128 % 128 % 2 = 0 then lit0t0_1 i else if i / 128 % 128 < 64 then lit0t0_128 i else lit0t0_192 i := by
  have h : i / 128 % 128 < 128 := Nat.mod_lt _ (by decide)
  unfold lit0t1_3
  generalize i / 128 % 128 = q at h ⊢
  interval_cases q <;> rfl

/-- The word at row `j`, lane `w`. -/
theorem lit_at (j w : Fin 256) : lit0t (j.val * 256 + w.val) = if j.val / 32 = w.val / 32 then 0x3D00#16 else 0x0000#16 := by
  obtain ⟨i, hi⟩ : ∃ i, i = j.val * 256 + w.val := ⟨_, rfl⟩
  have hp : i / 16384 = j.val / 64 := by omega
  have hq : i / 128 % 128 = 2 * (j.val % 64) + w.val / 128 := by omega
  have hr : i % 128 = w.val % 128 := by omega
  have h4 : j.val / 64 < 4 := by omega
  rw [← hi]
  unfold lit0t
  rw [hp]
  generalize hg : j.val / 64 = p at h4 ⊢
  interval_cases p
  · show lit0t1_0 i = _
    rw [quarter0, first_at, second_at, none_at, hq, hr]
    split_ifs <;> first | rfl | omega
  · show lit0t1_1 i = _
    rw [quarter1, third_at, fourth_at, none_at, hq, hr]
    split_ifs <;> first | rfl | omega
  · show lit0t1_2 i = _
    rw [quarter2, first_at, second_at, none_at, hq, hr]
    split_ifs <;> first | rfl | omega
  · show lit0t1_3 i = _
    rw [quarter3, third_at, fourth_at, none_at, hq, hr]
    split_ifs <;> first | rfl | omega

end Cert.AttnPrepIdeal.Table
-- ==== Proof.PrepWindows.lean ====
/- What the host hands the preparation's kernel, and each window's block of it. -/
module

public import proofs.«01_k».proof.Proof.PrepBlock
public import proofs.«01_k».proof.Proof.PrepTable

@[expose] public section

set_option maxRecDepth 100000

noncomputable section

namespace Cert.AttnPrepIdeal.Array

open Cert.AttnPrepIdeal Cert.AttnPrepIdeal.Gen Idealize.ShloMosaic Idealize.ShloMosaic.TcCoe Cert.Route Cert.Prep

variable (m : (ℓ : Loc nD τ sig) → Buf (Elt Ideal) ℓ) (c : Dev nD)

/-- Argument 0 as launched. -/
abbrev a0 : FVec Ideal S16x4096x768 .f32 := m ((c : Thread nD τ).loc main_arg0)
/-- Argument 2 as launched. -/
abbrev a2 : FVec Ideal S32 .f32 := m ((c : Thread nD τ).loc main_arg2)

/-! ## The host's arrays -/

/-- The angle of each position and each of the four rates. -/
def angle : FVec Ideal S4096x4 .f32 :=
  mulf (broadcastInDim S4096x4 ![0, 1] bcast_S4096x1_S4096x4_0_1 (broadcastInDim S4096x1 ![0] bcast_S4096_S4096x1_0 (sitofp .f32 (iotaInDim S4096 32 0))))
    (broadcastInDim S4096x4 ![0, 1] bcast_S1x4_S4096x4_0_1 (broadcastInDim S1x4 ![1] bcast_S4_S1x4_1
      (Host.exp (mulf (mulf (sitofp .f32 (iotaInDim S4 32 0)) (broadcastInDim S4 ![] bcast_S_S4 (constant S_ .f32 0xBE800000#32)))
        (broadcastInDim S4 ![] bcast_S_S4 (constant S_ .f32 0x4151F533#32))))))

/-- Three pieces side by side, repeated over the eight groups of lanes. -/
def lanes (a b : FVec Ideal S4096x4 .f32) (z : FVec Ideal S4096x24 .f32) : FVec Ideal S4096x256 .f32 :=
  shapeCast S4096x256 (broadcastInDim S1x4096x8x32 ![0, 1, 2, 3] bcast_S1x4096x1x32_S1x4096x8x32_0_1_2_3
    (shapeCast S1x4096x1x32 (concatenate S4096x32 1 [⟨S4096x4, a⟩, ⟨S4096x4, b⟩, ⟨S4096x24, z⟩]
      concatenates_S4096x4_S4096x4_S4096x24_S4096x32_d1 : FVec Ideal S4096x32 .f32) shapeCasts_S4096x32_S1x4096x1x32)) shapeCasts_S1x4096x8x32_S4096x256

theorem v22_eq : (V m c main_v22 : FVec Ideal S4096x256 .f32)
    = lanes (Host.cos angle) (Host.cos angle) (broadcastInDim S4096x24 ![] bcast_S_S4096x24 (constant S_ .f32 0x3F800000#32)) := by
  show StableHlo.after hostOps0 _ (Proc.devRef .tc main_v22) = _
  after_results
  rfl

theorem v25_eq : (V m c main_v25 : FVec Ideal S4096x256 .f32)
    = lanes (Host.negf (Host.sin angle)) (Host.sin angle) (broadcastInDim S4096x24 ![] bcast_S_S4096x24 (constant S_ .f32 0x00000000#32)) := by
  show StableHlo.after hostOps0 _ (Proc.devRef .tc main_v25) = _
  after_results
  rfl

theorem lanes_at (a b : FVec Ideal S4096x4 .f32) (z : FVec Ideal S4096x24 .f32) (R : Fin 4096) (w : Fin 256) : lanes a b z (ix2 R w)
    = if h : w.val % 32 < 4 then a (ix2 R ⟨w.val % 32, h⟩) else if h' : w.val % 32 < 8 then b (ix2 R ⟨w.val % 32 - 4, by omega⟩)
      else z (ix2 R ⟨w.val % 32 - 8, by omega⟩) := by
  have e : w.val % 32 - 4 < 4 ↔ w.val % 32 < 8 := by omega
  have e8 : w.val % 32 - 4 - 4 = w.val % 32 - 8 := by omega
  pointwise [lanes]
  by_cases h : w.val % 32 < 4
  · rw [dif_pos h, dif_pos h]
  · by_cases h' : w.val % 32 < 8
    · rw [dif_neg h, dif_neg h, dif_pos (e.2 h'), dif_pos h']
    · rw [dif_neg h, dif_neg h, dif_neg fun q => h' (e.1 q), dif_neg h']
      simp only [e8]

theorem v33_at (w : Fin 256) : (V m c main_v33 : FVec Ideal S1x256 .f32) (ix2 0 w) = a2 m c (ix1 ⟨w.val % 32, Nat.mod_lt _ (by decide)⟩) := by
  have e : (V m c main_v33 : FVec Ideal S1x256 .f32) = shapeCast S1x256 (shapeCast S256 (broadcastInDim S8x32 ![0, 1] bcast_S1x32_S8x32_0_1
      (shapeCast S1x32 (a2 m c) shapeCasts_S32_S1x32)) shapeCasts_S8x32_S256) shapeCasts_S256_S1x256 := by
    show StableHlo.after hostOps0 _ (Proc.devRef .tc main_v33) = _
    after_results
    rfl
  rw [e]
  pointwise

/-- One thirty-second between the lanes of one group. -/
theorem mean_at (j w : Fin 256) : (V m c main_cst : FVec Ideal S256x256 .bf16) (ix2 j w) = ((if j.val / 32 = w.val / 32 then (1 / 32 : ℝ) else 0 : ℝ) : EReal) := by
  have e : (V m c main_cst : FVec Ideal S256x256 .bf16) = fun i => Ideal.ofBits .bf16 (lit0t (S256x256.rowMajor i).val) := by
    show StableHlo.after hostOps0 _ (Proc.devRef .tc main_cst) = _
    after_results
    rfl
  have hr : (S256x256.rowMajor (ix2 j w)).val = j.val * 256 + w.val := Shape.rowMajor_val_two _
  rw [e]
  show Ideal.ofBits .bf16 (lit0t (S256x256.rowMajor (ix2 j w)).val) = _
  rw [hr, Table.lit_at]
  split_ifs
  · simp only [Ideal.ofBits, Ideal.ieee]
    simp
    rw [← EReal.coe_mul]
    norm_num
  · simp [Ideal.ofBits, Ideal.ieee]

/-! ## The windows' blocks -/

theorem index0 : ∀ t : Fin cfg0.N, win0_0.index t = ![t.val % 16, t.val / 16, 0] :=
  (by decide +kernel : ∀ t : Fin grid0.N, win0_0.index t = ![t.val % 16, t.val / 16, 0])
theorem index1 : ∀ t : Fin cfg0.N, win0_1.index t = ![t.val / 16, 0] := (by decide +kernel : ∀ t : Fin grid0.N, win0_1.index t = ![t.val / 16, 0])
theorem index2 : ∀ t : Fin cfg0.N, win0_2.index t = ![t.val / 16, 0] := (by decide +kernel : ∀ t : Fin grid0.N, win0_2.index t = ![t.val / 16, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index10 : ∀ t : Fin cfg0.N, win0_10.index t = ![t.val % 16, t.val / 16, 0] :=
  (by decide +kernel : ∀ t : Fin grid0.N, win0_10.index t = ![t.val % 16, t.val / 16, 0])
theorem index11 : ∀ t : Fin cfg0.N, win0_11.index t = ![t.val % 16, t.val / 16, 0] :=
  (by decide +kernel : ∀ t : Fin grid0.N, win0_11.index t = ![t.val % 16, t.val / 16, 0])

theorem blk0_at (t : Fin cfg0.N) (b : Fin 16) (R : Fin 4096) (r : Fin 512) (d : Fin 768) (hb : b.val = t.val % 16) (hR : R.val = 512 * (t.val / 16) + r.val) :
    (iblk m c 0 t : FVec Ideal S1x512x768 .f32) (ix3 0 r d) = a0 m c (ix3 b R d) := by
  show _ = V m c main_arg0 _
  blk_simp [iblk]
  refine congrArg (V m c main_arg0) ?_
  blk_ext [index0]

theorem blk1_at (t : Fin cfg0.N) (R : Fin 4096) (r : Fin 512) (w : Fin 256) (hR : R.val = 512 * (t.val / 16) + r.val) :
    (iblk m c 1 t : FVec Ideal S512x256 .f32) (ix2 r w) = (V m c main_v22 : FVec Ideal S4096x256 .f32) (ix2 R w) := by
  blk_simp [iblk]
  refine congrArg (V m c main_v22) ?_
  blk_ext [index1]

theorem blk2_at (t : Fin cfg0.N) (R : Fin 4096) (r : Fin 512) (w : Fin 256) (hR : R.val = 512 * (t.val / 16) + r.val) :
    (iblk m c 2 t : FVec Ideal S512x256 .f32) (ix2 r w) = (V m c main_v25 : FVec Ideal S4096x256 .f32) (ix2 R w) := by
  blk_simp [iblk]
  refine congrArg (V m c main_v25) ?_
  blk_ext [index2]

theorem blk4_at (t : Fin cfg0.N) (w : Fin 256) :
    (iblk m c 4 t : FVec Ideal S1x256 .f32) (ix2 0 w) = (V m c main_v33 : FVec Ideal S1x256 .f32) (ix2 0 w) := by
  blk_simp [iblk]
  refine congrArg (V m c main_v33) ?_
  blk_ext [index4]

theorem blk5_at (t : Fin cfg0.N) (j w : Fin 256) :
    (iblk m c 5 t : FVec Ideal S256x256 .bf16) (ix2 j w) = (V m c main_cst : FVec Ideal S256x256 .bf16) (ix2 j w) := by
  blk_simp [iblk]
  refine congrArg (V m c main_cst) ?_
  blk_ext [index5]

end Cert.AttnPrepIdeal.Array
-- ==== Proof.PrepArray.lean ====
/- What the preparation's kernel leaves in its arrays of keys and of values. -/
module

public import proofs.«01_k».proof.Proof.PrepWindows

@[expose] public section

set_option maxRecDepth 100000

noncomputable section

namespace Cert.AttnPrepIdeal.Array

open Cert.AttnPrepIdeal Cert.AttnPrepIdeal.Gen Idealize.ShloMosaic Idealize.ShloMosaic.TcCoe Idealize.SL.Sem Cert.Route Cert.Prep

variable (m : (ℓ : Loc nD τ sig) → Buf (Elt Ideal) ℓ) (c : Dev nD)

/-- The run, with the two results named by what the grid's steps leave. -/
theorem run_arrays (ρ : Dev nD → PrngReg) : θ_run defs (onTc (τ := τ) (main (F := Ideal))) ⟨m, fun _ => 0, ρ⟩ fun r => ∀ c : Dev nD,
    r.2.mem ((c : Thread nD τ).loc main_v40_3) = (dats m 0 c).arrAt 10 cfg0.N
    ∧ r.2.mem ((c : Thread nD τ).loc main_v40_4) = (dats m 0 c).arrAt 11 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h c).1 10, (h c).1 11,
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩) (run_main m ρ)

theorem zero2 : (![0, 0] : Fin 2 → ℕ) = fun _ => 0 := by funext a; fin_cases a <;> rfl
theorem zero3 : (![0, 0, 0] : Fin 3 → ℕ) = fun _ => 0 := by funext a; fin_cases a <;> rfl

section
variable (x0 : Vec Ideal S1x512x768 .f32) (x1 x2 : Vec Ideal S512x256 .f32) (x3 x4 : Vec Ideal S1x256 .f32) (x5 x6 : Vec Ideal S256x256 .bf16)

theorem out10_eq : out0_10 x0 x1 x2 x3 x4 x5 x6
    = k0_pay17 (k0_pay14 (k0_pay1 x0) (k0_pay2 x1) (k0_pay3 x2) x5 k0_pay4 x4) := by
  unfold_out out0_10
  rw [View.canon_unit_zero zero3, View.ld_unit_zero zero3, View.ld_unit_zero zero2, View.ld_unit_zero zero2, View.ld_unit_zero zero2, View.ld_unit_zero zero2]

theorem out11_eq : out0_11 x0 x1 x2 x3 x4 x5 x6 = k0_pay18 (k0_pay1 x0) := by
  unfold_out out0_11
  rw [View.canon_unit_zero zero3, View.ld_unit_zero zero3]

end

/-- The cosines of a position. -/
def cosRow (R : Fin 4096) (j : Fin 4) : EReal := Ideal.cos (angle (ix2 R j))
/-- The sines of a position. -/
def sinRow (R : Fin 4096) (j : Fin 4) : EReal := Ideal.sin (angle (ix2 R j))

theorem cos_at (R : Fin 4096) (w : Fin 256) : (V m c main_v22 : FVec Ideal S4096x256 .f32) (ix2 R w) = cosLane (cosRow R) w.val := by
  rw [v22_eq, lanes_at]
  unfold cosLane
  split_ifs
  · rfl
  · rfl
  · pointwise

theorem sin_at (R : Fin 4096) (w : Fin 256) : (V m c main_v25 : FVec Ideal S4096x256 .f32) (ix2 R w) = sinLane (sinRow R) w.val := by
  rw [v25_eq, lanes_at]
  unfold sinLane
  split_ifs
  · rfl
  · rfl
  · pointwise

/-- The array of keys: every row normed and turned. -/
def keys (x : ℕ → ℕ → ℕ → ℝ) : FVec Ideal S16x4096x256 .f32 :=
  fun i => turned (unit (x (i 0).val (i 1).val) fun e => a2 m c (ix1 e)) (cosRow (i 1)) (sinRow (i 1)) (i 2).val

/-- The array of values: the last third of every row. -/
def values : FVec Ideal S16x4096x256 .f32 :=
  fun i => a0 m c (ix3 (i 0) (i 1) ⟨512 + (i 2).val, by have : (i 2).val < 256 := (i 2).isLt; omega⟩)

theorem keys_eq (x : ℕ → ℕ → ℕ → ℝ) (hx : ∀ (b : Fin 16) (R : Fin 4096) (w : Fin 256), a0 m c (ix3 b R ⟨256 + w.val, by omega⟩) = (x b.val R.val w.val : EReal)) :
    (Gen.dats m 0 c).arrAt 10 cfg0.N = keys m c x := by
  refine (Gen.dats m 0 c).arrAt_eq_of_covers 10 _ (by decide +kernel) fun t _ y => ?_
  blk_simp
  rw [after0_10, out10_eq]
  obtain ⟨r, w, rfl⟩ : ∃ (r : Fin 512) (w : Fin 256), y = ix3 0 r w := ⟨y 1, y 2, by funext a; fin_cases a; exacts [Fin.ext (by have := (y 0).isLt; simpa using this), rfl, rfl]⟩
  have ht : t.val < 128 := t.isLt
  obtain ⟨b, hb⟩ : ∃ b : Fin 16, b.val = t.val % 16 := ⟨⟨t.val % 16, by omega⟩, rfl⟩
  obtain ⟨R, hR⟩ : ∃ R : Fin 4096, R.val = 512 * (t.val / 16) + r.val := ⟨⟨512 * (t.val / 16) + r.val, by omega⟩, rfl⟩
  refine (Block.keys_at r (x b.val R.val) (fun e => a2 m c (ix1 e)) _ (fun j w => (blk5_at m c t j w).trans (mean_at m c j w)) _ _ _ _ (cosRow R) (sinRow R)
    (fun w => (blk0_at m c t b R r _ hb hR).trans (hx b R w)) (fun w => (blk4_at m c t w).trans (v33_at m c w))
    (fun w => (blk1_at m c t R r w hR).trans (cos_at m c R w)) (fun w => (blk2_at m c t R r w hR).trans (sin_at m c R w)) w).trans ?_
  show keys m c x (ix3 b R w) = _
  refine congrArg (keys m c x) ?_
  blk_ext [index10]

theorem values_eq : (Gen.dats m 0 c).arrAt 11 cfg0.N = values m c := by
  refine (Gen.dats m 0 c).arrAt_eq_of_covers 11 _ (by decide +kernel) fun t _ y => ?_
  blk_simp
  rw [after0_11, out11_eq]
  obtain ⟨r, w, rfl⟩ : ∃ (r : Fin 512) (w : Fin 256), y = ix3 0 r w := ⟨y 1, y 2, by funext a; fin_cases a; exacts [Fin.ext (by have := (y 0).isLt; simpa using this), rfl, rfl]⟩
  have ht : t.val < 128 := t.isLt
  obtain ⟨b, hb⟩ : ∃ b : Fin 16, b.val = t.val % 16 := ⟨⟨t.val % 16, by omega⟩, rfl⟩
  obtain ⟨R, hR⟩ : ∃ R : Fin 4096, R.val = 512 * (t.val / 16) + r.val := ⟨⟨512 * (t.val / 16) + r.val, by omega⟩, rfl⟩
  refine ((Block.values_at r _ w).trans (blk0_at m c t b R r _ hb hR)).trans ?_
  show values m c (ix3 b R w) = _
  refine congrArg (values m c) ?_
  blk_ext [index11]

end Cert.AttnPrepIdeal.Array
-- ==== Proof.PrepRef.lean ====
/- What the preparation's reference computes: each key row normed head by head and turned. -/
module

public import proofs.«01_k».proof.Proof.PrepRow
public import proofs.«01_k».proof.Proof.Gen.AttnPrepReferenceIdeal.Run
public import proofs.«01_k».proof.Proof.Gen.AttnPrepReferenceIdeal.Read
public import Idealize.ShloMosaic.Lib.Pipeline.ValueKit

@[expose] public section

set_option maxRecDepth 100000

noncomputable section

namespace Cert.AttnPrepReferenceIdeal.Row

open Cert.AttnPrepReferenceIdeal Cert.AttnPrepReferenceIdeal.Gen Cert.AttnPrepReferenceIdeal.Read Idealize.ShloMosaic Cert.Route Cert.Prep

variable (x0 : FVec Ideal S16x4096x768 .f32) (x2 : FVec Ideal S32 .f32)

theorem v17_at (b : Fin 16) (R : Fin 4096) (h : Fin 4) (s : Fin 2) (e : Fin 32) (x : ℕ → ℝ) (hx : ∀ w : Fin 256, x0 (ix3 b R ⟨256 + w.val, by omega⟩) = (x w.val : EReal)) :
    val_main_v17 (F := Ideal) x0 x2 (ix5 b R h s e) = unit x (fun e => x2 (ix1 e)) (64 * h.val + 32 * s.val + e.val) := by
  pointwise [val_main_v17, val_main_v16, val_main_v15, val_main_v14, val_main_v13, val_main_v12, val_main_v11, val_main_v10, val_main_v9, val_main_v8, val_main_v7, val_main_v6,
    val_main_v5, val_main_v4, val_main_v2, val_main_cst, val_main_cst_0, val_main_cst_1]
  have hd : Ideal.ofBits .f32 0x42000000#32 = ((32 : ℝ) : EReal) := by
    simp only [Ideal.ofBits, Ideal.ieee]
    simp
    rw [← EReal.coe_mul]
    norm_num
  have e0 : (64 * h.val + 32 * s.val + e.val) / 32 = 2 * h.val + s.val := by omega
  have e1 : (64 * h.val + 32 * s.val + e.val) % 32 = e.val := by omega
  have hx' : ∀ e : Fin 32, x0 (ix3 b R ⟨256 + (h.val * 64 + s.val * 32 + e.val), by omega⟩) = (x (32 * (2 * h.val + s.val) + e.val) : EReal) := fun e => by
    refine (hx ⟨h.val * 64 + s.val * 32 + e.val, by omega⟩).trans ?_
    exact congrArg (fun n => (x n : EReal)) (by show h.val * 64 + s.val * 32 + e.val = _; omega)
  have hs : 32 * (2 * h.val + s.val) + e.val = 64 * h.val + 32 * s.val + e.val := by omega
  simp only [hx', hd, ← EReal.coe_mul, ← coe_sum]
  rw [div_real _ (by norm_num)]
  unfold unit meanSq
  simp only [e0, e1, hs]

/-- The keys' array, turned. -/
theorem v50_at (b : Fin 16) (R : Fin 4096) (w : Fin 256) (x : ℕ → ℝ) (hx : ∀ w : Fin 256, x0 (ix3 b R ⟨256 + w.val, by omega⟩) = (x w.val : EReal)) :
    val_main_v50 (F := Ideal) x0 x2 (ix3 b R w) = turned (unit x fun e => x2 (ix1 e)) (fun j => Ideal.cos (val_main_v29 (F := Ideal) (ix2 R j)))
      (fun j => Ideal.sin (val_main_v29 (F := Ideal) (ix2 R j))) w.val := by
  pointwise [val_main_v50, val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30]
  simp only [v17_at x0 x2 b R _ _ _ x hx]
  have e : 64 * (w.val / 64) + 32 * (w.val / 32 % 2) + w.val % 32 = w.val := by omega
  have e4 : 64 * (w.val / 64) + 32 * (w.val / 32 % 2) + (4 + w.val % 32) = w.val + 4 := by omega
  unfold turned
  by_cases h : w.val % 32 < 4
  · simp only [h, show w.val % 32 < 8 by omega, dite_true, e, e4]
  · by_cases h' : w.val % 32 < 8
    · have f : 64 * (w.val / 64) + 32 * (w.val / 32 % 2) + (4 + (w.val % 32 - 4)) = w.val := by omega
      have f4 : 64 * (w.val / 64) + 32 * (w.val / 32 % 2) + (w.val % 32 - 4) = w.val - 4 := by omega
      simp only [h, h', dite_true, dite_false, f, f4]
    · have f : 64 * (w.val / 64) + 32 * (w.val / 32 % 2) + (8 + (w.val % 32 - 8)) = w.val := by omega
      simp only [h, h', dite_false, f]

theorem v3_at (b : Fin 16) (R : Fin 4096) (w : Fin 256) : val_main_v3 (F := Ideal) x0 (ix3 b R w) = x0 (ix3 b R ⟨512 + w.val, by omega⟩) := by
  pointwise [val_main_v3]

end Cert.AttnPrepReferenceIdeal.Row
-- ==== Proof.AttnTile.lean ====
/- One tile of keys for one head and one of its two maps: the scores, the greatest score so far and the scaled sum so far, with a tile of 1024 keys that
   every query sees and with a tile of 512 keys of which a query sees some. -/
module

public import proofs.«01_k».proof.Proof.Gen.AttentionIdeal.Loops
public import proofs.«01_k».proof.Proof.AttnSoftmax

@[expose] public section

set_option maxRecDepth 100000

noncomputable section

namespace Cert.AttentionIdeal.Tile

open Cert.AttentionIdeal Cert.AttentionIdeal.Gen Idealize.ShloMosaic Cert.Route Cert.Attn

/-- The named scale of the exponents. -/
def named2 : Ideal .f32 := Named.named κ "log2_scale" 0x3E8293EE#32

theorem named2_eq : named2 = (scale2 : EReal) := rfl

/-! ## A tile of 1024 keys -/

def wideScore0 (q : FVec Ideal S512x32 .bf16) (k : Vec Ideal S1x64x1024 .bf16) : FVec Ideal S512x1024 .f32 :=
  matmul dot_S512x32_S32x1024_S512x1024_1_0_0_1_n_n none q
    (extractStridedSlice S32x1024 ![0, 0] (shapeCast S64x1024 k shapeCasts_S1x64x1024_S64x1024 : FVec Ideal S64x1024 .bf16) slices_S64x1024_o0_0_S32x1024)
    (constant S512x1024 .f32 0x00000000#32)

def wideScore1 (q : FVec Ideal S512x32 .bf16) (k : Vec Ideal S1x64x1024 .bf16) : FVec Ideal S512x1024 .f32 :=
  matmul dot_S512x32_S32x1024_S512x1024_1_0_0_1_n_n none q
    (extractStridedSlice S32x1024 ![32, 0] (shapeCast S64x1024 k shapeCasts_S1x64x1024_S64x1024 : FVec Ideal S64x1024 .bf16) slices_S64x1024_o32_0_S32x1024)
    (constant S512x1024 .f32 0x00000000#32)

def wideMax (s : FVec Ideal S512x1024 .f32) (m : FVec Ideal S512x1 .f32) : FVec Ideal S512x1 .f32 :=
  maximumf m (shapeCast S512x1 (multiReduction .maximumf [1] S512 s 0xFF800000#32 reduces_S512x1024_S512 (.inl rfl) rfl : FVec Ideal S512 .f32)
    shapeCasts_S512_S512x1)

def wideSum (s : FVec Ideal S512x1024 .f32) (m m' : FVec Ideal S512x1 .f32) (a : FVec Ideal S512x128 .f32) (v : Vec Ideal S1x1024x128 .bf16) :
    FVec Ideal S512x128 .f32 :=
  addf (mulf (broadcastTo S512x128 (exp2 (mulf (subf m m') (broadcast S512x1 named2))) broadcasts_S512x1_S512x128) a)
    (matmul dot_S512x1024_S1024x128_S512x128_1_0_0_1_n_n none
      (truncf .bf16 (exp2 (mulf (subf s (broadcastTo S512x1024 m' broadcasts_S512x1_S512x1024)) (broadcast S512x1024 named2))) bitsLt_bf16_f32)
      (shapeCast S1024x128 v shapeCasts_S1x1024x128_S1024x128 : FVec Ideal S1024x128 .bf16) (constant S512x128 .f32 0x00000000#32))

theorem wideScore0_at (q : FVec Ideal S512x32 .bf16) (k : Vec Ideal S1x64x1024 .bf16) (r : Fin 512) (j : Fin 1024) :
    wideScore0 q k (ix2 r j) = ∑ d : Fin 32, q (ix2 r d) * k (ix3 0 ⟨d.val, by omega⟩ j) := by
  pointwise [wideScore0]

theorem wideScore1_at (q : FVec Ideal S512x32 .bf16) (k : Vec Ideal S1x64x1024 .bf16) (r : Fin 512) (j : Fin 1024) :
    wideScore1 q k (ix2 r j) = ∑ d : Fin 32, q (ix2 r d) * k (ix3 0 ⟨32 + d.val, by omega⟩ j) := by
  pointwise [wideScore1]

theorem wideMax_at (s : FVec Ideal S512x1024 .f32) (m : FVec Ideal S512x1 .f32) (r : Fin 512) :
    wideMax s m (ix2 r 0) = max (m (ix2 r 0)) (Finset.univ.fold max ⊥ fun j => s (ix2 r j)) := by
  pointwise [wideMax]
  rw [none_bits]

theorem wideSum_at (s : FVec Ideal S512x1024 .f32) (m m' : FVec Ideal S512x1 .f32) (a : FVec Ideal S512x128 .f32) (v : Vec Ideal S1x1024x128 .bf16)
    (r : Fin 512) (e : Fin 128) :
    wideSum s m m' a v (ix2 r e) = Ideal.exp2 ((m (ix2 r 0) - m' (ix2 r 0)) * named2) * a (ix2 r e)
      + ∑ j, Ideal.exp2 ((s (ix2 r j) - m' (ix2 r 0)) * named2) * v (ix3 0 j e) := by
  pointwise [wideSum]
  rfl

/-! ## A tile of 512 keys -/

def score0 (q : FVec Ideal S512x32 .bf16) (k : Vec Ideal S1x64x512 .bf16) : FVec Ideal S512x512 .f32 :=
  matmul dot_S512x32_S32x512_S512x512_1_0_0_1_n_n none q
    (extractStridedSlice S32x512 ![0, 0] (shapeCast S64x512 k shapeCasts_S1x64x512_S64x512 : FVec Ideal S64x512 .bf16) slices_S64x512_o0_0_S32x512)
    (constant S512x512 .f32 0x00000000#32)

def score1 (q : FVec Ideal S512x32 .bf16) (k : Vec Ideal S1x64x512 .bf16) : FVec Ideal S512x512 .f32 :=
  matmul dot_S512x32_S32x512_S512x512_1_0_0_1_n_n none q
    (extractStridedSlice S32x512 ![32, 0] (shapeCast S64x512 k shapeCasts_S1x64x512_S64x512 : FVec Ideal S64x512 .bf16) slices_S64x512_o32_0_S32x512)
    (constant S512x512 .f32 0x00000000#32)

/-- The scores of the keys a query sees, `−∞` in the place of the others. -/
def cut (b : IVec S512x512 1) (s : FVec Ideal S512x512 .f32) : FVec Ideal S512x512 .f32 :=
  select b s (broadcast S512x512 (Named.named κ "mask" 0xF149F2CA#32 : Ideal .f32))

def tileMax (s : FVec Ideal S512x512 .f32) (m : FVec Ideal S512x1 .f32) : FVec Ideal S512x1 .f32 :=
  maximumf m (shapeCast S512x1 (multiReduction .maximumf [1] S512 s 0xFF800000#32 reduces_S512x512_S512 (.inl rfl) rfl : FVec Ideal S512 .f32)
    shapeCasts_S512_S512x1)

def tileSum (s : FVec Ideal S512x512 .f32) (m m' : FVec Ideal S512x1 .f32) (a : FVec Ideal S512x128 .f32) (v : Vec Ideal S1x512x128 .bf16) :
    FVec Ideal S512x128 .f32 :=
  addf (mulf (broadcastTo S512x128 (exp2 (mulf (subf m m') (broadcast S512x1 named2))) broadcasts_S512x1_S512x128) a)
    (matmul dot_S512x512_S512x128_S512x128_1_0_0_1_n_n none
      (truncf .bf16 (exp2 (mulf (subf s (broadcastTo S512x512 m' broadcasts_S512x1_S512x512)) (broadcast S512x512 named2))) bitsLt_bf16_f32)
      (shapeCast S512x128 v shapeCasts_S1x512x128_S512x128 : FVec Ideal S512x128 .bf16) (constant S512x128 .f32 0x00000000#32))

theorem score0_at (q : FVec Ideal S512x32 .bf16) (k : Vec Ideal S1x64x512 .bf16) (r : Fin 512) (j : Fin 512) :
    score0 q k (ix2 r j) = ∑ d : Fin 32, q (ix2 r d) * k (ix3 0 ⟨d.val, by omega⟩ j) := by
  pointwise [score0]

theorem score1_at (q : FVec Ideal S512x32 .bf16) (k : Vec Ideal S1x64x512 .bf16) (r : Fin 512) (j : Fin 512) :
    score1 q k (ix2 r j) = ∑ d : Fin 32, q (ix2 r d) * k (ix3 0 ⟨32 + d.val, by omega⟩ j) := by
  pointwise [score1]

theorem cut_at (b : IVec S512x512 1) (s : FVec Ideal S512x512 .f32) (r j : Fin 512) :
    cut b s (ix2 r j) = if b (ix2 r j) = 1#1 then s (ix2 r j) else ⊥ := rfl

theorem tileMax_at (s : FVec Ideal S512x512 .f32) (m : FVec Ideal S512x1 .f32) (r : Fin 512) :
    tileMax s m (ix2 r 0) = max (m (ix2 r 0)) (Finset.univ.fold max ⊥ fun j => s (ix2 r j)) := by
  pointwise [tileMax]
  rw [none_bits]

theorem tileSum_at (s : FVec Ideal S512x512 .f32) (m m' : FVec Ideal S512x1 .f32) (a : FVec Ideal S512x128 .f32) (v : Vec Ideal S1x512x128 .bf16)
    (r : Fin 512) (e : Fin 128) :
    tileSum s m m' a v (ix2 r e) = Ideal.exp2 ((m (ix2 r 0) - m' (ix2 r 0)) * named2) * a (ix2 r e)
      + ∑ j, Ideal.exp2 ((s (ix2 r j) - m' (ix2 r 0)) * named2) * v (ix3 0 j e) := by
  pointwise [tileSum]
  rfl

end Cert.AttentionIdeal.Tile
-- ==== Proof.AttnTrips.lean ====
/- The two loops over the tiles of keys: what one trip does to the eight pairs it carries, of a greatest score and a scaled sum, and how many trips there are. -/
module

public import proofs.«01_k».proof.Proof.AttnTile

@[expose] public section

set_option maxRecDepth 100000

noncomputable section

namespace Cert.AttentionIdeal.Tile

open Cert.AttentionIdeal Cert.AttentionIdeal.Gen Idealize.ShloMosaic Idealize.ShloMosaic.TcCoe Idealize.ShloMosaic.Tactic Cert.Route Cert.Attn

/-- A loop's carried values: for each of four heads and each of its two maps a greatest score and a scaled sum. -/
abbrev Carry : Type := FVec Ideal S512x1 .f32 × FVec Ideal S512x128 .f32 × FVec Ideal S512x1 .f32 × FVec Ideal S512x128 .f32 × FVec Ideal S512x1 .f32
  × FVec Ideal S512x128 .f32 × FVec Ideal S512x1 .f32 × FVec Ideal S512x128 .f32 × FVec Ideal S512x1 .f32 × FVec Ideal S512x128 .f32
  × FVec Ideal S512x1 .f32 × FVec Ideal S512x128 .f32 × FVec Ideal S512x1 .f32 × FVec Ideal S512x128 .f32 × FVec Ideal S512x1 .f32 × FVec Ideal S512x128 .f32

/-! ## The tiles read from the keys and from the values -/

def keysWide (x : Vec Ideal S1x256x4096 .bf16) (o n : ℕ) (ho : o + 64 ≤ 256) (hn : n + 1024 ≤ 4096) : Vec Ideal S1x64x1024 .bf16 :=
  View.ld x (Rect.unit (s := S1x256x4096) ![0, o, n] S1x64x1024.size (by intro a; fin_cases a <;> simp <;> omega))

def valsWide (x : Vec Ideal S1x4096x512 .bf16) (o n : ℕ) (ho : o + 128 ≤ 512) (hn : n + 1024 ≤ 4096) : Vec Ideal S1x1024x128 .bf16 :=
  View.ld x (Rect.unit (s := S1x4096x512) ![0, n, o] S1x1024x128.size (by intro a; fin_cases a <;> simp <;> omega))

def keysTile (x : Vec Ideal S1x256x4096 .bf16) (o n : ℕ) (ho : o + 64 ≤ 256) (hn : n + 512 ≤ 4096) : Vec Ideal S1x64x512 .bf16 :=
  View.ld x (Rect.unit (s := S1x256x4096) ![0, o, n] S1x64x512.size (by intro a; fin_cases a <;> simp <;> omega))

def valsTile (x : Vec Ideal S1x4096x512 .bf16) (o n : ℕ) (ho : o + 128 ≤ 512) (hn : n + 512 ≤ 4096) : Vec Ideal S1x512x128 .bf16 :=
  View.ld x (Rect.unit (s := S1x4096x512) ![0, n, o] S1x512x128.size (by intro a; fin_cases a <;> simp <;> omega))

theorem keysWide_at (x : Vec Ideal S1x256x4096 .bf16) (o n : ℕ) (ho : o + 64 ≤ 256) (hn : n + 1024 ≤ 4096) (d : Fin 64) (j : Fin 1024) :
    keysWide x o n ho hn (ix3 0 d j) = x (ix3 0 ⟨o + d.val, by omega⟩ ⟨n + j.val, by omega⟩) := by
  refine congrArg x ?_
  funext a
  fin_cases a <;> refine Fin.ext ?_ <;> simp [Rect.unit, ix3]

theorem valsWide_at (x : Vec Ideal S1x4096x512 .bf16) (o n : ℕ) (ho : o + 128 ≤ 512) (hn : n + 1024 ≤ 4096) (j : Fin 1024) (e : Fin 128) :
    valsWide x o n ho hn (ix3 0 j e) = x (ix3 0 ⟨n + j.val, by omega⟩ ⟨o + e.val, by omega⟩) := by
  refine congrArg x ?_
  funext a
  fin_cases a <;> refine Fin.ext ?_ <;> simp [Rect.unit, ix3]

theorem keysTile_at (x : Vec Ideal S1x256x4096 .bf16) (o n : ℕ) (ho : o + 64 ≤ 256) (hn : n + 512 ≤ 4096) (d : Fin 64) (j : Fin 512) :
    keysTile x o n ho hn (ix3 0 d j) = x (ix3 0 ⟨o + d.val, by omega⟩ ⟨n + j.val, by omega⟩) := by
  refine congrArg x ?_
  funext a
  fin_cases a <;> refine Fin.ext ?_ <;> simp [Rect.unit, ix3]

theorem valsTile_at (x : Vec Ideal S1x4096x512 .bf16) (o n : ℕ) (ho : o + 128 ≤ 512) (hn : n + 512 ≤ 4096) (j : Fin 512) (e : Fin 128) :
    valsTile x o n ho hn (ix3 0 j e) = x (ix3 0 ⟨n + j.val, by omega⟩ ⟨o + e.val, by omega⟩) := by
  refine congrArg x ?_
  funext a
  fin_cases a <;> refine Fin.ext ?_ <;> simp [Rect.unit, ix3]

/-! ## One trip -/

section

variable (x1 : Vec Ideal S1x256x4096 .bf16) (x2 : Vec Ideal S1x4096x512 .bf16) (q00 q01 q10 q11 q20 q21 q30 q31 : FVec Ideal S512x32 .bf16)

/-- A trip over 1024 keys from key `n` on, which every query sees. -/
def wideStep (n : ℕ) (hn : n + 1024 ≤ 4096) (a : Carry) : Carry :=
  (wideMax (wideScore0 q00 (keysWide x1 0 n (by omega) hn)) a.1,
    wideSum (wideScore0 q00 (keysWide x1 0 n (by omega) hn)) a.1 (wideMax (wideScore0 q00 (keysWide x1 0 n (by omega) hn)) a.1) a.2.1 (valsWide x2 0 n (by omega) hn),
    wideMax (wideScore1 q01 (keysWide x1 0 n (by omega) hn)) a.2.2.1,
    wideSum (wideScore1 q01 (keysWide x1 0 n (by omega) hn)) a.2.2.1 (wideMax (wideScore1 q01 (keysWide x1 0 n (by omega) hn)) a.2.2.1) a.2.2.2.1 (valsWide x2 0 n (by omega) hn),
    wideMax (wideScore0 q10 (keysWide x1 64 n (by omega) hn)) a.2.2.2.2.1,
    wideSum (wideScore0 q10 (keysWide x1 64 n (by omega) hn)) a.2.2.2.2.1 (wideMax (wideScore0 q10 (keysWide x1 64 n (by omega) hn)) a.2.2.2.2.1) a.2.2.2.2.2.1 (valsWide x2 128 n (by omega) hn),
    wideMax (wideScore1 q11 (keysWide x1 64 n (by omega) hn)) a.2.2.2.2.2.2.1,
    wideSum (wideScore1 q11 (keysWide x1 64 n (by omega) hn)) a.2.2.2.2.2.2.1 (wideMax (wideScore1 q11 (keysWide x1 64 n (by omega) hn)) a.2.2.2.2.2.2.1) a.2.2.2.2.2.2.2.1 (valsWide x2 128 n (by omega) hn),
    wideMax (wideScore0 q20 (keysWide x1 128 n (by omega) hn)) a.2.2.2.2.2.2.2.2.1,
    wideSum (wideScore0 q20 (keysWide x1 128 n (by omega) hn)) a.2.2.2.2.2.2.2.2.1 (wideMax (wideScore0 q20 (keysWide x1 128 n (by omega) hn)) a.2.2.2.2.2.2.2.2.1) a.2.2.2.2.2.2.2.2.2.1 (valsWide x2 256 n (by omega) hn),
    wideMax (wideScore1 q21 (keysWide x1 128 n (by omega) hn)) a.2.2.2.2.2.2.2.2.2.2.1,
    wideSum (wideScore1 q21 (keysWide x1 128 n (by omega) hn)) a.2.2.2.2.2.2.2.2.2.2.1 (wideMax (wideScore1 q21 (keysWide x1 128 n (by omega) hn)) a.2.2.2.2.2.2.2.2.2.2.1) a.2.2.2.2.2.2.2.2.2.2.2.1 (valsWide x2 256 n (by omega) hn),
    wideMax (wideScore0 q30 (keysWide x1 192 n (by omega) hn)) a.2.2.2.2.2.2.2.2.2.2.2.2.1,
    wideSum (wideScore0 q30 (keysWide x1 192 n (by omega) hn)) a.2.2.2.2.2.2.2.2.2.2.2.2.1 (wideMax (wideScore0 q30 (keysWide x1 192 n (by omega) hn)) a.2.2.2.2.2.2.2.2.2.2.2.2.1) a.2.2.2.2.2.2.2.2.2.2.2.2.2.1 (valsWide x2 384 n (by omega) hn),
    wideMax (wideScore1 q31 (keysWide x1 192 n (by omega) hn)) a.2.2.2.2.2.2.2.2.2.2.2.2.2.2.1,
    wideSum (wideScore1 q31 (keysWide x1 192 n (by omega) hn)) a.2.2.2.2.2.2.2.2.2.2.2.2.2.2.1 (wideMax (wideScore1 q31 (keysWide x1 192 n (by omega) hn)) a.2.2.2.2.2.2.2.2.2.2.2.2.2.2.1) a.2.2.2.2.2.2.2.2.2.2.2.2.2.2.2 (valsWide x2 384 n (by omega) hn))

/-- A trip over 512 keys from key `n` on, of which the queries see those marked. -/
def tileStep (b : IVec S512x512 1) (n : ℕ) (hn : n + 512 ≤ 4096) (a : Carry) : Carry :=
  (tileMax (cut b (score0 q00 (keysTile x1 0 n (by omega) hn))) a.1,
    tileSum (cut b (score0 q00 (keysTile x1 0 n (by omega) hn))) a.1 (tileMax (cut b (score0 q00 (keysTile x1 0 n (by omega) hn))) a.1) a.2.1 (valsTile x2 0 n (by omega) hn),
    tileMax (cut b (score1 q01 (keysTile x1 0 n (by omega) hn))) a.2.2.1,
    tileSum (cut b (score1 q01 (keysTile x1 0 n (by omega) hn))) a.2.2.1 (tileMax (cut b (score1 q01 (keysTile x1 0 n (by omega) hn))) a.2.2.1) a.2.2.2.1 (valsTile x2 0 n (by omega) hn),
    tileMax (cut b (score0 q10 (keysTile x1 64 n (by omega) hn))) a.2.2.2.2.1,
    tileSum (cut b (score0 q10 (keysTile x1 64 n (by omega) hn))) a.2.2.2.2.1 (tileMax (cut b (score0 q10 (keysTile x1 64 n (by omega) hn))) a.2.2.2.2.1) a.2.2.2.2.2.1 (valsTile x2 128 n (by omega) hn),
    tileMax (cut b (score1 q11 (keysTile x1 64 n (by omega) hn))) a.2.2.2.2.2.2.1,
    tileSum (cut b (score1 q11 (keysTile x1 64 n (by omega) hn))) a.2.2.2.2.2.2.1 (tileMax (cut b (score1 q11 (keysTile x1 64 n (by omega) hn))) a.2.2.2.2.2.2.1) a.2.2.2.2.2.2.2.1 (valsTile x2 128 n (by omega) hn),
    tileMax (cut b (score0 q20 (keysTile x1 128 n (by omega) hn))) a.2.2.2.2.2.2.2.2.1,
    tileSum (cut b (score0 q20 (keysTile x1 128 n (by omega) hn))) a.2.2.2.2.2.2.2.2.1 (tileMax (cut b (score0 q20 (keysTile x1 128 n (by omega) hn))) a.2.2.2.2.2.2.2.2.1) a.2.2.2.2.2.2.2.2.2.1 (valsTile x2 256 n (by omega) hn),
    tileMax (cut b (score1 q21 (keysTile x1 128 n (by omega) hn))) a.2.2.2.2.2.2.2.2.2.2.1,
    tileSum (cut b (score1 q21 (keysTile x1 128 n (by omega) hn))) a.2.2.2.2.2.2.2.2.2.2.1 (tileMax (cut b (score1 q21 (keysTile x1 128 n (by omega) hn))) a.2.2.2.2.2.2.2.2.2.2.1) a.2.2.2.2.2.2.2.2.2.2.2.1 (valsTile x2 256 n (by omega) hn),
    tileMax (cut b (score0 q30 (keysTile x1 192 n (by omega) hn))) a.2.2.2.2.2.2.2.2.2.2.2.2.1,
    tileSum (cut b (score0 q30 (keysTile x1 192 n (by omega) hn))) a.2.2.2.2.2.2.2.2.2.2.2.2.1 (tileMax (cut b (score0 q30 (keysTile x1 192 n (by omega) hn))) a.2.2.2.2.2.2.2.2.2.2.2.2.1) a.2.2.2.2.2.2.2.2.2.2.2.2.2.1 (valsTile x2 384 n (by omega) hn),
    tileMax (cut b (score1 q31 (keysTile x1 192 n (by omega) hn))) a.2.2.2.2.2.2.2.2.2.2.2.2.2.2.1,
    tileSum (cut b (score1 q31 (keysTile x1 192 n (by omega) hn))) a.2.2.2.2.2.2.2.2.2.2.2.2.2.2.1 (tileMax (cut b (score1 q31 (keysTile x1 192 n (by omega) hn))) a.2.2.2.2.2.2.2.2.2.2.2.2.2.2.1) a.2.2.2.2.2.2.2.2.2.2.2.2.2.2.2 (valsTile x2 384 n (by omega) hn))

end

theorem wide_trip (𝒱 : Variants) (bd : Option 𝒱.V) (c : Dev nD) (i : grid0.Coords) (arg2 : Memref sig .tc .vmem S1x512x256 .bf16) (harg2 : arg2.IsWhole) (arg3 : Memref sig .tc .vmem S1x256x4096 .bf16)
    (harg3 : arg3.IsWhole) (arg4 : Memref sig .tc .vmem S1x4096x512 .bf16) (harg4 : arg4.IsWhole) (arg5 : Memref sig .tc .vmem S4x32 .f32) (harg5 : arg5.IsWhole)
    (arg6 : Memref sig .tc .vmem S1x64 .f32) (harg6 : arg6.IsWhole) (arg7 : Memref sig .tc .vmem S1x512x256 .bf16) (harg7 : arg7.IsWhole)
    (v15 : FVec Ideal S1x1 .f32) (v17 : FVec Ideal S1x64 .f32) (v42 v67 : IVec S512x512 32) (q00 q01 q10 q11 q20 q21 q30 q31 : FVec Ideal S512x32 .bf16)
    (v84 : FVec Ideal S512x1 .f32) (v85 : FVec Ideal S512x128 .f32) (v103 v122 c0 v123 c1 : BitVec 32)
    (x1 : Vec Ideal S1x256x4096 .bf16) (x2 : Vec Ideal S1x4096x512 .bf16) (k : Fin (k0_t1_loop i).trips) (a : Carry) (n : ℕ) (hn : n + 1024 ≤ 4096)
    (e : k0_off1 i k 2 = n) :
    tripR_k0_t1 𝒱 c bd i arg2 harg2 arg3 harg3 arg4 harg4 arg5 harg5 arg6 harg6 arg7 harg7 v15 v17 v42 v67 q00 q01 q10 q11 q20 q21 q30 q31 v84 v85 v103 v122 c0 v123 c1 (harg3.unread x1) (harg4.unread x2) k a = wideStep x1 x2 q00 q01 q10 q11 q20 q21 q30 q31 n hn a := by
  unfold tripR_k0_t1 trip_k0_t1
  dsimp only
  sl_unfold_words
  simp only [View.readAt_eq_ld, harg3.read_unread, harg4.read_unread]
  subst e
  rfl

theorem tile_trip (𝒱 : Variants) (bd : Option 𝒱.V) (c : Dev nD) (i : grid0.Coords) (arg2 : Memref sig .tc .vmem S1x512x256 .bf16) (harg2 : arg2.IsWhole) (arg3 : Memref sig .tc .vmem S1x256x4096 .bf16)
    (harg3 : arg3.IsWhole) (arg4 : Memref sig .tc .vmem S1x4096x512 .bf16) (harg4 : arg4.IsWhole) (arg5 : Memref sig .tc .vmem S4x32 .f32) (harg5 : arg5.IsWhole)
    (arg6 : Memref sig .tc .vmem S1x64 .f32) (harg6 : arg6.IsWhole) (arg7 : Memref sig .tc .vmem S1x512x256 .bf16) (harg7 : arg7.IsWhole)
    (v15 : FVec Ideal S1x1 .f32) (v17 : FVec Ideal S1x64 .f32) (v42 v67 : IVec S512x512 32) (q00 q01 q10 q11 q20 q21 q30 q31 : FVec Ideal S512x32 .bf16)
    (v84 : FVec Ideal S512x1 .f32) (v85 : FVec Ideal S512x128 .f32) (v103 v122 c0 v123 c1 : BitVec 32)
    (x1 : Vec Ideal S1x256x4096 .bf16) (x2 : Vec Ideal S1x4096x512 .bf16) (k : Fin (k0_t3_loop i).trips) (a : Carry) (n : ℕ) (hn : n + 512 ≤ 4096)
    (e : k0_off17 i k 2 = n) :
    tripR_k0_t3 𝒱 c bd i arg2 harg2 arg3 harg3 arg4 harg4 arg5 harg5 arg6 harg6 arg7 harg7 v15 v17 v42 v67 q00 q01 q10 q11 q20 q21 q30 q31 v84 v85 v103 v122 c0 v123 c1 (harg3.unread x1) (harg4.unread x2) k a = tileStep x1 x2 q00 q01 q10 q11 q20 q21 q30 q31 (k0_pay66 i v42 v67 v122 0#32 1#32 k) n hn a := by
  unfold tripR_k0_t3 trip_k0_t3
  dsimp only
  sl_unfold_words
  simp only [View.readAt_eq_ld, harg3.read_unread, harg4.read_unread]
  subst e
  rfl

end Cert.AttentionIdeal.Tile
-- ==== Proof.AttnCounts.lean ====
/- How many tiles each loop goes through, which keys a trip reads, and which of them a query sees. -/
module

public import proofs.«01_k».proof.Proof.AttnTrips

@[expose] public section

set_option maxRecDepth 100000

noncomputable section

namespace Cert.AttentionIdeal.Tile

open Cert.AttentionIdeal Cert.AttentionIdeal.Gen Idealize.ShloMosaic Idealize.ShloMosaic.TcCoe Cert.Route Cert.Attn

/-- The block of queries a grid point works on. -/
abbrev qblk (i : grid0.Coords) : ℕ := (i 1).val

theorem qblk_lt (i : grid0.Coords) : qblk i < 8 := (i 1).isLt

theorem trips1 (i : grid0.Coords) : (k0_t1_loop i).trips = qblk i / 2 := by
  unfold qblk
  have h : (i 1).val < 8 := (i 1).isLt
  dsimp only [k0_t1_loop]
  generalize (i 1).val = j at h
  interval_cases j <;> rfl

theorem trips2 (i : grid0.Coords) : (k0_t2_loop i).trips = 0 := by
  have h : (i 1).val < 8 := (i 1).isLt
  dsimp only [k0_t2_loop]
  generalize (i 1).val = j at h
  interval_cases j <;> rfl

theorem trips3 (i : grid0.Coords) : (k0_t3_loop i).trips = qblk i % 2 + 1 := by
  unfold qblk
  have h : (i 1).val < 8 := (i 1).isLt
  dsimp only [k0_t3_loop]
  generalize (i 1).val = j at h
  interval_cases j <;> rfl

theorem trips4 (i : grid0.Coords) : (k0_t4_loop i).trips = 0 := by
  have h : (i 1).val < 8 := (i 1).isLt
  dsimp only [k0_t4_loop]
  generalize (i 1).val = j at h
  interval_cases j <;> rfl

theorem off1 (i : grid0.Coords) (k : Fin (k0_t1_loop i).trips) : k0_off1 i k 2 = 1024 * k.val := by
  have h : k.val < 4 := by have := k.isLt; have := trips1 i; have := qblk_lt i; omega
  unfold k0_off1
  generalize k.val = j at h ⊢
  interval_cases j <;> rfl

theorem off17 (i : grid0.Coords) (k : Fin (k0_t3_loop i).trips) : k0_off17 i k 2 = 1024 * (qblk i / 2) + 512 * k.val := by
  have h : k.val < 2 := by have := k.isLt; have := trips3 i; omega
  have h' : (i 1).val < 8 := (i 1).isLt
  unfold k0_off17 qblk
  generalize k.val = j at h ⊢
  generalize (i 1).val = l at h' ⊢
  interval_cases j <;> interval_cases l <;> rfl

/-- The row's chunk. -/
theorem rowChunk_at (r j : Fin 512) : k0_pay150 (ix2 r j) = BitVec.ofNat 32 (r.val / 64) :=
  (by decide +kernel : ∀ r : Fin 512, k0_pay150 (ix2 r 0) = BitVec.ofNat 32 (r.val / 64)) r

/-- The column's chunk. -/
theorem colChunk_at (r j : Fin 512) : k0_pay151 (iota .tc S512x512 32 [1] iota_S512x512_d1_w32) (ix2 r j) = BitVec.ofNat 32 (j.val / 64) :=
  (by decide +kernel : ∀ j : Fin 512, k0_pay151 (iota .tc S512x512 32 [1] iota_S512x512_d1_w32) (ix2 0 j) = BitVec.ofNat 32 (j.val / 64)) j

theorem sle_small : ∀ a b : Fin 16, (IntOp.cmpi .sle (BitVec.ofNat 32 a.val) (BitVec.ofNat 32 b.val) = 1#1) ↔ a.val ≤ b.val := by decide +kernel

/-- A query of block `i` sees the keys of its own chunk and of those before. -/
def sees (i : grid0.Coords) (r : Fin 512) (j : ℕ) : Prop := j / 64 ≤ (512 * qblk i + r.val) / 64

instance (i : grid0.Coords) (r : Fin 512) : DecidablePred (sees i r) := fun _ => Nat.decLe _ _

theorem mask_at (i : grid0.Coords) (k : Fin (k0_t3_loop i).trips) (v122 : BitVec 32) (hv : v122 = BitVec.ofNat 32 (qblk i % 2)) (r j : Fin 512) :
    k0_pay66 i k0_pay150 (k0_pay151 (iota .tc S512x512 32 [1] iota_S512x512_d1_w32)) v122 0#32 1#32 k (ix2 r j) = 1#1
      ↔ sees i r (1024 * (qblk i / 2) + 512 * k.val + j.val) := by
  have hk : k.val < qblk i % 2 + 1 := by have := k.isLt; have := trips3 i; omega
  have h8 := qblk_lt i
  have e : k0_pay66 i k0_pay150 (k0_pay151 (iota .tc S512x512 32 [1] iota_S512x512_d1_w32)) v122 0#32 1#32 k (ix2 r j)
      = IntOp.cmpi .sle (BitVec.ofNat 32 (j.val / 64)) (BitVec.ofNat 32 (r.val / 64 + if k.val = qblk i % 2 then 0 else 8)) := by
    have e1 : k0_pay66 i k0_pay150 (k0_pay151 (iota .tc S512x512 32 [1] iota_S512x512_d1_w32)) v122 0#32 1#32 k (ix2 r j)
        = IntOp.cmpi .sle (k0_pay151 (iota .tc S512x512 32 [1] iota_S512x512_d1_w32) (ix2 r j))
            (k0_pay150 (ix2 r j) + Scalar.select (Scalar.cmpi .eq (Scf.iv 0#32 1#32 k.val) v122) 0#32 8#32) := rfl
    rw [e1, rowChunk_at, colChunk_at, hv, BitVec.ofNat_add]
    congr 2
    have h2 : qblk i % 2 < 2 := Nat.mod_lt _ (by norm_num)
    have h3 : k.val < 2 := by omega
    generalize qblk i % 2 = a at h2 ⊢
    generalize k.val = b at h3 ⊢
    interval_cases a <;> interval_cases b <;> rfl
  have hj := j.isLt
  have hr := r.isLt
  rw [e]
  have hb : r.val / 64 + (if k.val = qblk i % 2 then 0 else 8) < 16 := by split <;> omega
  have := sle_small ⟨j.val / 64, by omega⟩ ⟨_, hb⟩
  rw [this]
  unfold sees
  simp only
  split <;> omega

end Cert.AttentionIdeal.Tile
-- ==== Proof.AttnBlock.lean ====
/- The four loops of one block, one after the other: an invariant of their trips holds of what they leave, and the block stored is made from that. -/
module

public import proofs.«01_k».proof.Proof.AttnCounts
public import proofs.«01_k».proof.Proof.Gen.AttentionIdeal.Value

@[expose] public section

set_option maxRecDepth 100000

noncomputable section

namespace Cert.AttentionIdeal.Tile

open Cert.AttentionIdeal Cert.AttentionIdeal.Gen Idealize.ShloMosaic Idealize.ShloMosaic.TcCoe Idealize.ShloMosaic.Tactic Cert.Route Cert.Attn

section

variable (c : Dev nD) (i : grid0.Coords) (arg2 : Memref sig .tc .vmem S1x512x256 .bf16) (harg2 : arg2.IsWhole) (arg3 : Memref sig .tc .vmem S1x256x4096 .bf16)
    (harg3 : arg3.IsWhole) (arg4 : Memref sig .tc .vmem S1x4096x512 .bf16) (harg4 : arg4.IsWhole) (arg5 : Memref sig .tc .vmem S4x32 .f32) (harg5 : arg5.IsWhole)
    (arg6 : Memref sig .tc .vmem S1x64 .f32) (harg6 : arg6.IsWhole) (arg7 : Memref sig .tc .vmem S1x512x256 .bf16) (harg7 : arg7.IsWhole)
    (v15 : FVec Ideal S1x1 .f32) (v17 : FVec Ideal S1x64 .f32) (v42 v67 : IVec S512x512 32) (q00 q01 q10 q11 q20 q21 q30 q31 : FVec Ideal S512x32 .bf16)
    (v84 : FVec Ideal S512x1 .f32) (v85 : FVec Ideal S512x128 .f32) (v103 v122 c0 v123 c1 : BitVec 32)
  (v127 v135 : BitVec 32) (x1 : Vec Ideal S1x256x4096 .bf16) (x2 : Vec Ideal S1x4096x512 .bf16)

/-- Before the first tile. -/
def start : Carry := (v84, v85, v84, v85, v84, v85, v84, v85, v84, v85, v84, v85, v84, v85, v84, v85)

/-- What the four loops leave. -/
def loops : Carry :=
  st_k0_t4 Variants.none c none i arg2 harg2 arg3 harg3 arg4 harg4 arg5 harg5 arg6 harg6 arg7 harg7 v15 v17 v42 v67 q00 q01 q10 q11 q20 q21 q30 q31 v84 v85 v103 v122 c0 v123 c1 v135 (harg3.unread x1) (harg4.unread x2)
    (st_k0_t3 Variants.none c none i arg2 harg2 arg3 harg3 arg4 harg4 arg5 harg5 arg6 harg6 arg7 harg7 v15 v17 v42 v67 q00 q01 q10 q11 q20 q21 q30 q31 v84 v85 v103 v122 c0 v123 c1 (harg3.unread x1) (harg4.unread x2)
      (st_k0_t2 Variants.none c none i arg2 harg2 arg3 harg3 arg4 harg4 arg5 harg5 arg6 harg6 arg7 harg7 v15 v17 v42 v67 q00 q01 q10 q11 q20 q21 q30 q31 v84 v85 v103 v122 c0 v123 c1 v127 (harg3.unread x1) (harg4.unread x2)
        (st_k0_t1 Variants.none c none i arg2 harg2 arg3 harg3 arg4 harg4 arg5 harg5 arg6 harg6 arg7 harg7 v15 v17 v42 v67 q00 q01 q10 q11 q20 q21 q30 q31 v84 v85 v103 v122 c0 v123 c1 (harg3.unread x1) (harg4.unread x2)
          (start v84 v85) (k0_t1_loop i).trips) (k0_t2_loop i).trips) (k0_t3_loop i).trips) (k0_t4_loop i).trips

theorem loops_inv (P : ℕ → Carry → Prop) (h0 : P 0 (start v84 v85))
    (hw : ∀ k (hn : 1024 * k + 1024 ≤ 4096) a, k < qblk i / 2 → P (1024 * k) a → P (1024 * k + 1024) (wideStep x1 x2 q00 q01 q10 q11 q20 q21 q30 q31 (1024 * k) hn a))
    (ht : ∀ (k : Fin (k0_t3_loop i).trips) (hn : 1024 * (qblk i / 2) + 512 * k.val + 512 ≤ 4096) a, P (1024 * (qblk i / 2) + 512 * k.val) a →
      P (1024 * (qblk i / 2) + 512 * k.val + 512) (tileStep x1 x2 q00 q01 q10 q11 q20 q21 q30 q31 (k0_pay66 i v42 v67 v122 0#32 1#32 k) (1024 * (qblk i / 2) + 512 * k.val) hn a)) :
    P (512 * (qblk i + 1)) (loops c i arg2 harg2 arg3 harg3 arg4 harg4 arg5 harg5 arg6 harg6 arg7 harg7 v15 v17 v42 v67 q00 q01 q10 q11 q20 q21 q30 q31 v84 v85 v103 v122 c0 v123 c1 v127 v135 x1 x2) := by
  have h8 := qblk_lt i
  have w : ∀ n, n ≤ (k0_t1_loop i).trips → P (1024 * n) (st_k0_t1 Variants.none c none i arg2 harg2 arg3 harg3 arg4 harg4 arg5 harg5 arg6 harg6 arg7 harg7 v15 v17 v42 v67 q00 q01 q10 q11 q20 q21 q30 q31 v84 v85 v103 v122 c0 v123 c1 (harg3.unread x1) (harg4.unread x2) (start v84 v85) n) := by
    intro n
    induction n with
    | zero => exact fun _ => h0
    | succ n ih =>
      intro hn
      have hq : n < qblk i / 2 := by rw [trips1] at hn; omega
      rw [st_k0_t1_succ Variants.none c none i arg2 harg2 arg3 harg3 arg4 harg4 arg5 harg5 arg6 harg6 arg7 harg7 v15 v17 v42 v67 q00 q01 q10 q11 q20 q21 q30 q31 v84 v85 v103 v122 c0 v123 c1 _ _ _ ⟨n, hn⟩, wide_trip (n := 1024 * n) (hn := by omega) (e := off1 i ⟨n, hn⟩)]
      exact hw n _ _ hq (ih (by omega))
  have t : ∀ a, P (1024 * (qblk i / 2)) a → ∀ n, n ≤ (k0_t3_loop i).trips →
      P (1024 * (qblk i / 2) + 512 * n) (st_k0_t3 Variants.none c none i arg2 harg2 arg3 harg3 arg4 harg4 arg5 harg5 arg6 harg6 arg7 harg7 v15 v17 v42 v67 q00 q01 q10 q11 q20 q21 q30 q31 v84 v85 v103 v122 c0 v123 c1 (harg3.unread x1) (harg4.unread x2) a n) := by
    intro a ha n
    induction n with
    | zero => exact fun _ => ha
    | succ n ih =>
      intro hn
      have hq : n < qblk i % 2 + 1 := by rw [trips3] at hn; omega
      rw [st_k0_t3_succ Variants.none c none i arg2 harg2 arg3 harg3 arg4 harg4 arg5 harg5 arg6 harg6 arg7 harg7 v15 v17 v42 v67 q00 q01 q10 q11 q20 q21 q30 q31 v84 v85 v103 v122 c0 v123 c1 _ _ _ ⟨n, hn⟩, tile_trip (n := 1024 * (qblk i / 2) + 512 * n) (hn := by omega) (e := off17 i ⟨n, hn⟩)]
      exact ht ⟨n, hn⟩ _ _ (ih (by omega))
  have hw' := w _ le_rfl
  rw [trips1] at hw'
  have e : 512 * (qblk i + 1) = 1024 * (qblk i / 2) + 512 * (qblk i % 2 + 1) := by omega
  unfold loops
  rw [trips2, trips4, trips3, trips1, e]
  have := t _ hw' (qblk i % 2 + 1) (by rw [trips3])
  exact this

end

/-- The block stored, from what the loops leave. -/
def stored (v15 : FVec Ideal S1x1 .f32) (v17 : FVec Ideal S1x64 .f32) (a : Carry) : FVec Ideal S1x512x256 .bf16 :=
  k0_pay1 v15 v17 a.2.2.2.2.2.2.2.2.2.2.2.2.2.1 a.2.2.2.2.2.2.2.2.2.2.2.2.2.2.2 (k0_pay182 v15 v17 a.2.1 a.2.2.2.1) (k0_pay185 v15 v17 a.2.2.2.2.2.2.2.1 (k0_pay183 a.2.2.2.2.2.1) (k0_pay184 a.2.2.2.2.2.1))
    (k0_pay186 v15 a.2.2.2.2.2.2.2.2.2.1 a.2.2.2.2.2.2.2.2.2.2.2.1)

/-- The queries of head `o / 64`, from one block's. -/
def part (x : Vec Ideal S1x512x256 .bf16) (o : ℕ) (ho : o + 64 ≤ 256) : Vec Ideal S1x512x64 .bf16 :=
  View.ld x (Rect.unit (s := S1x512x256) ![0, 0, o] S1x512x64.size (by intro a; fin_cases a <;> simp <;> omega))

theorem zero2 : (![0, 0] : Fin 2 → ℕ) = fun _ => 0 := by funext a; fin_cases a <;> rfl
theorem zero3 : (![0, 0, 0] : Fin 3 → ℕ) = fun _ => 0 := by funext a; fin_cases a <;> rfl

theorem out_eq (c : Dev nD) (i : grid0.Coords) (arg2 : Memref sig .tc .vmem S1x512x256 .bf16) (harg2 : arg2.IsWhole) (arg3 : Memref sig .tc .vmem S1x256x4096 .bf16)
    (harg3 : arg3.IsWhole) (arg4 : Memref sig .tc .vmem S1x4096x512 .bf16) (harg4 : arg4.IsWhole) (arg5 : Memref sig .tc .vmem S4x32 .f32) (harg5 : arg5.IsWhole)
    (arg6 : Memref sig .tc .vmem S1x64 .f32) (harg6 : arg6.IsWhole) (arg7 : Memref sig .tc .vmem S1x512x256 .bf16) (harg7 : arg7.IsWhole)
    (x0 : Vec Ideal S1x512x256 .bf16) (x1 : Vec Ideal S1x256x4096 .bf16) (x2 : Vec Ideal S1x4096x512 .bf16) (x3 : Vec Ideal S4x32 .f32) (x4 : Vec Ideal S1x64 .f32) :
    ∃ v103 v122 c0 v123 c1 v127 v135 : BitVec 32, v122 = BitVec.ofNat 32 (qblk i % 2) ∧
      out0_A_5 c i arg2 harg2 arg3 harg3 arg4 harg4 arg5 harg5 arg6 harg6 arg7 harg7 x0 x1 x2 x3 x4
        = stored (k0_pay148 x3) (k0_pay149 x4) (loops c i arg2 harg2 arg3 harg3 arg4 harg4 arg5 harg5 arg6 harg6 arg7 harg7 (k0_pay148 x3) (k0_pay149 x4)
            k0_pay150 (k0_pay151 (iota .tc S512x512 32 [1] iota_S512x512_d1_w32))
            (k0_pay153 (part x0 0 (by omega))) (k0_pay154 (part x0 0 (by omega))) (k0_pay156 (part x0 64 (by omega))) (k0_pay157 (part x0 64 (by omega)))
            (k0_pay159 (part x0 128 (by omega))) (k0_pay160 (part x0 128 (by omega))) (k0_pay162 (part x0 192 (by omega))) (k0_pay163 (part x0 192 (by omega)))
            (k0_pay164 (Named.named κ "mask" 0xF149F2CA#32)) k0_pay165 v103 v122 c0 v123 c1 v127 v135 x1 x2) := by
  refine ⟨kernelRun0_A.sl.v103 i, kernelRun0_A.sl.v122 i, 0#32, kernelRun0_A.sl.v123 i, 1#32, kernelRun0_A.sl.v127 i, kernelRun0_A.sl.v135 i, ?_, ?_⟩
  · sl_unfold_words
    unfold qblk
    generalize i 1 = n
    revert n
    decide +kernel
  · unfold out0_A_5
    rw [View.read_writes_eq_canon _ _ _ (cover0_A_5 c i arg2 harg2 arg3 harg3 arg4 harg4 arg5 harg5 arg6 harg6 arg7 harg7 x0 x1 x2 x3 x4)]
    unfold kernelRun0_A
    dsimp only
    rw [View.canon_unit_zero zero3]
    sl_unfold_words
    simp only [View.readAt_eq_ld, harg2.read_unread, harg5.read_unread, harg6.read_unread, View.ld_unit_zero (S := S4x32) zero2, View.ld_unit_zero (S := S1x64) zero2, Prod.mk.eta]
    unfold stored loops start part
    dsimp only [k0_t1_loop, k0_t2_loop, k0_t3_loop, k0_t4_loop]

end Cert.AttentionIdeal.Tile
-- ==== Proof.AttnKeys.lean ====
/- What the loops of one block carry: for each head and each of its two maps, the greatest score and the weighted sums of the keys seen so far. -/
module

public import proofs.«01_k».proof.Proof.AttnBlock

@[expose] public section

set_option maxRecDepth 100000

noncomputable section

namespace Cert.AttentionIdeal.Tile

open Cert.AttentionIdeal Cert.AttentionIdeal.Gen Idealize.ShloMosaic Idealize.ShloMosaic.TcCoe Idealize.ShloMosaic.Tactic Cert.Route Cert.Attn

section

variable (i : grid0.Coords) (qr kr vr : ℕ → ℕ → ℝ)

/-- The score of key `j` for query `r`, from the 32 lanes from `o` on. -/
def score (o r j : ℕ) : ℝ := ∑ d : Fin 32, qr r (o + d.val) * kr (o + d.val) j

/-- The greatest score and the weighted sums of the first `n` keys, of every query of a block. -/
def Pair (S : ℕ → ℕ → ℝ) (u n : ℕ) (m : FVec Ideal S512x1 .f32) (a : FVec Ideal S512x128 .f32) : Prop :=
  ∀ (r : Fin 512) (e : Fin 128), Seen (S r.val) (sees i r) (fun j => vr j (u + e.val)) n (m (ix2 r 0)) (a (ix2 r e))

variable (x1 : Vec Ideal S1x256x4096 .bf16) (x2 : Vec Ideal S1x4096x512 .bf16)
  (hk : ∀ (d : Fin 256) (j : Fin 4096), x1 (ix3 0 d j) = (kr d.val j.val : EReal))
  (hv : ∀ (j : Fin 4096) (w : Fin 512), x2 (ix3 0 j w) = (vr j.val w.val : EReal))

include hv in
theorem wide_pair (S : ℕ → ℕ → ℝ) (u : ℕ) (hu : u + 128 ≤ 512) (n : ℕ) (hn : n + 1024 ≤ 4096) (s : FVec Ideal S512x1024 .f32)
    (m : FVec Ideal S512x1 .f32) (a : FVec Ideal S512x128 .f32) (hs : ∀ r j, s (ix2 r j) = (S r.val (n + j.val) : EReal))
    (he : ∀ (r : Fin 512) j, j < n + 1024 → sees i r j) (h : Pair i vr S u n m a) :
    Pair i vr S u (n + 1024) (wideMax s m) (wideSum s m (wideMax s m) a (valsWide x2 u n hu hn)) := by
  intro r e
  have := seen_step (w := 1024) (S r.val) (sees i r) (fun j => vr j (u + e.val)) _ _ (fun j => s (ix2 r j)) (fun j => valsWide x2 u n hu hn (ix3 0 j e)) (h r e)
    (fun j => by rw [hs, if_pos (he r _ (by omega))]) (fun j => by rw [valsWide_at, hv]) ⟨0, he r _ (by simp)⟩
  rw [wideSum_at, wideMax_at, named2_eq]
  exact this

include hv in
theorem tile_pair (S : ℕ → ℕ → ℝ) (u : ℕ) (hu : u + 128 ≤ 512) (n : ℕ) (hn : n + 512 ≤ 4096) (b : IVec S512x512 1) (s : FVec Ideal S512x512 .f32)
    (m : FVec Ideal S512x1 .f32) (a : FVec Ideal S512x128 .f32) (hs : ∀ r j, s (ix2 r j) = (S r.val (n + j.val) : EReal))
    (hb : ∀ r j, b (ix2 r j) = 1#1 ↔ sees i r (n + j.val)) (he : ∀ r : Fin 512, sees i r n) (h : Pair i vr S u n m a) :
    Pair i vr S u (n + 512) (tileMax (cut b s) m) (tileSum (cut b s) m (tileMax (cut b s) m) a (valsTile x2 u n hu hn)) := by
  intro r e
  have := seen_step (w := 512) (S r.val) (sees i r) (fun j => vr j (u + e.val)) _ _ (fun j => cut b s (ix2 r j)) (fun j => valsTile x2 u n hu hn (ix3 0 j e)) (h r e)
    (fun j => by rw [cut_at, hs]; exact if_congr (hb r j) rfl rfl) (fun j => by rw [valsTile_at, hv]) ⟨0, he r⟩
  rw [tileSum_at, tileMax_at, named2_eq]
  exact this

include hk in
theorem wide_score0 (o : ℕ) (ho : o + 64 ≤ 256) (n : ℕ) (hn : n + 1024 ≤ 4096) (q : FVec Ideal S512x32 .bf16)
    (hq : ∀ r d, q (ix2 r d) = (qr r.val (o + d.val) : EReal)) (r : Fin 512) (j : Fin 1024) :
    wideScore0 q (keysWide x1 o n ho hn) (ix2 r j) = (score qr kr (o) r.val (n + j.val) : EReal) := by
  rw [wideScore0_at, score, coe_sum]
  refine Finset.sum_congr rfl fun d _ => ?_
  rw [hq, keysWide_at, hk, EReal.coe_mul]

include hk in
theorem wide_score1 (o : ℕ) (ho : o + 64 ≤ 256) (n : ℕ) (hn : n + 1024 ≤ 4096) (q : FVec Ideal S512x32 .bf16)
    (hq : ∀ r d, q (ix2 r d) = (qr r.val (o + 32 + d.val) : EReal)) (r : Fin 512) (j : Fin 1024) :
    wideScore1 q (keysWide x1 o n ho hn) (ix2 r j) = (score qr kr (o + 32) r.val (n + j.val) : EReal) := by
  rw [wideScore1_at, score, coe_sum]
  refine Finset.sum_congr rfl fun d _ => ?_
  rw [hq, keysWide_at, hk, EReal.coe_mul]
  simp only [Nat.add_assoc]

include hk in
theorem tile_score0 (o : ℕ) (ho : o + 64 ≤ 256) (n : ℕ) (hn : n + 512 ≤ 4096) (q : FVec Ideal S512x32 .bf16)
    (hq : ∀ r d, q (ix2 r d) = (qr r.val (o + d.val) : EReal)) (r : Fin 512) (j : Fin 512) :
    score0 q (keysTile x1 o n ho hn) (ix2 r j) = (score qr kr (o) r.val (n + j.val) : EReal) := by
  rw [score0_at, score, coe_sum]
  refine Finset.sum_congr rfl fun d _ => ?_
  rw [hq, keysTile_at, hk, EReal.coe_mul]

include hk in
theorem tile_score1 (o : ℕ) (ho : o + 64 ≤ 256) (n : ℕ) (hn : n + 512 ≤ 4096) (q : FVec Ideal S512x32 .bf16)
    (hq : ∀ r d, q (ix2 r d) = (qr r.val (o + 32 + d.val) : EReal)) (r : Fin 512) (j : Fin 512) :
    score1 q (keysTile x1 o n ho hn) (ix2 r j) = (score qr kr (o + 32) r.val (n + j.val) : EReal) := by
  rw [score1_at, score, coe_sum]
  refine Finset.sum_congr rfl fun d _ => ?_
  rw [hq, keysTile_at, hk, EReal.coe_mul]
  simp only [Nat.add_assoc]

/-- What the loops carry after the first `n` keys. -/
def Inv (n : ℕ) (a : Carry) : Prop :=
  Pair i vr (score qr kr 0) 0 n (a.1) (a.2.1)
    ∧ Pair i vr (score qr kr 32) 0 n (a.2.2.1) (a.2.2.2.1)
    ∧ Pair i vr (score qr kr 64) 128 n (a.2.2.2.2.1) (a.2.2.2.2.2.1)
    ∧ Pair i vr (score qr kr 96) 128 n (a.2.2.2.2.2.2.1) (a.2.2.2.2.2.2.2.1)
    ∧ Pair i vr (score qr kr 128) 256 n (a.2.2.2.2.2.2.2.2.1) (a.2.2.2.2.2.2.2.2.2.1)
    ∧ Pair i vr (score qr kr 160) 256 n (a.2.2.2.2.2.2.2.2.2.2.1) (a.2.2.2.2.2.2.2.2.2.2.2.1)
    ∧ Pair i vr (score qr kr 192) 384 n (a.2.2.2.2.2.2.2.2.2.2.2.2.1) (a.2.2.2.2.2.2.2.2.2.2.2.2.2.1)
    ∧ Pair i vr (score qr kr 224) 384 n (a.2.2.2.2.2.2.2.2.2.2.2.2.2.2.1) (a.2.2.2.2.2.2.2.2.2.2.2.2.2.2.2)

variable (q00 q01 q10 q11 q20 q21 q30 q31 : FVec Ideal S512x32 .bf16)
  (hq00 : ∀ r d, q00 (ix2 r d) = (qr r.val (0 + d.val) : EReal))
  (hq01 : ∀ r d, q01 (ix2 r d) = (qr r.val (32 + d.val) : EReal))
  (hq10 : ∀ r d, q10 (ix2 r d) = (qr r.val (64 + d.val) : EReal))
  (hq11 : ∀ r d, q11 (ix2 r d) = (qr r.val (96 + d.val) : EReal))
  (hq20 : ∀ r d, q20 (ix2 r d) = (qr r.val (128 + d.val) : EReal))
  (hq21 : ∀ r d, q21 (ix2 r d) = (qr r.val (160 + d.val) : EReal))
  (hq30 : ∀ r d, q30 (ix2 r d) = (qr r.val (192 + d.val) : EReal))
  (hq31 : ∀ r d, q31 (ix2 r d) = (qr r.val (224 + d.val) : EReal))

include hk hv hq00 hq01 hq10 hq11 hq20 hq21 hq30 hq31

theorem wide_inv (n : ℕ) (hn : n + 1024 ≤ 4096) (a : Carry) (he : ∀ (r : Fin 512) j, j < n + 1024 → sees i r j) (h : Inv i qr kr vr n a) :
    Inv i qr kr vr (n + 1024) (wideStep x1 x2 q00 q01 q10 q11 q20 q21 q30 q31 n hn a) := by
  obtain ⟨h00, h01, h10, h11, h20, h21, h30, h31⟩ := h
  exact ⟨wide_pair i vr x2 hv _ 0 (by omega) n hn _ _ _ (wide_score0 qr kr x1 hk 0 (by omega) n hn _ hq00) he h00,
    wide_pair i vr x2 hv _ 0 (by omega) n hn _ _ _ (wide_score1 qr kr x1 hk 0 (by omega) n hn _ hq01) he h01,
    wide_pair i vr x2 hv _ 128 (by omega) n hn _ _ _ (wide_score0 qr kr x1 hk 64 (by omega) n hn _ hq10) he h10,
    wide_pair i vr x2 hv _ 128 (by omega) n hn _ _ _ (wide_score1 qr kr x1 hk 64 (by omega) n hn _ hq11) he h11,
    wide_pair i vr x2 hv _ 256 (by omega) n hn _ _ _ (wide_score0 qr kr x1 hk 128 (by omega) n hn _ hq20) he h20,
    wide_pair i vr x2 hv _ 256 (by omega) n hn _ _ _ (wide_score1 qr kr x1 hk 128 (by omega) n hn _ hq21) he h21,
    wide_pair i vr x2 hv _ 384 (by omega) n hn _ _ _ (wide_score0 qr kr x1 hk 192 (by omega) n hn _ hq30) he h30,
    wide_pair i vr x2 hv _ 384 (by omega) n hn _ _ _ (wide_score1 qr kr x1 hk 192 (by omega) n hn _ hq31) he h31⟩

theorem tile_inv (b : IVec S512x512 1) (n : ℕ) (hn : n + 512 ≤ 4096) (a : Carry) (hb : ∀ r j, b (ix2 r j) = 1#1 ↔ sees i r (n + j.val))
    (he : ∀ r : Fin 512, sees i r n) (h : Inv i qr kr vr n a) :
    Inv i qr kr vr (n + 512) (tileStep x1 x2 q00 q01 q10 q11 q20 q21 q30 q31 b n hn a) := by
  obtain ⟨h00, h01, h10, h11, h20, h21, h30, h31⟩ := h
  exact ⟨tile_pair i vr x2 hv _ 0 (by omega) n hn b _ _ _ (tile_score0 qr kr x1 hk 0 (by omega) n hn _ hq00) hb he h00,
    tile_pair i vr x2 hv _ 0 (by omega) n hn b _ _ _ (tile_score1 qr kr x1 hk 0 (by omega) n hn _ hq01) hb he h01,
    tile_pair i vr x2 hv _ 128 (by omega) n hn b _ _ _ (tile_score0 qr kr x1 hk 64 (by omega) n hn _ hq10) hb he h10,
    tile_pair i vr x2 hv _ 128 (by omega) n hn b _ _ _ (tile_score1 qr kr x1 hk 64 (by omega) n hn _ hq11) hb he h11,
    tile_pair i vr x2 hv _ 256 (by omega) n hn b _ _ _ (tile_score0 qr kr x1 hk 128 (by omega) n hn _ hq20) hb he h20,
    tile_pair i vr x2 hv _ 256 (by omega) n hn b _ _ _ (tile_score1 qr kr x1 hk 128 (by omega) n hn _ hq21) hb he h21,
    tile_pair i vr x2 hv _ 384 (by omega) n hn b _ _ _ (tile_score0 qr kr x1 hk 192 (by omega) n hn _ hq30) hb he h30,
    tile_pair i vr x2 hv _ 384 (by omega) n hn b _ _ _ (tile_score1 qr kr x1 hk 192 (by omega) n hn _ hq31) hb he h31⟩

end

theorem start_pair (i : grid0.Coords) (vr : ℕ → ℕ → ℝ) (S : ℕ → ℕ → ℝ) (u : ℕ) :
    Pair i vr S u 0 (k0_pay164 (Named.named κ "mask" 0xF149F2CA#32 : Ideal .f32)) k0_pay165 := by
  intro r e
  refine ⟨fun _ => ⟨rfl, ?_⟩, fun h => absurd h (lt_irrefl 0)⟩
  show Ideal.ofBits .f32 0#32 = 0
  simp [Ideal.ofBits, Ideal.ieee]

theorem start_inv (i : grid0.Coords) (qr kr vr : ℕ → ℕ → ℝ) :
    Inv i qr kr vr 0 (start (k0_pay164 (Named.named κ "mask" 0xF149F2CA#32 : Ideal .f32)) k0_pay165) :=
  ⟨start_pair _ _ _ _, start_pair _ _ _ _, start_pair _ _ _ _, start_pair _ _ _ _, start_pair _ _ _ _, start_pair _ _ _ _, start_pair _ _ _ _, start_pair _ _ _ _⟩

/-! ## The queries -/

theorem part_at (x : Vec Ideal S1x512x256 .bf16) (o : ℕ) (ho : o + 64 ≤ 256) (r : Fin 512) (d : Fin 64) :
    part x o ho (ix3 0 r d) = x (ix3 0 r ⟨o + d.val, by omega⟩) := by
  refine congrArg x ?_
  funext a
  fin_cases a <;> refine Fin.ext ?_ <;> simp [Rect.unit, ix3]

/-- Of a block whose queries, keys and values are real, the loops leave what `Inv` says of all the keys up to the block's own. -/
theorem out_inv (c : Dev nD) (i : grid0.Coords) (arg2 : Memref sig .tc .vmem S1x512x256 .bf16) (harg2 : arg2.IsWhole) (arg3 : Memref sig .tc .vmem S1x256x4096 .bf16)
    (harg3 : arg3.IsWhole) (arg4 : Memref sig .tc .vmem S1x4096x512 .bf16) (harg4 : arg4.IsWhole) (arg5 : Memref sig .tc .vmem S4x32 .f32) (harg5 : arg5.IsWhole)
    (arg6 : Memref sig .tc .vmem S1x64 .f32) (harg6 : arg6.IsWhole) (arg7 : Memref sig .tc .vmem S1x512x256 .bf16) (harg7 : arg7.IsWhole)
    (x0 : Vec Ideal S1x512x256 .bf16) (x1 : Vec Ideal S1x256x4096 .bf16) (x2 : Vec Ideal S1x4096x512 .bf16) (x3 : Vec Ideal S4x32 .f32) (x4 : Vec Ideal S1x64 .f32)
    (qr kr vr : ℕ → ℕ → ℝ) (hq : ∀ (r : Fin 512) (d : Fin 256), x0 (ix3 0 r d) = (qr r.val d.val : EReal))
    (hk : ∀ (d : Fin 256) (j : Fin 4096), x1 (ix3 0 d j) = (kr d.val j.val : EReal))
    (hv : ∀ (j : Fin 4096) (w : Fin 512), x2 (ix3 0 j w) = (vr j.val w.val : EReal)) :
    ∃ a : Carry, Inv i qr kr vr (512 * (qblk i + 1)) a ∧
      out0_A_5 c i arg2 harg2 arg3 harg3 arg4 harg4 arg5 harg5 arg6 harg6 arg7 harg7 x0 x1 x2 x3 x4 = stored (k0_pay148 x3) (k0_pay149 x4) a := by
  obtain ⟨v103, v122, c0, v123, c1, v127, v135, h122, e⟩ := out_eq c i arg2 harg2 arg3 harg3 arg4 harg4 arg5 harg5 arg6 harg6 arg7 harg7 x0 x1 x2 x3 x4
  refine ⟨_, ?_, e⟩
  have h8 := qblk_lt i
  have h00 : ∀ r d, k0_pay153 (part x0 0 (by omega)) (ix2 r d) = (qr r.val (0 + d.val) : EReal) := fun r d => by
    pointwise [k0_pay153, k0_pay152]
    rw [part_at, hq]
    simp only [Nat.zero_add]
  have h01 : ∀ r d, k0_pay154 (part x0 0 (by omega)) (ix2 r d) = (qr r.val (32 + d.val) : EReal) := fun r d => by
    pointwise [k0_pay154, k0_pay152]
    rw [part_at, hq]
    simp only [← Nat.add_assoc, Nat.reduceAdd]
  have h10 : ∀ r d, k0_pay156 (part x0 64 (by omega)) (ix2 r d) = (qr r.val (64 + d.val) : EReal) := fun r d => by
    pointwise [k0_pay156, k0_pay155]
    rw [part_at, hq]
  have h11 : ∀ r d, k0_pay157 (part x0 64 (by omega)) (ix2 r d) = (qr r.val (96 + d.val) : EReal) := fun r d => by
    pointwise [k0_pay157, k0_pay155]
    rw [part_at, hq]
    simp only [← Nat.add_assoc, Nat.reduceAdd]
  have h20 : ∀ r d, k0_pay159 (part x0 128 (by omega)) (ix2 r d) = (qr r.val (128 + d.val) : EReal) := fun r d => by
    pointwise [k0_pay159, k0_pay158]
    rw [part_at, hq]
  have h21 : ∀ r d, k0_pay160 (part x0 128 (by omega)) (ix2 r d) = (qr r.val (160 + d.val) : EReal) := fun r d => by
    pointwise [k0_pay160, k0_pay158]
    rw [part_at, hq]
    simp only [← Nat.add_assoc, Nat.reduceAdd]
  have h30 : ∀ r d, k0_pay162 (part x0 192 (by omega)) (ix2 r d) = (qr r.val (192 + d.val) : EReal) := fun r d => by
    pointwise [k0_pay162, k0_pay161]
    rw [part_at, hq]
  have h31 : ∀ r d, k0_pay163 (part x0 192 (by omega)) (ix2 r d) = (qr r.val (224 + d.val) : EReal) := fun r d => by
    pointwise [k0_pay163, k0_pay161]
    rw [part_at, hq]
    simp only [← Nat.add_assoc, Nat.reduceAdd]
  refine loops_inv c i arg2 harg2 arg3 harg3 arg4 harg4 arg5 harg5 arg6 harg6 arg7 harg7 _ _ _ _ _ _ _ _ _ _ _ _ _ _ _ _ _ _ _ _ _ _ _ (Inv i qr kr vr) (start_inv i qr kr vr)
    (fun k hn a hk' h => wide_inv i qr kr vr x1 x2 hk hv _ _ _ _ _ _ _ _ h00 h01 h10 h11 h20 h21 h30 h31 _ hn a (fun r j hj => ?_) h)
    (fun k hn a h => ?_)
  · unfold sees
    omega
  · refine tile_inv i qr kr vr x1 x2 hk hv _ _ _ _ _ _ _ _ h00 h01 h10 h11 h20 h21 h30 h31 _ _ hn a (fun r j => mask_at i k _ h122 r j) (fun r => ?_) h
    have := k.isLt
    have := trips3 i
    unfold sees
    omega

end Cert.AttentionIdeal.Tile
-- ==== Proof.AttnHead.lean ====
/- The row a block stores for one head, from what the loops leave: the two maps' averages, their difference, and its norm. -/
module

public import proofs.«01_k».proof.Proof.AttnKeys
public import proofs.«01_k».proof.Proof.AttnRow

@[expose] public section

set_option maxRecDepth 100000

noncomputable section

namespace Cert.AttentionIdeal.Tile

open Cert.AttentionIdeal Cert.AttentionIdeal.Gen Idealize.ShloMosaic Idealize.ShloMosaic.TcCoe Idealize.ShloMosaic.Tactic Cert.Route Cert.Attn

/-- Map `a`'s average less `l` times map `b`'s, the sum of the weights being lane 64. -/
def differ (l : EReal) (a b : FVec Ideal S512x128 .f32) (r : Fin 512) (e : Fin 64) : EReal :=
  a (ix2 r ⟨e.val, by omega⟩) * Ideal.div 1 (a (ix2 r ⟨64, by omega⟩)) - l * (b (ix2 r ⟨e.val, by omega⟩) * Ideal.div 1 (b (ix2 r ⟨64, by omega⟩)))

variable (v15 : FVec Ideal S1x1 .f32) (v17 : FVec Ideal S1x64 .f32)

theorem head0_at (a b : FVec Ideal S512x128 .f32) (r : Fin 512) (e : Fin 64) :
    k0_pay182 v15 v17 a b (ix2 r e) = rms (differ (v15 (ix2 0 0)) a b r) (fun e => v17 (ix2 0 e)) e := by
  unfold rms differ
  rw [← one_bits]
  pointwise [k0_pay182]

theorem head1_at (a b : FVec Ideal S512x128 .f32) (r : Fin 512) (e : Fin 64) :
    k0_pay185 v15 v17 b (k0_pay183 a) (k0_pay184 a) (ix2 r e) = rms (differ (v15 (ix2 0 0)) a b r) (fun e => v17 (ix2 0 e)) e := by
  unfold rms differ
  rw [← one_bits]
  pointwise [k0_pay185, k0_pay183, k0_pay184]

theorem head2_at (a b : FVec Ideal S512x128 .f32) (r : Fin 512) (e : Fin 64) :
    k0_pay186 v15 a b (ix2 r e) * v17 (ix2 0 e) * Ideal.ofBits .f32 0x3F24FD5C#32 = rms (differ (v15 (ix2 0 0)) a b r) (fun e => v17 (ix2 0 e)) e := by
  unfold rms differ
  rw [← one_bits]
  pointwise [k0_pay186]

theorem stored0_at (a : Carry) (r : Fin 512) (e : Fin 64) :
    stored v15 v17 a (ix3 0 r ⟨0 + e.val, by omega⟩) = rms (differ (v15 (ix2 0 0)) (a.2.1) (a.2.2.2.1) r) (fun e => v17 (ix2 0 e)) e := by
  rw [← head0_at]
  unfold stored
  pointwise [k0_pay1]

theorem stored1_at (a : Carry) (r : Fin 512) (e : Fin 64) :
    stored v15 v17 a (ix3 0 r ⟨64 + e.val, by omega⟩) = rms (differ (v15 (ix2 0 0)) (a.2.2.2.2.2.1) (a.2.2.2.2.2.2.2.1) r) (fun e => v17 (ix2 0 e)) e := by
  rw [← head1_at]
  unfold stored
  pointwise [k0_pay1]

theorem stored2_at (a : Carry) (r : Fin 512) (e : Fin 64) :
    stored v15 v17 a (ix3 0 r ⟨128 + e.val, by omega⟩) = rms (differ (v15 (ix2 0 0)) (a.2.2.2.2.2.2.2.2.2.1) (a.2.2.2.2.2.2.2.2.2.2.2.1) r) (fun e => v17 (ix2 0 e)) e := by
  rw [← head2_at]
  unfold stored
  pointwise [k0_pay1]
  rw [dif_neg (by omega)]
  rw [dif_neg (by omega)]
  rw [dif_pos (by omega)]
  have he : 128 + e.val - 64 - 64 = e.val := by omega
  simp only [he]

theorem stored3_at (a : Carry) (r : Fin 512) (e : Fin 64) :
    stored v15 v17 a (ix3 0 r ⟨192 + e.val, by omega⟩) = rms (differ (v15 (ix2 0 0)) (a.2.2.2.2.2.2.2.2.2.2.2.2.2.1) (a.2.2.2.2.2.2.2.2.2.2.2.2.2.2.2) r) (fun e => v17 (ix2 0 e)) e := by
  unfold rms differ
  rw [← one_bits]
  unfold stored
  pointwise [k0_pay1]
  rw [dif_neg (by omega)]
  rw [dif_neg (by omega)]
  rw [dif_neg (by omega)]
  have he : 192 + e.val - 64 - 64 - 64 = e.val := by omega
  simp only [he]

/-! ## The block -/

theorem differ_eq (i : grid0.Coords) (vr : ℕ → ℕ → ℝ) (S T : ℕ → ℕ → ℝ) (u : ℕ) (h1 : ∀ j, vr j (u + 64) = 1) (m m' : FVec Ideal S512x1 .f32)
    (a b : FVec Ideal S512x128 .f32) (ha : Pair i vr S u (512 * (qblk i + 1)) m a) (hb : Pair i vr T u (512 * (qblk i + 1)) m' b) (l : ℝ)
    (r : Fin 512) (e : Fin 64) :
    differ (l : EReal) a b r e = ((avg (S r.val) (sees i r) (fun j => vr j (u + e.val)) - l * avg (T r.val) (sees i r) (fun j => vr j (u + e.val)) : ℝ) : EReal) := by
  have h8 := qblk_lt i
  have hr := r.isLt
  have hvis : ∀ j, 512 * (qblk i + 1) ≤ j → ¬sees i r j := fun j hj => by unfold sees; omega
  have h0 : sees i r 0 := by unfold sees; omega
  have ea := seen_div (n' := 4096) (S r.val) (sees i r) _ _ _ _ (by omega) (by omega) hvis h0 (ha r ⟨e.val, by omega⟩)
    (by have := ha r ⟨64, by omega⟩; simp only [h1] at this; exact this)
  have eb := seen_div (n' := 4096) (T r.val) (sees i r) _ _ _ _ (by omega) (by omega) hvis h0 (hb r ⟨e.val, by omega⟩)
    (by have := hb r ⟨64, by omega⟩; simp only [h1] at this; exact this)
  unfold differ
  rw [ea, eb, ← EReal.coe_mul, ← EReal.coe_sub]
  rfl

theorem gain_at (x : Vec Ideal S1x64 .f32) : k0_pay149 x = x := by
  funext j
  rw [eq_ix2 j]
  pointwise [k0_pay149]

/-- The block stored, at one lane of head `h`. -/
theorem out_at (c : Dev nD) (i : grid0.Coords) (arg2 : Memref sig .tc .vmem S1x512x256 .bf16) (harg2 : arg2.IsWhole) (arg3 : Memref sig .tc .vmem S1x256x4096 .bf16)
    (harg3 : arg3.IsWhole) (arg4 : Memref sig .tc .vmem S1x4096x512 .bf16) (harg4 : arg4.IsWhole) (arg5 : Memref sig .tc .vmem S4x32 .f32) (harg5 : arg5.IsWhole)
    (arg6 : Memref sig .tc .vmem S1x64 .f32) (harg6 : arg6.IsWhole) (arg7 : Memref sig .tc .vmem S1x512x256 .bf16) (harg7 : arg7.IsWhole)
    (x0 : Vec Ideal S1x512x256 .bf16) (x1 : Vec Ideal S1x256x4096 .bf16) (x2 : Vec Ideal S1x4096x512 .bf16) (x3 : Vec Ideal S4x32 .f32) (x4 : Vec Ideal S1x64 .f32)
    (qr kr vr : ℕ → ℕ → ℝ) (hq : ∀ (r : Fin 512) (d : Fin 256), x0 (ix3 0 r d) = (qr r.val d.val : EReal))
    (hk : ∀ (d : Fin 256) (j : Fin 4096), x1 (ix3 0 d j) = (kr d.val j.val : EReal))
    (hv : ∀ (j : Fin 4096) (w : Fin 512), x2 (ix3 0 j w) = (vr j.val w.val : EReal))
    (h1 : ∀ (h : Fin 4) j, vr j (128 * h.val + 64) = 1) (l : ℝ) (hl : k0_pay148 x3 (ix2 0 0) = (l : EReal)) (h : Fin 4) (r : Fin 512) (e : Fin 64) :
    out0_A_5 c i arg2 harg2 arg3 harg3 arg4 harg4 arg5 harg5 arg6 harg6 arg7 harg7 x0 x1 x2 x3 x4 (ix3 0 r ⟨64 * h.val + e.val, by omega⟩)
      = rms (fun e => ((avg (score qr kr (64 * h.val) r.val) (sees i r) (fun j => vr j (128 * h.val + e.val))
          - l * avg (score qr kr (64 * h.val + 32) r.val) (sees i r) (fun j => vr j (128 * h.val + e.val)) : ℝ) : EReal)) (fun e => x4 (ix2 0 e)) e := by
  obtain ⟨a, ⟨h00, h01, h10, h11, h20, h21, h30, h31⟩, hout⟩ := out_inv c i arg2 harg2 arg3 harg3 arg4 harg4 arg5 harg5 arg6 harg6 arg7 harg7 x0 x1 x2 x3 x4 qr kr vr hq hk hv
  rw [hout, gain_at]
  match h with
  | 0 =>
    have e0 := stored0_at (k0_pay148 x3) (k0_pay149 x4) a r e
    rw [hl, gain_at, funext (differ_eq i vr (score qr kr 0) (score qr kr 32) 0 (h1 0) _ _ _ _ h00 h01 l r)] at e0
    exact e0
  | 1 =>
    have e1 := stored1_at (k0_pay148 x3) (k0_pay149 x4) a r e
    rw [hl, gain_at, funext (differ_eq i vr (score qr kr 64) (score qr kr 96) 128 (h1 1) _ _ _ _ h10 h11 l r)] at e1
    exact e1
  | 2 =>
    have e2 := stored2_at (k0_pay148 x3) (k0_pay149 x4) a r e
    rw [hl, gain_at, funext (differ_eq i vr (score qr kr 128) (score qr kr 160) 256 (h1 2) _ _ _ _ h20 h21 l r)] at e2
    exact e2
  | 3 =>
    have e3 := stored3_at (k0_pay148 x3) (k0_pay149 x4) a r e
    rw [hl, gain_at, funext (differ_eq i vr (score qr kr 192) (score qr kr 224) 384 (h1 3) _ _ _ _ h30 h31 l r)] at e3
    exact e3

end Cert.AttentionIdeal.Tile
-- ==== Proof.AttnWindows.lean ====
/- What the host hands the attention's kernel, and each window's block of it. -/
module

public import proofs.«01_k».proof.Proof.AttnHead
public import Idealize.ShloMosaic.Lib.Pipeline.ValueKit

@[expose] public section

set_option maxRecDepth 100000

noncomputable section

namespace Cert.AttentionIdeal.Array

open Cert.AttentionIdeal Cert.AttentionIdeal.Gen Cert.AttentionIdeal.Tile Idealize.ShloMosaic Idealize.ShloMosaic.TcCoe Cert.Route Cert.Attn

variable (m : (ℓ : Loc nD τ sig) → Buf (Elt Ideal) ℓ) (c : Dev nD)

/-- Argument 0 as launched. -/
abbrev a0 : FVec Ideal S16x4096x256 .bf16 := m ((c : Thread nD τ).loc main_arg0)
/-- Argument 1 as launched. -/
abbrev a1 : FVec Ideal S16x4096x256 .bf16 := m ((c : Thread nD τ).loc main_arg1)
/-- Argument 2 as launched. -/
abbrev a2 : FVec Ideal S16x4096x256 .bf16 := m ((c : Thread nD τ).loc main_arg2)
/-- Argument 3 as launched. -/
abbrev a3 : FVec Ideal S4x32 .f32 := m ((c : Thread nD τ).loc main_arg3)
/-- Argument 4 as launched. -/
abbrev a4 : FVec Ideal S64 .f32 := m ((c : Thread nD τ).loc main_arg4)

/-! ## The host's arrays -/

theorem v0_at (b : Fin 16) (d : Fin 256) (j : Fin 4096) : (V m c main_v0 : FVec Ideal S16x256x4096 .bf16) (ix3 b d j) = a1 m c (ix3 b j d) := by
  have e : (V m c main_v0 : FVec Ideal S16x256x4096 .bf16) = transpose S16x256x4096 [0, 2, 1] (a1 m c) transposes_S16x4096x256_S16x256x4096_0_2_1 := by
    show StableHlo.after hostOps0 _ (Proc.devRef .tc main_v0) = _
    after_results
  rw [e]
  pointwise

theorem v6_at (e : Fin 64) : (V m c main_v6 : FVec Ideal S1x64 .f32) (ix2 0 e) = a4 m c (ix1 e) := by
  have e' : (V m c main_v6 : FVec Ideal S1x64 .f32) = shapeCast S1x64 (a4 m c) shapeCasts_S64_S1x64 := by
    show StableHlo.after hostOps0 _ (Proc.devRef .tc main_v6) = _
    after_results
    rfl
  rw [e']
  pointwise

/-- The values, each head's followed by a column of ones and by zeros. -/
def widened (a : FVec Ideal S16x4096x256 .bf16) : FVec Ideal S16x4096x512 .bf16 :=
  shapeCast S16x4096x512 (concatenate S16x4096x4x128 3
    [⟨S16x4096x4x64, shapeCast S16x4096x4x64 a shapeCasts_S16x4096x256_S16x4096x4x64⟩,
     ⟨S16x4096x4x1, broadcastInDim S16x4096x4x1 ![] bcast_S_S16x4096x4x1 (constant S_ .bf16 0x3F80#16)⟩,
     ⟨S16x4096x4x63, broadcastInDim S16x4096x4x63 ![] bcast_S_S16x4096x4x63 (constant S_ .bf16 0x0000#16)⟩]
    concatenates_S16x4096x4x64_S16x4096x4x1_S16x4096x4x63_S16x4096x4x128_d3 : FVec Ideal S16x4096x4x128 .bf16) shapeCasts_S16x4096x4x128_S16x4096x512

theorem v5_eq : (V m c main_v5 : FVec Ideal S16x4096x512 .bf16) = widened (a2 m c) := by
  show StableHlo.after hostOps0 _ (Proc.devRef .tc main_v5) = _
  after_results
  rfl

theorem widened_at (a : FVec Ideal S16x4096x256 .bf16) (b : Fin 16) (j : Fin 4096) (w : Fin 512) : widened a (ix3 b j w)
    = if h : w.val % 128 < 64 then a (ix3 b j ⟨64 * (w.val / 128) + w.val % 128, by omega⟩) else if w.val % 128 = 64 then 1 else 0 := by
  pointwise [widened]
  split_ifs
  · refine congrArg (fun d => a (ix3 b j d)) (Fin.ext ?_)
    simp only [Nat.mul_comm]
  all_goals first | rfl | omega

/-! ## The windows' blocks -/

theorem index0 : ∀ t : Fin cfg0.N, win0_0.index t = ![t.val / 8, t.val % 8, 0] :=
  (by decide +kernel : ∀ t : Fin grid0.N, win0_0.index t = ![t.val / 8, t.val % 8, 0])
theorem index1 : ∀ t : Fin cfg0.N, win0_1.index t = ![t.val / 8, 0, 0] := (by decide +kernel : ∀ t : Fin grid0.N, win0_1.index t = ![t.val / 8, 0, 0])
theorem index2 : ∀ t : Fin cfg0.N, win0_2.index t = ![t.val / 8, 0, 0] := (by decide +kernel : ∀ t : Fin grid0.N, win0_2.index t = ![t.val / 8, 0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![t.val / 8, t.val % 8, 0] :=
  (by decide +kernel : ∀ t : Fin grid0.N, win0_5.index t = ![t.val / 8, t.val % 8, 0])
theorem qblk_at : ∀ t : Fin cfg0.N, qblk (grid0.coords t) = t.val % 8 := (by decide +kernel : ∀ t : Fin grid0.N, qblk (grid0.coords t) = t.val % 8)

theorem blk0_at (t : Fin cfg0.N) (b : Fin 16) (R : Fin 4096) (r : Fin 512) (d : Fin 256) (hb : b.val = t.val / 8) (hR : R.val = 512 * (t.val % 8) + r.val) :
    (iblk m c 0 t : FVec Ideal S1x512x256 .bf16) (ix3 0 r d) = a0 m c (ix3 b R d) := by
  show _ = V m c main_arg0 _
  blk_simp [iblk]
  refine congrArg (V m c main_arg0) ?_
  blk_ext [index0]

theorem blk1_at (t : Fin cfg0.N) (b : Fin 16) (d : Fin 256) (j : Fin 4096) (hb : b.val = t.val / 8) :
    (iblk m c 1 t : FVec Ideal S1x256x4096 .bf16) (ix3 0 d j) = a1 m c (ix3 b j d) := by
  rw [← v0_at]
  blk_simp [iblk]
  refine congrArg (V m c main_v0) ?_
  blk_ext [index1]

theorem blk2_at (t : Fin cfg0.N) (b : Fin 16) (j : Fin 4096) (w : Fin 512) (hb : b.val = t.val / 8) :
    (iblk m c 2 t : FVec Ideal S1x4096x512 .bf16) (ix3 0 j w) = widened (a2 m c) (ix3 b j w) := by
  rw [← v5_eq]
  blk_simp [iblk]
  refine congrArg (V m c main_v5) ?_
  blk_ext [index2]

theorem blk3_at (t : Fin cfg0.N) (p : Fin 4) (d : Fin 32) : (iblk m c 3 t : FVec Ideal S4x32 .f32) (ix2 p d) = a3 m c (ix2 p d) := by
  show _ = V m c main_arg3 _
  blk_simp [iblk]
  refine congrArg (V m c main_arg3) ?_
  blk_ext [index3]

theorem blk4_at (t : Fin cfg0.N) (e : Fin 64) : (iblk m c 4 t : FVec Ideal S1x64 .f32) (ix2 0 e) = a4 m c (ix1 e) := by
  rw [← v6_at]
  blk_simp [iblk]
  refine congrArg (V m c main_v6) ?_
  blk_ext [index4]

theorem factor_at (x : Vec Ideal S4x32 .f32) : k0_pay148 x (ix2 0 0) = factor fun p d => x (ix2 p d) := by
  unfold factor
  pointwise [k0_pay148]

theorem attend_eq (q k v qr kr vr : ℕ → ℕ → ℝ) (i : grid0.Coords) (h s : ℕ) (R : ℕ) (r : Fin 512) (e : Fin 64) (hR : R = 512 * qblk i + r.val)
    (hq : ∀ d, qr r.val d = q R d) (hk : ∀ d j, kr d j = k j d) (hv : ∀ j, vr j (128 * h + e.val) = v j (64 * h + e.val)) :
    avg (score qr kr (64 * h + 32 * s) r.val) (sees i r) (fun j => vr j (128 * h + e.val)) = attend q k v h s R e.val := by
  subst hR
  unfold attend score avg Attn.weight
  simp only [hq, hk, hv]
  rfl

end Cert.AttentionIdeal.Array
-- ==== Proof.AttnArray.lean ====
/- What the attention's kernel leaves in its result array: row by row, `attnRow` of the queries, the keys and the values. -/
module

public import proofs.«01_k».proof.Proof.AttnWindows

@[expose] public section

set_option maxRecDepth 100000

noncomputable section

namespace Cert.AttentionIdeal.Array

open Cert.AttentionIdeal Cert.AttentionIdeal.Gen Cert.AttentionIdeal.Tile Idealize.ShloMosaic Idealize.ShloMosaic.TcCoe Cert.Route Cert.Attn

variable (m : (ℓ : Loc nD τ sig) → Buf (Elt Ideal) ℓ) (c : Dev nD)

/-- The values' lanes with each head's ones and zeros after them. -/
def spread (v : ℕ → ℕ → ℝ) (j w : ℕ) : ℝ := if w % 128 < 64 then v j (64 * (w / 128) + w % 128) else if w % 128 = 64 then 1 else 0

variable (q k v : ℕ → ℕ → ℕ → ℝ) (hq : ∀ b j d, a0 m c (ix3 b j d) = (q b.val j.val d.val : EReal)) (hk : ∀ b j d, a1 m c (ix3 b j d) = (k b.val j.val d.val : EReal))
  (hv : ∀ b j d, a2 m c (ix3 b j d) = (v b.val j.val d.val : EReal)) (l : ℝ) (hl : factor (fun p d => a3 m c (ix2 p d)) = (l : EReal))

include hq hk hv hl

/-- The result array, lane by lane. -/
theorem array_eq : (Gen.dats m 0 c).arrAt 5 cfg0.N = fun i : S16x4096x256.Idx =>
    attnRow (q (i 0).val) (k (i 0).val) (v (i 0).val) l (fun e => a4 m c (ix1 e)) ((i 2).val / 64) (i 1).val ⟨(i 2).val % 64, Nat.mod_lt _ (by norm_num)⟩ := by
  refine (Gen.dats m 0 c).arrAt_eq_of_covers 5 _ (by decide +kernel) fun t hf' y => ?_
  blk_simp
  rw [after0_5]
  obtain ⟨r, x, rfl⟩ : ∃ (r : Fin 512) (x : Fin 256), y = ix3 0 r x := ⟨y 1, y 2, by funext a; fin_cases a; exacts [Fin.ext (by have := (y 0).isLt; simpa using this), rfl, rfl]⟩
  have ht : t.val < 128 := t.isLt
  obtain ⟨b, hb⟩ : ∃ b : Fin 16, b.val = t.val / 8 := ⟨⟨t.val / 8, by omega⟩, rfl⟩
  obtain ⟨h, e, hx⟩ : ∃ (h : Fin 4) (e : Fin 64), x = ⟨64 * h.val + e.val, by omega⟩ :=
    ⟨⟨x.val / 64, by omega⟩, ⟨x.val % 64, by omega⟩, Fin.ext (Nat.div_add_mod x.val 64).symm⟩
  subst hx
  have hi := index5 t
  have hi0 : win0_5.index t 0 = b.val := (congrFun hi 0).trans hb.symm
  have hi1 : win0_5.index t 1 = t.val % 8 := congrFun hi 1
  have hi2 : win0_5.index t 2 = 0 := congrFun hi 2
  have e1 : (0 * 256 + (64 * h.val + e.val)) / 64 = h.val := by omega
  have e2 : (0 * 256 + (64 * h.val + e.val)) % 64 = e.val := by omega
  show outsAt0 m c t (ix3 0 r ⟨64 * h.val + e.val, by omega⟩) = attnRow (q (win0_5.index t 0)) (k (win0_5.index t 0)) (v (win0_5.index t 0)) l (fun e => a4 m c (ix1 e))
    ((win0_5.index t 2 * 256 + (64 * h.val + e.val)) / 64) (win0_5.index t 1 * 512 + r.val)
    ⟨(win0_5.index t 2 * 256 + (64 * h.val + e.val)) % 64, Nat.mod_lt _ (by norm_num)⟩
  simp only [hi0, hi1, hi2, e1, e2]
  have vr : ∀ (j : Fin 4096) (w : Fin 512), (iblk m c 2 t : FVec Ideal S1x4096x512 .bf16) (ix3 0 j w)
      = (spread (v b.val) j.val w.val : EReal) := fun j w => by
    rw [blk2_at m c t b j w hb, widened_at]
    unfold spread
    split_ifs
    · rw [hv]
    · exact EReal.coe_one.symm
    · exact EReal.coe_zero.symm
  unfold outsAt0
  refine (out_at c (grid0.coords t) _ _ _ _ _ _ _ _ _ _ _ _ _ _ _ _ _ (fun r d => q b.val (512 * (t.val % 8) + r) d) (fun d j => k b.val j d) (spread (v b.val))
    (fun r d => (blk0_at m c t b ⟨512 * (t.val % 8) + r.val, by omega⟩ r d hb rfl).trans (hq _ _ _))
    (fun d j => (blk1_at m c t b d j hb).trans (hk _ _ _)) vr (fun h j => ?_) l ?_ h r e).trans ?_
  · have e1 : (128 * h.val + 64) % 128 = 64 := by omega
    simp [spread, e1]
  · rw [factor_at]
    simp only [blk3_at]
    exact hl
  · unfold attnRow
    simp only [blk4_at]
    refine congrArg (fun d => rms d _ e) (funext fun e => congrArg _ ?_)
    have hR' : t.val % 8 * 512 + r.val = 512 * qblk (grid0.coords t) + r.val := by rw [qblk_at, Nat.mul_comm]
    have hv' : ∀ j, spread (v b.val) j (128 * h.val + e.val)
        = v b.val j (64 * h.val + e.val) := fun j => by
      have e1 : (128 * h.val + e.val) % 128 = e.val := by omega
      have e2 : (128 * h.val + e.val) / 128 = h.val := by omega
      simp only [spread, e1, e2, if_pos e.isLt]
    exact congrArg₂ (fun x y => x - l * y)
      (attend_eq (q b.val) (k b.val) (v b.val) _ _ _ _ h.val 0 _ r e hR' (fun d => by rw [Nat.mul_comm]) (fun _ _ => rfl) hv')
      (attend_eq (q b.val) (k b.val) (v b.val) _ _ _ _ h.val 1 _ r e hR' (fun d => by rw [Nat.mul_comm]) (fun _ _ => rfl) hv')

end Cert.AttentionIdeal.Array
-- ==== Proof.AttnProbs.lean ====
/- The attention's reference, up to its softmax: each map's weights over the keys seen. -/
module

public import proofs.«01_k».proof.Proof.AttnRow
public import proofs.«01_k».proof.Proof.Gen.AttentionReferenceIdeal.Run
public import proofs.«01_k».proof.Proof.Gen.AttentionReferenceIdeal.Read
public import Idealize.ShloMosaic.Lib.KernelVsHost

@[expose] public section

set_option maxRecDepth 100000

noncomputable section

namespace Cert.AttentionReferenceIdeal.Row

open Cert.AttentionReferenceIdeal Cert.AttentionReferenceIdeal.Gen Cert.AttentionReferenceIdeal.Read Idealize.ShloMosaic Cert.Route Cert.Attn

/-- An array of real numbers, by its three places. -/
def Reals (x : FVec Ideal S16x4096x256 .bf16) (q : ℕ → ℕ → ℕ → ℝ) : Prop :=
  ∀ i : S16x4096x256.Idx, x i = (q (i 0).val (i 1).val (i 2).val : EReal)

/-- The score of key `j` for the query at `R`, before the scale. -/
def score (q k : ℕ → ℕ → ℕ → ℝ) (b h s R j : ℕ) : ℝ :=
  ∑ d : Fin 32, q b R (64 * h + 32 * s + d.val) * k b j (64 * h + 32 * s + d.val)

variable {x0 x1 : FVec Ideal S16x4096x256 .bf16} {q k : ℕ → ℕ → ℕ → ℝ}

theorem query_at (hq : Reals x0 q) (i : S16x4096x4x2x32.Idx) :
    val_main_v1 (F := Ideal) x0 i = (q (i 0).val (i 1).val (64 * (i 2).val + 32 * (i 3).val + (i 4).val) : EReal) := by
  rw [val_main_v1_apply, val_main_v0_apply]
  refine (hq (idx_main_v0 i)).trans ?_
  have h0 : (i 0).val < 16 := (i 0).isLt
  have h1 : (i 1).val < 4096 := (i 1).isLt
  have h2 : (i 2).val < 4 := (i 2).isLt
  have h3 : (i 3).val < 2 := (i 3).isLt
  have h4 : (i 4).val < 32 := (i 4).isLt
  have e0 : (idx_main_v0 i 0).val = (i 0).val := by
    show (((((i 0).val * 4096 + (i 1).val) * 4 + (i 2).val) * 2 + (i 3).val) * 32 + (i 4).val) / 1048576 = _
    omega
  have e1 : (idx_main_v0 i 1).val = (i 1).val := by
    show (((((i 0).val * 4096 + (i 1).val) * 4 + (i 2).val) * 2 + (i 3).val) * 32 + (i 4).val) / 256 % 4096 = _
    omega
  have e2 : (idx_main_v0 i 2).val = 64 * (i 2).val + 32 * (i 3).val + (i 4).val := by
    show (((((i 0).val * 4096 + (i 1).val) * 4 + (i 2).val) * 2 + (i 3).val) * 32 + (i 4).val) % 256 = _
    omega
  rw [e0, e1, e2]

/-- The keys are laid out as the queries are. -/
theorem key_at (hk : Reals x1 k) (i : S16x4096x4x2x32.Idx) :
    val_main_v3 (F := Ideal) x1 i = (k (i 0).val (i 1).val (64 * (i 2).val + 32 * (i 3).val + (i 4).val) : EReal) :=
  query_at hk i

theorem root_bits : Ideal.sqrt (Ideal.ofBits .f32 0x42000000#32) = (Real.sqrt 32 : EReal) := by
  have e : Ideal.ofBits .f32 0x42000000#32 = ((32 : ℝ) : EReal) := by
    simp [Ideal.ofBits, Ideal.ieee]
    rw [← EReal.coe_mul]
    norm_num
  rw [e, Ideal.sqrt_coe, if_neg (by norm_num)]

theorem score_at (hq : Reals x0 q) (hk : Reals x1 k) (i : S16x4x2x4096x4096.Idx) :
    val_main_v26 (F := Ideal) x0 x1 i = ((score q k (i 0).val (i 1).val (i 2).val (i 3).val (i 4).val * scale : ℝ) : EReal) := by
  rw [val_main_v26_apply, val_main_v23_apply, val_main_v25_apply, val_main_v24_apply, val_main_cst_2_apply]
  show Ideal.div _ (Ideal.sqrt (Ideal.ofBits .f32 0x42000000#32)) = _
  rw [root_bits, Finset.sum_congr rfl fun d _ => by rw [query_at hq, key_at hk, ← EReal.coe_mul], ← coe_sum,
    div_real _ (Real.sqrt_pos.2 (by norm_num)).ne']
  rfl

/-! ## The mask -/

/-- The chunk of a position, as the reference divides words. -/
def chunk (w : BitVec 32) : BitVec 32 :=
  Scalar.select (IntOp.andi (IntOp.cmpi .ne (signi (fun _ : S_.Idx => w) ix0) (signi (fun _ : S_.Idx => 64#32) ix0)) (IntOp.cmpi .ne (IntOp.remsi .host w 64#32) 0#32))
    (IntOp.subi (IntOp.divsi .host w 64#32) 1#32) (IntOp.divsi .host w 64#32)

theorem chunk_eq : ∀ j : Fin 4096, chunk (BitVec.ofNat 32 j.val) = BitVec.ofNat 32 (j.val / 64) := by
  decide +kernel

theorem chunk_le : ∀ a b : Fin 64, IntOp.cmpi .sle (BitVec.ofNat 32 a.val) (BitVec.ofNat 32 b.val) = if a.val ≤ b.val then 1#1 else 0#1 := by
  decide +kernel

theorem keyChunk_at (i : S1x4096.Idx) : val_main_v28 (F := Ideal) i = BitVec.ofNat 32 ((i 1).val / 64) := by
  refine Eq.trans ?_ (chunk_eq ⟨(i 1).val, (i 1).isLt⟩)
  simp only [val_main_v28_apply, val_main_call0_v11_apply, val_main_call0_v13_apply, val_main_call0_v2_apply, val_main_call0_v6_apply, val_main_call0_v10_apply,
    val_main_call0_v8_apply, val_main_call0_v12_apply, val_main_call0_v9_apply, val_main_call0_v7_apply, val_main_call0_v5_apply, val_main_call0_v1_apply,
    val_main_v27_apply, val_main_call0_v3, val_main_call0_v4, signi, val_main_v22_apply, val_main_call0_v0_apply, val_main_call0_c_0_apply,
    val_main_call0_c_apply, val_main_c_apply, chunk]
  congr

theorem queryChunk_at (i : S4096x1.Idx) : val_main_v30 (F := Ideal) i = BitVec.ofNat 32 ((i 0).val / 64) := by
  refine Eq.trans ?_ (chunk_eq ⟨(i 0).val, (i 0).isLt⟩)
  simp only [val_main_v30_apply, val_main_call1_v11_apply, val_main_call1_v13_apply, val_main_call1_v2_apply, val_main_call1_v6_apply, val_main_call1_v10_apply,
    val_main_call1_v8_apply, val_main_call1_v12_apply, val_main_call1_v9_apply, val_main_call1_v7_apply, val_main_call1_v5_apply, val_main_call1_v1_apply,
    val_main_v29_apply, val_main_call1_v3, val_main_call1_v4, signi, val_main_v22_apply, val_main_call1_v0_apply, val_main_call1_c_0_apply,
    val_main_call1_c_apply, val_main_c_3_apply, chunk]
  congr

theorem seen_at (i : S4096x4096.Idx) : val_main_v33 (F := Ideal) i = if seen (i 0).val (i 1).val then 1#1 else 0#1 := by
  have h0 : (i 0).val < 4096 := (i 0).isLt
  have h1 : (i 1).val < 4096 := (i 1).isLt
  rw [val_main_v33_apply, val_main_v31_apply, val_main_v32_apply, keyChunk_at, queryChunk_at]
  exact chunk_le ⟨(i 1).val / 64, by omega⟩ ⟨(i 0).val / 64, by omega⟩

theorem masked_at (hq : Reals x0 q) (hk : Reals x1 k) (i : S16x4x2x4096x4096.Idx) : val_main_v34 (F := Ideal) x0 x1 i
    = if seen (i 3).val (i 4).val then ((score q k (i 0).val (i 1).val (i 2).val (i 3).val (i 4).val * scale : ℝ) : EReal) else ⊥ := by
  rw [val_main_v34_apply, val_main_call2_v1_apply, seen_at, score_at hq hk, val_main_call2_v2_apply, val_main_call2_v0_apply, val_main_cst_4_apply]
  show Scalar.select (if seen (i 3).val (i 4).val then 1#1 else 0#1) _ (Ideal.ofBits .f32 0xFF800000#32) = _
  rw [none_bits]
  split <;> rfl

/-! ## The softmax -/

theorem max_at (hq : Reals x0 q) (hk : Reals x1 k) (I : S16x4x2x4096.Idx) : ∃ μ : ℝ, val_main_v37 (F := Ideal) x0 x1 I = μ := by
  have hr : S16x4x2x4096x4096.Reduces [4] S16x4x2x4096 := by decide
  have e : val_main_v37 (F := Ideal) x0 x1 I = max ⊥ (Finset.univ.fold max ⊥ (val_main_v34 (F := Ideal) x0 x1 ∘ hr.lift I)) := by
    rw [val_main_v37_apply, val_main_v36_apply, val_main_cst_6_apply, val_main_v35, val_main_cst_5,
      hostReduce_maximumf_eq_multiReduction (φ := .f32) _ 0xFF800000#32 _ _ hr (.inl rfl) rfl]
    refine (congrArg (FloatOps.maximumf (F := Ideal) (φ := .f32) _) (Ideal.multiReduction_maximumf_single _ _ hr _ _ I)).trans ?_
    show max (Ideal.ofBits .f32 0xFF800000#32) (Finset.univ.fold max (Ideal.ofBits .f32 0xFF800000#32) _) = _
    rw [none_bits]
  rw [e]
  refine max_real ⊥ _ bot_ne_top (fun j => ?_) ⟨(⟨0, by decide⟩ : Fin 4096), ?_⟩
  · show val_main_v34 (F := Ideal) x0 x1 (hr.lift I j) ≠ ⊤
    rw [masked_at hq hk]
    split
    exacts [EReal.coe_ne_top _, bot_ne_top]
  · show val_main_v34 (F := Ideal) x0 x1 (hr.lift I (⟨0, by decide⟩ : Fin 4096)) ≠ ⊥
    rw [masked_at hq hk, if_pos ?_]
    · exact EReal.coe_ne_bot _
    · show 0 / 64 ≤ _
      omega

theorem exp_at (hq : Reals x0 q) (hk : Reals x1 k) (i : S16x4x2x4096x4096.Idx) (μ : ℝ)
    (hμ : val_main_v37 (F := Ideal) x0 x1 (idx_main_v38 (idx_main_v39 i)) = μ) : val_main_v41 (F := Ideal) x0 x1 i
    = ((Real.exp (-μ) * Attn.weight (score q k (i 0).val (i 1).val (i 2).val (i 3).val) (seen (i 3).val) (i 4).val : ℝ) : EReal) := by
  rw [val_main_v41_apply, val_main_v40_apply, masked_at hq hk, val_main_v39_apply, val_main_v38_apply, hμ]
  unfold Attn.weight
  show Ideal.exp ((if _ then _ else _ : EReal) - (μ : EReal)) = _
  split
  · rw [← EReal.coe_sub, Ideal.exp_coe, ← Real.exp_add]
    exact congrArg (fun t : ℝ => ((Real.exp t : ℝ) : EReal)) (sub_eq_neg_add _ _)
  · rw [EReal.bot_sub, Ideal.exp_bot, mul_zero, EReal.coe_zero]

theorem prob_at (hq : Reals x0 q) (hk : Reals x1 k) (i : S16x4x2x4096x4096.Idx) : val_main_v45 (F := Ideal) x0 x1 i
    = ((Attn.weight (score q k (i 0).val (i 1).val (i 2).val (i 3).val) (seen (i 3).val) (i 4).val
      / ∑ j ∈ Finset.range 4096, Attn.weight (score q k (i 0).val (i 1).val (i 2).val (i 3).val) (seen (i 3).val) j : ℝ) : EReal) := by
  obtain ⟨μ, hμ⟩ := max_at hq hk (idx_main_v38 (idx_main_v39 i))
  have hs : val_main_v42 (F := Ideal) x0 x1 (idx_main_v43 (idx_main_v44 i)) = ((Real.exp (-μ)
      * ∑ j ∈ Finset.range 4096, Attn.weight (score q k (i 0).val (i 1).val (i 2).val (i 3).val) (seen (i 3).val) j : ℝ) : EReal) := by
    rw [val_main_v42_apply, val_main_cst_7_apply, Finset.sum_congr rfl fun j _ => exp_at hq hk (idx_main_v42 (idx_main_v43 (idx_main_v44 i)) j) μ hμ, ← coe_sum,
      ← Finset.mul_sum]
    show Ideal.ofBits .f32 0#32 + _ = _
    rw [show Ideal.ofBits .f32 0#32 = 0 by simp [Ideal.ofBits, Ideal.ieee], zero_add, Finset.sum_range]
  have hpos : (0 : ℝ) < ∑ j ∈ Finset.range 4096, Attn.weight (score q k (i 0).val (i 1).val (i 2).val (i 3).val) (seen (i 3).val) j := by
    refine Finset.sum_pos' (fun j _ => ?_) ⟨0, Finset.mem_range.2 (by norm_num), ?_⟩
    · unfold Attn.weight
      split
      exacts [(Real.exp_pos _).le, le_rfl]
    · unfold Attn.weight
      rw [if_pos (show seen (i 3).val 0 from Nat.zero_div 64 ▸ Nat.zero_le _)]
      exact Real.exp_pos _
  rw [val_main_v45_apply, exp_at hq hk i μ hμ, val_main_v44_apply, val_main_v43_apply, hs]
  refine (div_real _ (mul_pos (Real.exp_pos _) hpos).ne').trans ?_
  rw [mul_div_mul_left _ _ (Real.exp_pos _).ne']

end Cert.AttentionReferenceIdeal.Row
-- ==== Proof.AttnRef.lean ====
/- What the attention's reference computes: at each place, the norm of the difference of the two maps' averages. -/
module

public import proofs.«01_k».proof.Proof.AttnProbs

@[expose] public section

set_option maxRecDepth 100000

noncomputable section

namespace Cert.AttentionReferenceIdeal.Row

open Cert.AttentionReferenceIdeal Cert.AttentionReferenceIdeal.Gen Cert.AttentionReferenceIdeal.Read Idealize.ShloMosaic Cert.Route Cert.Attn

variable {x0 x1 x2 : FVec Ideal S16x4096x256 .bf16} {x3 : FVec Ideal S4x32 .f32} {x4 : FVec Ideal S64 .f32} {q k v : ℕ → ℕ → ℕ → ℝ} {l : ℝ}

theorem factor_at (i : S_.Idx) : val_main_v21 (F := Ideal) x3 i = factor fun p d => x3 (ix2 p d) := by
  rw [show i = ix0 from funext fun a => a.elim0]
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_cst, val_main_cst_0, val_main_cst_1]
  rfl

/-- The weight of key `j` in map `s` of head `h`. -/
def prob (q k : ℕ → ℕ → ℕ → ℝ) (b h s R j : ℕ) : ℝ :=
  Attn.weight (score q k b h s R) (seen R) j / ∑ i ∈ Finset.range 4096, Attn.weight (score q k b h s R) (seen R) i

theorem map0_at (hq : Reals x0 q) (hk : Reals x1 k) (i : S16x4x4096x4096.Idx) :
    val_main_v47 (F := Ideal) x0 x1 i = (prob q k (i 0).val (i 1).val 0 (i 2).val (i 3).val : EReal) := by
  rw [val_main_v47_apply, val_main_v46_apply, prob_at hq hk]
  have h0 : (i 0).val < 16 := (i 0).isLt
  have h1 : (i 1).val < 4 := (i 1).isLt
  have h2 : (i 2).val < 4096 := (i 2).isLt
  have h3 : (i 3).val < 4096 := (i 3).isLt
  have e0 : (idx_main_v46 (idx_main_v47 i) 0).val = (i 0).val := by
    show ((((i 0).val * 4 + (i 1).val) * 4096 + (i 2).val) * 4096 + (i 3).val) / 67108864 = _
    omega
  have e1 : (idx_main_v46 (idx_main_v47 i) 1).val = (i 1).val := by
    show ((((i 0).val * 4 + (i 1).val) * 4096 + (i 2).val) * 4096 + (i 3).val) / 16777216 % 4 = _
    omega
  have e2 : (idx_main_v46 (idx_main_v47 i) 2).val = 0 := rfl
  have e3 : (idx_main_v46 (idx_main_v47 i) 3).val = (i 2).val := by
    show ((((i 0).val * 4 + (i 1).val) * 4096 + (i 2).val) * 4096 + (i 3).val) / 4096 % 4096 = _
    omega
  have e4 : (idx_main_v46 (idx_main_v47 i) 4).val = (i 3).val := by
    show ((((i 0).val * 4 + (i 1).val) * 4096 + (i 2).val) * 4096 + (i 3).val) % 4096 = _
    omega
  rw [e0, e1, e2, e3, e4]
  rfl

theorem map1_at (hq : Reals x0 q) (hk : Reals x1 k) (i : S16x4x4096x4096.Idx) :
    val_main_v49 (F := Ideal) x0 x1 i = (prob q k (i 0).val (i 1).val 1 (i 2).val (i 3).val : EReal) := by
  rw [val_main_v49_apply, val_main_v48_apply, prob_at hq hk]
  have h0 : (i 0).val < 16 := (i 0).isLt
  have h1 : (i 1).val < 4 := (i 1).isLt
  have h2 : (i 2).val < 4096 := (i 2).isLt
  have h3 : (i 3).val < 4096 := (i 3).isLt
  have e0 : (idx_main_v48 (idx_main_v49 i) 0).val = (i 0).val := by
    show ((((i 0).val * 4 + (i 1).val) * 4096 + (i 2).val) * 4096 + (i 3).val) / 67108864 = _
    omega
  have e1 : (idx_main_v48 (idx_main_v49 i) 1).val = (i 1).val := by
    show ((((i 0).val * 4 + (i 1).val) * 4096 + (i 2).val) * 4096 + (i 3).val) / 16777216 % 4 = _
    omega
  have e2 : (idx_main_v48 (idx_main_v49 i) 2).val = 1 := rfl
  have e3 : (idx_main_v48 (idx_main_v49 i) 3).val = (i 2).val := by
    show ((((i 0).val * 4 + (i 1).val) * 4096 + (i 2).val) * 4096 + (i 3).val) / 4096 % 4096 = _
    omega
  have e4 : (idx_main_v48 (idx_main_v49 i) 4).val = (i 3).val := by
    show ((((i 0).val * 4 + (i 1).val) * 4096 + (i 2).val) * 4096 + (i 3).val) % 4096 = _
    omega
  rw [e0, e1, e2, e3, e4]
  rfl

theorem value_at (hv : Reals x2 v) (i : S16x4096x4x64.Idx) :
    val_main_v5 (F := Ideal) x2 i = (v (i 0).val (i 1).val (64 * (i 2).val + (i 3).val) : EReal) := by
  rw [val_main_v5_apply, val_main_v4_apply]
  refine (hv (idx_main_v4 i)).trans ?_
  have h0 : (i 0).val < 16 := (i 0).isLt
  have h1 : (i 1).val < 4096 := (i 1).isLt
  have h2 : (i 2).val < 4 := (i 2).isLt
  have h3 : (i 3).val < 64 := (i 3).isLt
  have e0 : (idx_main_v4 i 0).val = (i 0).val := by
    show ((((i 0).val * 4096 + (i 1).val) * 4 + (i 2).val) * 64 + (i 3).val) / 1048576 = _
    omega
  have e1 : (idx_main_v4 i 1).val = (i 1).val := by
    show ((((i 0).val * 4096 + (i 1).val) * 4 + (i 2).val) * 64 + (i 3).val) / 256 % 4096 = _
    omega
  have e2 : (idx_main_v4 i 2).val = 64 * (i 2).val + (i 3).val := by
    show ((((i 0).val * 4096 + (i 1).val) * 4 + (i 2).val) * 64 + (i 3).val) % 256 = _
    omega
  rw [e0, e1, e2]

/-- One entry of the row that is normed. -/
def diff (q k v : ℕ → ℕ → ℕ → ℝ) (l : ℝ) (b h R e : ℕ) : ℝ :=
  attend (q b) (k b) (v b) h 0 R e - l * attend (q b) (k b) (v b) h 1 R e

theorem diff_sum (b h R e : ℕ) : ∑ j : Fin 4096, v b j.val (64 * h + e) * (prob q k b h 0 R j.val - l * prob q k b h 1 R j.val) = diff q k v l b h R e := by
  have hp (s : ℕ) : attend (q b) (k b) (v b) h s R e = ∑ j : Fin 4096, prob q k b h s R j.val * v b j.val (64 * h + e) :=
    Finset.sum_range fun j => prob q k b h s R j * v b j (64 * h + e)
  rw [diff, hp, hp, Finset.mul_sum, ← Finset.sum_sub_distrib]
  refine Finset.sum_congr rfl fun j _ => ?_
  ring

theorem diff_at (hq : Reals x0 q) (hk : Reals x1 k) (hv : Reals x2 v) (hl : (factor fun p d => x3 (ix2 p d)) = (l : EReal)) (i : S16x4096x4x64.Idx) :
    val_main_v54 (F := Ideal) x0 x1 x2 x3 i = (diff q k v l (i 0).val (i 2).val (i 1).val (i 3).val : EReal) := by
  have hd (j : S16x4x4096x4096.Idx) : val_main_v52 (F := Ideal) x0 x1 x3 j
      = ((prob q k (j 0).val (j 1).val 0 (j 2).val (j 3).val - l * prob q k (j 0).val (j 1).val 1 (j 2).val (j 3).val : ℝ) : EReal) := by
    rw [val_main_v52_apply, val_main_v51_apply, val_main_v50_apply, factor_at, hl, map0_at hq hk, map1_at hq hk]
    rw [EReal.coe_sub, EReal.coe_mul]
    rfl
  rw [val_main_v54_apply, val_main_v53_apply, Finset.sum_congr rfl fun j _ => by rw [value_at hv, hd, ← EReal.coe_mul], ← coe_sum]
  exact congrArg _ (diff_sum (i 0).val (i 2).val (i 1).val (i 3).val)

theorem row_at (hq : Reals x0 q) (hk : Reals x1 k) (hv : Reals x2 v) (hl : (factor fun p d => x3 (ix2 p d)) = (l : EReal)) (i : S16x4096x4x64.Idx) :
    val_main_v69 (F := Ideal) x0 x1 x2 x3 x4 i
      = rms (fun e => (diff q k v l (i 0).val (i 2).val (i 1).val e.val : EReal)) (fun e => x4 (ix1 e)) ⟨(i 3).val, (i 3).isLt⟩ := by
  rw [val_main_v69_apply, val_main_v68_apply, val_main_cst_11_apply, val_main_v67_apply, val_main_v66_apply, val_main_v65_apply, val_main_v64_apply,
    val_main_v63_apply, val_main_v62_apply, val_main_v61_apply, val_main_v60_apply, val_main_cst_10_apply, val_main_v59_apply, val_main_v58_apply,
    val_main_cst_9_apply, val_main_v57_apply, val_main_v56_apply, val_main_cst_8_apply, diff_at hq hk hv hl,
    Finset.sum_congr rfl fun e _ => by rw [val_main_v55_apply, diff_at hq hk hv hl]]
  have hg : idx_main_v65 (idx_main_v66 i) = ix1 (⟨(i 3).val, (i 3).isLt⟩ : Fin 64) := by
    funext a
    fin_cases a
    rfl
  rw [hg]
  show _ * Ideal.rsqrt (Ideal.div (Ideal.ofBits .f32 0#32 + _) _ + _) * _ * _ = _
  rw [show Ideal.ofBits .f32 0#32 = 0 by simp [Ideal.ofBits, Ideal.ieee], zero_add]
  rfl

theorem result_at (hq : Reals x0 q) (hk : Reals x1 k) (hv : Reals x2 v) (hl : (factor fun p d => x3 (ix2 p d)) = (l : EReal)) (i : S16x4096x256.Idx) :
    val_main_v71 (F := Ideal) x0 x1 x2 x3 x4 i
      = attnRow (q (i 0).val) (k (i 0).val) (v (i 0).val) l (fun e => x4 (ix1 e)) ((i 2).val / 64) (i 1).val ⟨(i 2).val % 64, Nat.mod_lt _ (by decide)⟩ := by
  rw [val_main_v71_apply, val_main_v70_apply]
  refine (row_at hq hk hv hl (idx_main_v70 i)).trans ?_
  have h0 : (i 0).val < 16 := (i 0).isLt
  have h1 : (i 1).val < 4096 := (i 1).isLt
  have h2 : (i 2).val < 256 := (i 2).isLt
  have e0 : (idx_main_v70 i 0).val = (i 0).val := by
    show (((i 0).val * 4096 + (i 1).val) * 256 + (i 2).val) / 1048576 = _
    omega
  have e1 : (idx_main_v70 i 1).val = (i 1).val := by
    show (((i 0).val * 4096 + (i 1).val) * 256 + (i 2).val) / 256 % 4096 = _
    omega
  have e2 : (idx_main_v70 i 2).val = (i 2).val / 64 := by
    show (((i 0).val * 4096 + (i 1).val) * 256 + (i 2).val) / 64 % 4 = _
    omega
  have e3 : (idx_main_v70 i 3).val = (i 2).val % 64 := by
    show (((i 0).val * 4096 + (i 1).val) * 256 + (i 2).val) % 64 = _
    omega
  have e : (⟨(idx_main_v70 i 3).val, (idx_main_v70 i 3).isLt⟩ : Fin 64) = ⟨(i 2).val % 64, Nat.mod_lt _ (by decide)⟩ := Fin.ext e3
  rw [e0, e1, e2, e]
  rfl

end Cert.AttentionReferenceIdeal.Row
-- ==== Proof.AttnEquation.lean ====
/- The attention's kernel and its reference leave one array where the queries, keys, values and the factor's parameters are finite. -/
module

public import proofs.«01_k».proof.Defs
public import proofs.«01_k».proof.Proof.AttnArray
public import proofs.«01_k».proof.Proof.AttnRef

@[expose] public section

set_option maxRecDepth 100000

noncomputable section

namespace Cert.AttnEquation

open Idealize.ShloMosaic Idealize.ShloMosaic.TcCoe Cert.Route Cert.Attn

/-- The shapes the precondition's comparisons broadcast to. -/
theorem preFacts : Cert.Pre_attention_finite.Facts where
  bcast_S_S16x4096x256 := by decide
  bcast_S_S4x32 := by decide

/-- An array compared entry by entry below a word that is infinity holds reals. -/
theorem reals_of_below {S : Shape} {f : FTy} (a : FVec Ideal S f) (w : BitVec f.bits) (top : Ideal.ofBits f w = ⊤)
    (h : ∀ i, BitVec.ofBool (decide (max (a i : EReal) (-(a i : EReal)) < Ideal.ofBits f w)) = 1#1) : ∃ x : S.Idx → ℝ, ∀ i, a i = (x i : EReal) := by
  have hi : ∀ i, ∃ y : ℝ, a i = (y : EReal) := fun i => by
    have e := h i
    rw [top] at e
    generalize (a i : EReal) = z at *
    induction z using EReal.rec with
    | bot => simp at e
    | top => simp at e
    | coe y => exact ⟨y, rfl⟩
  choose x hx using hi
  exact ⟨x, hx⟩

/-- A number for each place of an array, read at any three naturals. -/
def byPlace (x : Cert.AttentionIdeal.S16x4096x256.Idx → ℝ) (b r d : ℕ) : ℝ :=
  x (ix3 (Fin.ofNat 16 b) (Fin.ofNat 4096 r) (Fin.ofNat 256 d))

theorem byPlace_at (x : Cert.AttentionIdeal.S16x4096x256.Idx → ℝ) (b : Fin 16) (r : Fin 4096) (d : Fin 256) : byPlace x b.val r.val d.val = x (ix3 b r d) := by
  unfold byPlace
  have hb : Fin.ofNat 16 b.val = b := Fin.ext (Nat.mod_eq_of_lt b.isLt)
  have hr : Fin.ofNat 4096 r.val = r := Fin.ext (Nat.mod_eq_of_lt r.isLt)
  have hd : Fin.ofNat 256 d.val = d := Fin.ext (Nat.mod_eq_of_lt d.isLt)
  rw [hb, hr, hd]

/-- The factor of real parameters is real. -/
theorem factor_real (p : Fin 4 → Fin 32 → ℝ) : ∃ l : ℝ, factor (fun i d => (p i d : EReal)) = (l : EReal) := by
  have hc : ∃ z : ℝ, Ideal.ofBits .f32 0x3EB60549#32 = (z : EReal) := by
    simp only [Ideal.ofBits, Ideal.ieee]
    exact ⟨_, by simp; rw [← EReal.coe_mul]⟩
  obtain ⟨z, hz⟩ := hc
  refine ⟨Real.exp (∑ d, p 0 d * p 1 d) - Real.exp (∑ d, p 2 d * p 3 d) + z, ?_⟩
  unfold factor
  rw [hz]
  simp only [← EReal.coe_mul, ← coe_sum, Ideal.exp_coe, ← EReal.coe_sub, ← EReal.coe_add]

section
attribute [local instance] preFacts

open Cert.AttentionIdeal.Array in
/-- Under the precondition the reference's array, of the same arguments, is the kernel's. -/
theorem arrays_eq (m : (ℓ : Loc Cert.AttentionIdeal.nD Cert.AttentionIdeal.τ Cert.AttentionIdeal.sig) → Buf (Elt Ideal) ℓ) (c : Dev Cert.AttentionIdeal.nD)
    (hp : Cert.Pre_AttentionIdeal_attention_finite m)
    (x0 x1 x2 : FVec Ideal Cert.AttentionReferenceIdeal.S16x4096x256 .bf16) (x3 : FVec Ideal Cert.AttentionReferenceIdeal.S4x32 .f32)
    (x4 : FVec Ideal Cert.AttentionReferenceIdeal.S64 .f32)
    (h0 : x0 = a0 m c) (h1 : x1 = a1 m c) (h2 : x2 = a2 m c) (h3 : x3 = a3 m c) (h4 : x4 = a4 m c) :
    Cert.AttentionReferenceIdeal.Read.val_main_v71 (F := Ideal) x0 x1 x2 x3 x4 = (Cert.AttentionIdeal.Gen.dats m 0 c).arrAt 5 Cert.AttentionIdeal.cfg0.N := by
  subst h0 h1 h2 h3 h4
  obtain ⟨p0, p1, p2, p3⟩ := hp c
  have tb : Ideal.ofBits .bf16 0x7F80#16 = ⊤ := by simp [Ideal.ofBits, Ideal.ieee]
  have tf : Ideal.ofBits .f32 0x7F800000#32 = ⊤ := by simp [Ideal.ofBits, Ideal.ieee]
  obtain ⟨q, hq⟩ := reals_of_below (a0 m c) 0x7F80#16 tb fun i => congrFun p0 i
  obtain ⟨k, hk⟩ := reals_of_below (a1 m c) 0x7F80#16 tb fun i => congrFun p1 i
  obtain ⟨v, hv⟩ := reals_of_below (a2 m c) 0x7F80#16 tb fun i => congrFun p2 i
  obtain ⟨p, hpar⟩ := reals_of_below (a3 m c) 0x7F800000#32 tf fun i => congrFun p3 i
  obtain ⟨l, hl⟩ := factor_real fun i d => p (ix2 i d)
  have hl' : factor (fun i d => a3 m c (ix2 i d)) = (l : EReal) := by
    rw [← hl]
    exact congrArg factor (funext fun i => funext fun d => hpar _)
  have at3 : ∀ (a : FVec Ideal Cert.AttentionIdeal.S16x4096x256 .bf16) (x : Cert.AttentionIdeal.S16x4096x256.Idx → ℝ), (∀ i, a i = (x i : EReal)) →
      ∀ b r d, a (ix3 b r d) = (byPlace x b.val r.val d.val : EReal) := fun a x h b r d => by rw [byPlace_at, h]
  have every : ∀ (a : FVec Ideal Cert.AttentionIdeal.S16x4096x256 .bf16) (x : Cert.AttentionIdeal.S16x4096x256.Idx → ℝ), (∀ i, a i = (x i : EReal)) →
      Cert.AttentionReferenceIdeal.Row.Reals a (byPlace x) := fun a x h i => by
    obtain ⟨b, r, d, rfl⟩ : ∃ (b : Fin 16) (r : Fin 4096) (d : Fin 256), i = ix3 b r d := ⟨i 0, i 1, i 2, by funext t; fin_cases t <;> rfl⟩
    exact at3 a x h b r d
  rw [array_eq m c _ _ _ (at3 _ q hq) (at3 _ k hk) (at3 _ v hv) l hl']
  exact funext fun i => Cert.AttentionReferenceIdeal.Row.result_at (every _ q hq) (every _ k hk) (every _ v hv) hl' i

end

end Cert.AttnEquation
-- ==== Proof.PrepEquation.lean ====
/- The attention's preparation: the kernel's arrays and the reference's are the same. -/
module

public import proofs.«01_k».proof.Defs
public import proofs.«01_k».proof.Proof.PrepArray
public import proofs.«01_k».proof.Proof.PrepRef
public import proofs.«01_k».proof.Proof.AttnEquation

@[expose] public section

set_option maxRecDepth 100000

noncomputable section

namespace Cert.PrepEquation

open Idealize.ShloMosaic Idealize.ShloMosaic.TcCoe Cert.Route Cert.Prep Cert.AttnEquation

/-- The shapes the precondition cuts out and broadcasts to. -/
theorem preFacts : Cert.Pre_prep_finite.Facts where
  slices_S16x4096x768_S16x4096x256_0_0_256 := by decide
  bcast_S_S16x4096x256 := by decide

/-- The middle third of every row, which holds the keys. -/
def middle (a : FVec Ideal Cert.Pre_prep_finite.S16x4096x768 .f32) : FVec Ideal Cert.Pre_prep_finite.S16x4096x256 .f32 :=
  extractStridedSlice Cert.Pre_prep_finite.S16x4096x256 ![0, 0, 256] a preFacts.slices_S16x4096x768_S16x4096x256_0_0_256

/-- The two programs' angles are one table. -/
theorem angle_eq : Cert.AttnPrepReferenceIdeal.Read.val_main_v29 (F := Ideal) = Cert.AttnPrepIdeal.Array.angle := rfl

section
attribute [local instance] preFacts

open Cert.AttnPrepIdeal.Array in
/-- Under the precondition the keys are real numbers. -/
theorem keys_real (m : (ℓ : Loc Cert.AttnPrepIdeal.nD Cert.AttnPrepIdeal.τ Cert.AttnPrepIdeal.sig) → Buf (Elt Ideal) ℓ) (c : Dev Cert.AttnPrepIdeal.nD)
    (hp : Cert.Pre_AttnPrepIdeal_prep_finite m) : ∃ x : ℕ → ℕ → ℕ → ℝ, ∀ (b : Fin 16) (R : Fin 4096) (w : Fin 256),
      a0 m c (ix3 b R ⟨256 + w.val, by omega⟩) = (x b.val R.val w.val : EReal) := by
  have tf : Ideal.ofBits .f32 0x7F800000#32 = ⊤ := by simp [Ideal.ofBits, Ideal.ieee]
  obtain ⟨k, hk⟩ := reals_of_below (middle (a0 m c)) 0x7F800000#32 tf fun i => congrFun (hp c) i
  refine ⟨byPlace k, fun b R w => ?_⟩
  rw [byPlace_at, ← hk]
  pointwise [middle]

open Cert.AttnPrepIdeal.Array in
/-- Under the precondition the reference's arrays, of the same arguments, are the kernel's. -/
theorem arrays_eq (m : (ℓ : Loc Cert.AttnPrepIdeal.nD Cert.AttnPrepIdeal.τ Cert.AttnPrepIdeal.sig) → Buf (Elt Ideal) ℓ) (c : Dev Cert.AttnPrepIdeal.nD)
    (hp : Cert.Pre_AttnPrepIdeal_prep_finite m)
    (x0 : FVec Ideal Cert.AttnPrepReferenceIdeal.S16x4096x768 .f32) (x2 : FVec Ideal Cert.AttnPrepReferenceIdeal.S32 .f32) (h0 : x0 = a0 m c) (h2 : x2 = a2 m c) :
    Cert.AttnPrepReferenceIdeal.Read.val_main_v50 (F := Ideal) x0 x2 = (Cert.AttnPrepIdeal.Gen.dats m 0 c).arrAt 10 Cert.AttnPrepIdeal.cfg0.N
    ∧ Cert.AttnPrepReferenceIdeal.Read.val_main_v3 (F := Ideal) x0 = (Cert.AttnPrepIdeal.Gen.dats m 0 c).arrAt 11 Cert.AttnPrepIdeal.cfg0.N := by
  subst h0 h2
  obtain ⟨x, hx⟩ := keys_real m c hp
  rw [keys_eq m c x hx, values_eq]
  have every : ∀ i : Cert.AttnPrepIdeal.S16x4096x256.Idx, ∃ (b : Fin 16) (R : Fin 4096) (w : Fin 256), i = ix3 b R w :=
    fun i => ⟨i 0, i 1, i 2, by funext t; fin_cases t <;> rfl⟩
  constructor
  · funext i
    obtain ⟨b, R, w, rfl⟩ := every i
    exact Cert.AttnPrepReferenceIdeal.Row.v50_at _ _ b R w (x b.val R.val) (hx b R)
  · funext i
    obtain ⟨b, R, w, rfl⟩ := every i
    exact Cert.AttnPrepReferenceIdeal.Row.v3_at _ b R w

end

end Cert.PrepEquation
-- ==== Proof.InProjArray.lean ====
/- What the input projection's kernel leaves in its seven result arrays: row by row, the normed row against its columns of
   the weights. -/
module

public import proofs.«01_k».proof.Proof.Rows
public import proofs.«01_k».proof.Proof.Gen.InProjIdeal.Value
public import Idealize.ShloMosaic.Lib.Pipeline.ValueKit

@[expose] public section

set_option maxRecDepth 100000

noncomputable section

namespace Cert.Route

/-- The column of the weights that column `j` of the reordered weights holds: the two halves change places around the three
    groups of four. -/
def source (j : ℕ) : ℕ := if j < 2304 then j else if j < 3328 then j + 8 else if j < 3336 then j - 1024 else j

/-- The normed row against column `j` of the reordered weights; from 3340 on those are zero. -/
def column (x : Fin 1024 → EReal) (w : Fin 1024 → Fin 3340 → EReal) (j : ℕ) : EReal :=
  if h : j < 3340 then ∑ q, x q * w q ⟨source j, by unfold source; split_ifs <;> omega⟩ else 0

end Cert.Route

namespace Cert.InProjIdeal.Array

open Cert.InProjIdeal Cert.InProjIdeal.Gen Idealize.ShloMosaic Idealize.ShloMosaic.TcCoe Cert.Route

/-! ## The host's arrays -/

theorem flat_x (a : FVec Ideal S16x4096x1024 .f32) (r : Fin 65536) (k : Fin 1024) :
    shapeCast S65536x1024 a shapeCasts_S16x4096x1024_S65536x1024 (ix2 r k)
      = a (ix3 (⟨r.val / 4096, by omega⟩ : Fin 16) (⟨r.val % 4096, by omega⟩ : Fin 4096) k) := by
  pointwise

theorem flat_g (a : FVec Ideal S1024 .f32) (k : Fin 1024) : shapeCast S1x1024 a shapeCasts_S1024_S1x1024 (ix2 0 k) = a (ix1 k) := by
  pointwise

variable (m : (ℓ : Loc nD τ sig) → Buf (Elt Ideal) ℓ) (c : Dev nD)

/-- Argument 0 as launched. -/
abbrev a0 : FVec Ideal S16x4096x1024 .f32 := m ((c : Thread nD τ).loc main_arg0)
/-- Argument 1 as launched. -/
abbrev a1 : FVec Ideal S1024 .f32 := m ((c : Thread nD τ).loc main_arg1)
/-- Argument 2 as launched. -/
abbrev a2 : FVec Ideal S1024x3340 .f32 := m ((c : Thread nD τ).loc main_arg2)

theorem v13_at (r : Fin 65536) (k : Fin 1024) :
    (V m c main_v13 : FVec Ideal S65536x1024 .f32) (ix2 r k) = a0 m c (ix3 (⟨r.val / 4096, by omega⟩ : Fin 16) (⟨r.val % 4096, by omega⟩ : Fin 4096) k) := by
  have e : (V m c main_v13 : FVec Ideal S65536x1024 .f32) = shapeCast S65536x1024 (a0 m c) shapeCasts_S16x4096x1024_S65536x1024 := by
    show StableHlo.after hostOps0 _ (Proc.devRef .tc main_v13) = _
    after_results
    rfl
  rw [e, flat_x]

theorem v12_at (k : Fin 1024) : (V m c main_v12 : FVec Ideal S1x1024 .f32) (ix2 0 k) = a1 m c (ix1 k) := by
  have e : (V m c main_v12 : FVec Ideal S1x1024 .f32) = shapeCast S1x1024 (a1 m c) shapeCasts_S1024_S1x1024 := by
    show StableHlo.after hostOps0 _ (Proc.devRef .tc main_v12) = _
    after_results
    rfl
  rw [e, flat_g]

/-- The reordered weights. -/
def reordered (a : FVec Ideal S1024x3340 .f32) : FVec Ideal S1024x3456 .f32 :=
  concatenate S1024x3456 1
    [⟨S1024x512, extractStridedSlice S1024x512 ![0, 0] a slices_S1024x3340_S1024x512_0_0⟩,
     ⟨S1024x768, extractStridedSlice S1024x768 ![0, 512] a slices_S1024x3340_S1024x768_0_512⟩,
     ⟨S1024x768, extractStridedSlice S1024x768 ![0, 1280] a slices_S1024x3340_S1024x768_0_1280⟩,
     ⟨S1024x256, extractStridedSlice S1024x256 ![0, 2048] a slices_S1024x3340_S1024x256_0_2048⟩,
     ⟨S1024x256, extractStridedSlice S1024x256 ![0, 2312] a slices_S1024x3340_S1024x256_0_2312⟩,
     ⟨S1024x768, extractStridedSlice S1024x768 ![0, 2568] a slices_S1024x3340_S1024x768_0_2568⟩,
     ⟨S1024x4, extractStridedSlice S1024x4 ![0, 2304] a slices_S1024x3340_S1024x4_0_2304⟩,
     ⟨S1024x4, extractStridedSlice S1024x4 ![0, 2308] a slices_S1024x3340_S1024x4_0_2308⟩,
     ⟨S1024x4, extractStridedSlice S1024x4 ![0, 3336] a slices_S1024x3340_S1024x4_0_3336⟩,
     ⟨S1024x116, broadcastInDim S1024x116 ![] bcast_S_S1024x116 (constant S_ .f32 0x00000000#32)⟩]
    concatenates_S1024x512_S1024x768_S1024x768_S1024x256_S1024x256_S1024x768_S1024x4_S1024x4_S1024x4_S1024x116_S1024x3456_d1

theorem either {p : Prop} [Decidable p] {α : Type} {x : p → α} {y : ¬ p → α} {v : α} (hx : ∀ h, x h = v) (hy : ∀ h, y h = v) : dite p x y = v := by
  by_cases h : p
  · rw [dif_pos h, hx]
  · rw [dif_neg h, hy]

theorem reordered_at (a : FVec Ideal S1024x3340 .f32) (q : Fin 1024) (j : Fin 3456) : reordered a (ix2 q j)
    = if h : j.val < 3340 then a (ix2 q ⟨source j.val, by unfold source; split_ifs <;> omega⟩) else 0 := by
  pointwise [reordered]
  have key (p : ℕ) (hp : p < 3340) (hj : j.val < 3340) (e : p = source j.val) : a (ix2 q ⟨p, hp⟩)
      = if h : j.val < 3340 then a (ix2 q ⟨source j.val, by unfold source; split_ifs <;> omega⟩) else 0 := by
    subst e
    rw [dif_pos hj]
  iterate 9 refine either (fun _ => key _ _ (by omega) (by unfold source; split_ifs <;> omega)) fun _ => ?_
  rw [dif_neg (by omega)]

theorem v11_eq : (V m c main_v11 : FVec Ideal S1024x3456 .bf16) = truncf .bf16 (reordered (a2 m c)) bitsLt_bf16_f32 := by
  show StableHlo.after hostOps0 _ (Proc.devRef .tc main_v11) = _
  after_results
  rfl

/-! ## The windows' blocks -/

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])

theorem blk0_at (t : Fin cfg0.N) (i : Fin 512) (k : Fin 1024) (r : Fin 65536) (hr : r.val = t.val * 512 + i.val) :
    (iblk m c 0 t : FVec Ideal S512x1024 .f32) (ix2 i k) = a0 m c (ix3 (⟨r.val / 4096, by omega⟩ : Fin 16) (⟨r.val % 4096, by omega⟩ : Fin 4096) k) := by
  rw [← v13_at]
  blk_simp [iblk]
  refine congrArg (V m c main_v13) ?_
  blk_ext [index0]

theorem blk1_at (t : Fin cfg0.N) (k : Fin 1024) : (iblk m c 1 t : FVec Ideal S1x1024 .f32) (ix2 0 k) = a1 m c (ix1 k) := by
  rw [← v12_at]
  blk_simp [iblk]
  refine congrArg (V m c main_v12) ?_
  blk_ext [index1]

theorem blk2_at (t : Fin cfg0.N) (q : Fin 1024) (j : Fin 3456) : (iblk m c 2 t : FVec Ideal S1024x3456 .bf16) (ix2 q j)
    = if h : j.val < 3340 then a2 m c (ix2 q ⟨source j.val, by unfold source; split_ifs <;> omega⟩) else 0 := by
  rw [← reordered_at]
  refine Eq.trans ?_ (congrFun (v11_eq m c) (ix2 q j))
  blk_simp [iblk]
  refine congrArg (V m c main_v11) ?_
  blk_ext [index2]

/-! ## One block -/

section
variable (x0 : Vec Ideal S512x1024 .f32) (x1 : Vec Ideal S1x1024 .f32) (i : Fin 512) (h g : Fin 1024 → EReal)
  (hx : ∀ k, x0 (ix2 i k) = h k) (hg : ∀ k, x1 (ix2 0 k) = g k)
include hx hg

theorem xn_at (k : Fin 1024) : (k0_pay5 x0 x1 : FVec Ideal S512x1024 .bf16) (ix2 i k) = normed h g k := by
  pointwise [k0_pay5]
  simp only [hx, hg]
  rfl

theorem pay6_at (w : Vec Ideal S1024x512 .bf16) (k : Fin 512) :
    (k0_pay6 x0 x1 w : FVec Ideal S512x512 .f32) (ix2 i k) = ∑ q, normed h g q * w (ix2 q k) := by
  pointwise [k0_pay6]
  simp only [xn_at x0 x1 i h g hx hg]

theorem pay7_at (w : Vec Ideal S1024x768 .bf16) (k : Fin 768) :
    (k0_pay7 x0 x1 w : FVec Ideal S512x768 .f32) (ix2 i k) = ∑ q, normed h g q * w (ix2 q k) := by
  pointwise [k0_pay7]
  simp only [xn_at x0 x1 i h g hx hg]

theorem pay1_at (w : Vec Ideal S1024x256 .bf16) (k : Fin 256) :
    (k0_pay1 (k0_pay5 x0 x1) (k0_pay9 w) (constant S512x256 .f32 0x00000000#32) : FVec Ideal S512x256 .f32) (ix2 i k)
      = ∑ q, normed h g q * w (ix2 q k) := by
  pointwise [k0_pay1, k0_pay9]
  simp only [xn_at x0 x1 i h g hx hg]

theorem pay2_at (w : Vec Ideal S1024x256 .bf16) (k : Fin 256) :
    (k0_pay2 (k0_pay5 x0 x1) w : FVec Ideal S512x256 .f32) (ix2 i k) = ∑ q, normed h g q * w (ix2 q k) :=
  pay1_at x0 x1 i h g hx hg w k

theorem pay3_at (w : Vec Ideal S1024x768 .bf16) (k : Fin 768) :
    (k0_pay3 (k0_pay5 x0 x1) w : FVec Ideal S512x768 .f32) (ix2 i k) = ∑ q, normed h g q * w (ix2 q k) :=
  pay7_at x0 x1 i h g hx hg w k

theorem pay8_at (w : Vec Ideal S1024x768 .bf16) (k : Fin 768) :
    (k0_pay8 x0 x1 w : FVec Ideal S512x768 .f32) (ix2 i k) = ∑ q, normed h g q * w (ix2 q k) :=
  pay7_at x0 x1 i h g hx hg w k

theorem pay4_at (w : Vec Ideal S1024x128 .bf16) (k : Fin 128) :
    (k0_pay4 (k0_pay5 x0 x1) w : FVec Ideal S512x128 .f32) (ix2 i k) = ∑ q, normed h g q * w (ix2 q k) := by
  pointwise [k0_pay4]
  simp only [xn_at x0 x1 i h g hx hg]

end

/-- The normed row `r`. -/
def xrow (r : Fin 65536) : Fin 1024 → EReal :=
  normed (fun k => a0 m c (ix3 (⟨r.val / 4096, by omega⟩ : Fin 16) (⟨r.val % 4096, by omega⟩ : Fin 4096) k)) fun k => a1 m c (ix1 k)

/-- A run of the weights' columns, read from the block. -/
theorem ld_at (t : Fin cfg0.N) (o n : ℕ) (inb : ∀ a : Fin 2, (![0, o] : Fin 2 → ℕ) a + (![1024, n] : Fin 2 → ℕ) a ≤ S1024x3456.size a) (x : Fin 1024 → EReal)
    (k : Fin n) (hk : o + k.val < 3456) : ∑ q, x q * View.ld (iblk m c 2 t : FVec Ideal S1024x3456 .bf16) (Rect.unit (s := S1024x3456) ![0, o] ![1024, n] inb) (ix2 q k)
      = column x (fun q j => a2 m c (ix2 q j)) (o + k.val) := by
  have e (q : Fin 1024) : View.ld (iblk m c 2 t : FVec Ideal S1024x3456 .bf16) (Rect.unit (s := S1024x3456) ![0, o] ![1024, n] inb) (ix2 q k)
      = (iblk m c 2 t : FVec Ideal S1024x3456 .bf16) (ix2 q ⟨o + k.val, hk⟩) := by
    refine congrArg (iblk m c 2 t) ?_
    funext a
    fin_cases a <;> refine Fin.ext ?_ <;> simp [Rect.unit, ix2]
  unfold column
  simp only [e, blk2_at]
  split_ifs
  · rfl
  · simp

/-! ## The result arrays -/

theorem zero2 : (![0, 0] : Fin 2 → ℕ) = fun _ => 0 := by funext a; fin_cases a <;> rfl

/-- The result whose first column is column `o` of the reordered weights. -/
def result (o n : ℕ) (i : (⟨2, ![65536, n]⟩ : Shape).Idx) : EReal := column (xrow m c (i 0)) (fun q j => a2 m c (ix2 q j)) (o + (i 1).val)

theorem result_of {n : ℕ} (o : ℕ) (t : Fin cfg0.N) (y : (⟨2, ![512, n]⟩ : Shape).Idx) (e : (⟨2, ![65536, n]⟩ : Shape).Idx) (v : EReal)
    (h : ∀ (i : Fin 512) (k : Fin n) (r : Fin 65536), y = ix2 i k → r.val = t.val * 512 + i.val →
      e = ix2 r k ∧ v = column (xrow m c r) (fun q j => a2 m c (ix2 q j)) (o + k.val)) : v = result m c o n e := by
  have ht : t.val < 128 := t.isLt
  have hy : (y 0).val < 512 := (y 0).isLt
  obtain ⟨he, hv⟩ := h (y 0) (y 1) ⟨t.val * 512 + (y 0).val, by omega⟩ (by funext a; fin_cases a <;> rfl) rfl
  rw [he, hv]
  rfl

theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])
theorem index7 : ∀ t : Fin cfg0.N, win0_7.index t = ![t.val, 0] := (by decide +kernel : ∀ t : Fin grid0.N, win0_7.index t = ![t.val, 0])
theorem index8 : ∀ t : Fin cfg0.N, win0_8.index t = ![t.val, 0] := (by decide +kernel : ∀ t : Fin grid0.N, win0_8.index t = ![t.val, 0])
theorem index9 : ∀ t : Fin cfg0.N, win0_9.index t = ![t.val, 0] := (by decide +kernel : ∀ t : Fin grid0.N, win0_9.index t = ![t.val, 0])

theorem array3 : (Gen.dats m 0 c).arrAt 3 cfg0.N = result m c 0 512 := by
  refine (Gen.dats m 0 c).arrAt_eq_of_covers 3 _ (by decide +kernel) fun t _ y => ?_
  blk_simp
  rw [after0_3]
  unfold_out out0_3
  rw [View.canon_unit_zero zero2, View.ld_unit_zero zero2, View.ld_unit_zero zero2]
  refine result_of m c 0 t y _ _ fun i k r hy hr => ⟨?_, ?_⟩ <;> subst hy
  · blk_ext [index3]
  · exact (pay6_at _ _ i _ _ (fun k => blk0_at m c t i k r hr) (blk1_at m c t) _ k).trans (ld_at m c t 0 512 _ _ k (by omega))

theorem array4 : (Gen.dats m 0 c).arrAt 4 cfg0.N = result m c 512 768 := by
  refine (Gen.dats m 0 c).arrAt_eq_of_covers 4 _ (by decide +kernel) fun t _ y => ?_
  blk_simp
  rw [after0_4]
  unfold_out out0_4
  rw [View.canon_unit_zero zero2, View.ld_unit_zero zero2, View.ld_unit_zero zero2]
  refine result_of m c 512 t y _ _ fun i k r hy hr => ⟨?_, ?_⟩ <;> subst hy
  · blk_ext [index4]
  · exact (pay7_at _ _ i _ _ (fun k => blk0_at m c t i k r hr) (blk1_at m c t) _ k).trans (ld_at m c t 512 768 _ _ k (by omega))

theorem array5 : (Gen.dats m 0 c).arrAt 5 cfg0.N = result m c 1280 768 := by
  refine (Gen.dats m 0 c).arrAt_eq_of_covers 5 _ (by decide +kernel) fun t _ y => ?_
  blk_simp
  rw [after0_5]
  unfold_out out0_5
  rw [View.canon_unit_zero zero2, View.ld_unit_zero zero2, View.ld_unit_zero zero2]
  refine result_of m c 1280 t y _ _ fun i k r hy hr => ⟨?_, ?_⟩ <;> subst hy
  · blk_ext [index5]
  · exact (pay8_at _ _ i _ _ (fun k => blk0_at m c t i k r hr) (blk1_at m c t) _ k).trans (ld_at m c t 1280 768 _ _ k (by omega))

theorem array6 : (Gen.dats m 0 c).arrAt 6 cfg0.N = result m c 2048 256 := by
  refine (Gen.dats m 0 c).arrAt_eq_of_covers 6 _ (by decide +kernel) fun t _ y => ?_
  blk_simp
  rw [after0_6]
  unfold_out out0_6
  rw [View.canon_unit_zero zero2, View.ld_unit_zero zero2, View.ld_unit_zero zero2]
  refine result_of m c 2048 t y _ _ fun i k r hy hr => ⟨?_, ?_⟩ <;> subst hy
  · blk_ext [index6]
  · exact (pay1_at _ _ i _ _ (fun k => blk0_at m c t i k r hr) (blk1_at m c t) _ k).trans (ld_at m c t 2048 256 _ _ k (by omega))

theorem array7 : (Gen.dats m 0 c).arrAt 7 cfg0.N = result m c 2304 256 := by
  refine (Gen.dats m 0 c).arrAt_eq_of_covers 7 _ (by decide +kernel) fun t _ y => ?_
  blk_simp
  rw [after0_7]
  unfold_out out0_7
  rw [View.canon_unit_zero zero2, View.ld_unit_zero zero2, View.ld_unit_zero zero2]
  refine result_of m c 2304 t y _ _ fun i k r hy hr => ⟨?_, ?_⟩ <;> subst hy
  · blk_ext [index7]
  · exact (pay2_at _ _ i _ _ (fun k => blk0_at m c t i k r hr) (blk1_at m c t) _ k).trans (ld_at m c t 2304 256 _ _ k (by omega))

theorem array8 : (Gen.dats m 0 c).arrAt 8 cfg0.N = result m c 2560 768 := by
  refine (Gen.dats m 0 c).arrAt_eq_of_covers 8 _ (by decide +kernel) fun t _ y => ?_
  blk_simp
  rw [after0_8]
  unfold_out out0_8
  rw [View.canon_unit_zero zero2, View.ld_unit_zero zero2, View.ld_unit_zero zero2]
  refine result_of m c 2560 t y _ _ fun i k r hy hr => ⟨?_, ?_⟩ <;> subst hy
  · blk_ext [index8]
  · exact (pay3_at _ _ i _ _ (fun k => blk0_at m c t i k r hr) (blk1_at m c t) _ k).trans (ld_at m c t 2560 768 _ _ k (by omega))

theorem array9 : (Gen.dats m 0 c).arrAt 9 cfg0.N = result m c 3328 128 := by
  refine (Gen.dats m 0 c).arrAt_eq_of_covers 9 _ (by decide +kernel) fun t _ y => ?_
  blk_simp
  rw [after0_9]
  unfold_out out0_9
  rw [View.canon_unit_zero zero2, View.ld_unit_zero zero2, View.ld_unit_zero zero2]
  refine result_of m c 3328 t y _ _ fun i k r hy hr => ⟨?_, ?_⟩ <;> subst hy
  · blk_ext [index9]
  · exact (pay4_at _ _ i _ _ (fun k => blk0_at m c t i k r hr) (blk1_at m c t) _ k).trans (ld_at m c t 3328 128 _ _ k (by omega))

end Cert.InProjIdeal.Array
-- ==== Proof.InProjRef.lean ====
/- What the input projection's reference computes: row by row, the normed row against its columns of the weights. -/
module

public import proofs.«01_k».proof.Proof.InProjArray
public import proofs.«01_k».proof.Proof.Gen.InProjReferenceIdeal.Run
public import proofs.«01_k».proof.Proof.Gen.InProjReferenceIdeal.Read

@[expose] public section

set_option maxRecDepth 100000

noncomputable section

namespace Cert.InProjReferenceIdeal.Rows

open Cert.InProjReferenceIdeal Cert.InProjReferenceIdeal.Gen Cert.InProjReferenceIdeal.Read Idealize.ShloMosaic Cert.Route

variable (x0 : FVec Ideal S16x4096x1024 .f32) (x1 : FVec Ideal S1024 .f32) (x2 : FVec Ideal S1024x3340 .f32)

theorem v12_at (b : Fin 16) (s : Fin 4096) (k : Fin 1024) :
    val_main_v12 (F := Ideal) x0 x1 (ix3 b s k) = normed (fun k => x0 (ix3 b s k)) (fun k => x1 (ix1 k)) k := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  rfl

theorem v13_at (b : Fin 16) (s : Fin 4096) (j : Fin 3340) : val_main_v13 (F := Ideal) x0 x1 x2 (ix3 b s j)
    = ∑ q, normed (fun k => x0 (ix3 b s k)) (fun k => x1 (ix1 k)) q * x2 (ix2 q j) := by
  pointwise [val_main_v13]
  simp only [v12_at]

/-- Row `r` of the result against column `j` of the reordered weights. -/
def col (r : Fin 65536) (j : ℕ) : EReal :=
  column (normed (fun k => x0 (ix3 (⟨r.val / 4096, by omega⟩ : Fin 16) (⟨r.val % 4096, by omega⟩ : Fin 4096) k)) fun k => x1 (ix1 k)) (fun q j => x2 (ix2 q j)) j

/-- A column of the product, by its place among the reordered ones. -/
theorem v13_col (r : Fin 65536) (j : ℕ) (p : Fin 3340) (hj : j < 3340) (hp : p.val = source j) :
    val_main_v13 (F := Ideal) x0 x1 x2 (ix3 (⟨r.val / 4096, by omega⟩ : Fin 16) (⟨r.val % 4096, by omega⟩ : Fin 4096) p) = col x0 x1 x2 r j := by
  rw [v13_at, col, column, dif_pos hj]
  refine Finset.sum_congr rfl fun q _ => congrArg (fun p => _ * x2 (ix2 q p)) (Fin.ext hp)

theorem v25_at (r : Fin 65536) (k : Fin 512) : val_main_v25 (F := Ideal) x0 x1 x2 (ix2 r k) = col x0 x1 x2 r (0 + k.val) := by
  pointwise [val_main_v25, val_main_v14]
  exact v13_col x0 x1 x2 r _ _ (by omega) (by simp only [source]; split_ifs <;> omega)

theorem v26_at (r : Fin 65536) (k : Fin 768) : val_main_v26 (F := Ideal) x0 x1 x2 (ix2 r k) = col x0 x1 x2 r (512 + k.val) := by
  pointwise [val_main_v26, val_main_v15]
  exact v13_col x0 x1 x2 r _ _ (by omega) (by simp only [source]; split_ifs <;> omega)

theorem v27_at (r : Fin 65536) (k : Fin 768) : val_main_v27 (F := Ideal) x0 x1 x2 (ix2 r k) = col x0 x1 x2 r (1280 + k.val) := by
  pointwise [val_main_v27, val_main_v16]
  exact v13_col x0 x1 x2 r _ _ (by omega) (by simp only [source]; split_ifs <;> omega)

theorem v28_at (r : Fin 65536) (k : Fin 256) : val_main_v28 (F := Ideal) x0 x1 x2 (ix2 r k) = col x0 x1 x2 r (2048 + k.val) := by
  pointwise [val_main_v28, val_main_v17]
  exact v13_col x0 x1 x2 r _ _ (by omega) (by simp only [source]; split_ifs <;> omega)

theorem v29_at (r : Fin 65536) (k : Fin 256) : val_main_v29 (F := Ideal) x0 x1 x2 (ix2 r k) = col x0 x1 x2 r (2304 + k.val) := by
  pointwise [val_main_v29, val_main_v20]
  exact v13_col x0 x1 x2 r _ _ (by omega) (by simp only [source]; split_ifs <;> omega)

theorem v30_at (r : Fin 65536) (k : Fin 768) : val_main_v30 (F := Ideal) x0 x1 x2 (ix2 r k) = col x0 x1 x2 r (2560 + k.val) := by
  pointwise [val_main_v30, val_main_v21]
  exact v13_col x0 x1 x2 r _ _ (by omega) (by simp only [source]; split_ifs <;> omega)

theorem v31_at (r : Fin 65536) (k : Fin 128) : val_main_v31 (F := Ideal) x0 x1 x2 (ix2 r k) = col x0 x1 x2 r (3328 + k.val) := by
  pointwise [val_main_v31, val_main_v24, val_main_v23, val_main_v22, val_main_v19, val_main_v18, val_main_c, val_main_call0_v0]
  by_cases h : k.val < 12
  · rw [dif_pos ⟨by omega, by omega, h⟩]
    split_ifs <;> exact v13_col x0 x1 x2 r _ _ (by omega) (by simp only [source]; split_ifs <;> omega)
  · rw [dif_neg fun h' => h h'.2.2, col, column, dif_neg (by omega)]
    show ((((0#32 : BitVec 32).toInt : ℝ)) : EReal) = 0
    simp

end Cert.InProjReferenceIdeal.Rows
-- ==== Proof.InProjEquation.lean ====
/- The input projection: the kernel's seven arrays and the reference's are the same. -/
module

public import proofs.«01_k».proof.Defs
public import proofs.«01_k».proof.Proof.InProjRef

@[expose] public section

set_option maxRecDepth 100000

noncomputable section

namespace Cert.InProjEquation

open Idealize.ShloMosaic Idealize.ShloMosaic.TcCoe Cert.Route Cert.InProjIdeal.Array Cert.InProjReferenceIdeal.Read Cert.InProjReferenceIdeal.Rows

variable (m : (ℓ : Loc Cert.InProjIdeal.nD Cert.InProjIdeal.τ Cert.InProjIdeal.sig) → Buf (Elt Ideal) ℓ) (c : Dev Cert.InProjIdeal.nD)

/-- An array whose rows are the reordered columns from `o` on is the kernel's result there. -/
theorem of_rows {n : ℕ} (o : ℕ) (v : (⟨2, ![65536, n]⟩ : Shape).Idx → EReal)
    (h : ∀ (r : Fin 65536) (k : Fin n), v (ix2 r k) = col (a0 m c) (a1 m c) (a2 m c) r (o + k.val)) : v = result m c o n := by
  funext i
  obtain ⟨r, k, rfl⟩ : ∃ (r : Fin 65536) (k : Fin n), i = ix2 r k := ⟨i 0, i 1, by funext d; fin_cases d <;> rfl⟩
  exact h r k

/-- The reference's seven results, from the kernel's arguments, are the kernel's. -/
theorem arrays_eq (x0 : FVec Ideal Cert.InProjReferenceIdeal.S16x4096x1024 .f32) (x1 : FVec Ideal Cert.InProjReferenceIdeal.S1024 .f32)
    (x2 : FVec Ideal Cert.InProjReferenceIdeal.S1024x3340 .f32) (h0 : x0 = a0 m c) (h1 : x1 = a1 m c) (h2 : x2 = a2 m c) :
    val_main_v25 (F := Ideal) x0 x1 x2 = (Cert.InProjIdeal.Gen.dats m 0 c).arrAt 3 Cert.InProjIdeal.cfg0.N
    ∧ val_main_v26 (F := Ideal) x0 x1 x2 = (Cert.InProjIdeal.Gen.dats m 0 c).arrAt 4 Cert.InProjIdeal.cfg0.N
    ∧ val_main_v27 (F := Ideal) x0 x1 x2 = (Cert.InProjIdeal.Gen.dats m 0 c).arrAt 5 Cert.InProjIdeal.cfg0.N
    ∧ val_main_v28 (F := Ideal) x0 x1 x2 = (Cert.InProjIdeal.Gen.dats m 0 c).arrAt 6 Cert.InProjIdeal.cfg0.N
    ∧ val_main_v29 (F := Ideal) x0 x1 x2 = (Cert.InProjIdeal.Gen.dats m 0 c).arrAt 7 Cert.InProjIdeal.cfg0.N
    ∧ val_main_v30 (F := Ideal) x0 x1 x2 = (Cert.InProjIdeal.Gen.dats m 0 c).arrAt 8 Cert.InProjIdeal.cfg0.N
    ∧ val_main_v31 (F := Ideal) x0 x1 x2 = (Cert.InProjIdeal.Gen.dats m 0 c).arrAt 9 Cert.InProjIdeal.cfg0.N := by
  subst h0 h1 h2
  rw [array3, array4, array5, array6, array7, array8, array9]
  exact ⟨of_rows m c _ _ (v25_at _ _ _), of_rows m c _ _ (v26_at _ _ _), of_rows m c _ _ (v27_at _ _ _), of_rows m c _ _ (v28_at _ _ _),
    of_rows m c _ _ (v29_at _ _ _), of_rows m c _ _ (v30_at _ _ _), of_rows m c _ _ (v31_at _ _ _)⟩

end Cert.InProjEquation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionReferenceIdeal
public import proofs.«01_k».proof.Proof.Gen.AttentionIdeal.Value
public import proofs.«01_k».proof.Proof.Gen.AttentionReferenceIdeal.Run
public import proofs.«01_k».proof.Proof.Gen.AttentionReferenceIdeal.Read
public import proofs.«01_k».proof.Proof.Gen.AttnPrep.Frame
public import proofs.«01_k».proof.Proof.Gen.AttnPrepIdeal.Frame
public import proofs.«01_k».proof.Proof.Gen.AttnPrepReferenceIdeal.Run
public import proofs.«01_k».proof.Proof.Gen.AttnPrepReferenceIdeal.Read
public import proofs.«01_k».proof.Proof.Equation
public import proofs.«01_k».proof.Proof.PrepEquation
public import proofs.«01_k».proof.Proof.InProjEquation
public import proofs.«01_k».proof.Proof.AttnEquation
public import proofs.«01_k».proof.Proof.Gen.InProj.Frame
public import proofs.«01_k».proof.Proof.Gen.InProjIdeal.Value
public import proofs.«01_k».proof.Proof.Gen.InProjReferenceIdeal.Run
public import proofs.«01_k».proof.Proof.Gen.InProjReferenceIdeal.Read
public import Idealize.ShloMosaic.Adequacy
public import Idealize.ShloMosaic.Init

@[expose] public section

noncomputable section

namespace Cert.Proof

open Idealize.ShloMosaic Idealize.SL.Sem Cert.Kernel

/-- The reference leaves its arguments as they were; it declares no semaphore. -/
theorem frame_r : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference leave the same result, and the arguments as they were. -/
theorem algebraic : Cert.algebraic_KernelIdeal_ReferenceIdeal_pre_router_finite (hKernelIdeal := Cert.KernelIdeal.Gen.facts)
    (hReferenceIdeal := Cert.ReferenceIdeal.Gen.facts) (hPre_router_finite := Cert.Equation.preFacts) := by
  intro m g m' g' hp hm
  refine ⟨fun c => (Cert.KernelIdeal.Gen.dats m 0 c).arrAt 11 Cert.KernelIdeal.cfg0.N, Cert.KernelIdeal.Value.run_blocks m g, ?_⟩
  refine (θ_run _ _ _).mono (fun r h c => ?_) (Cert.ReferenceIdeal.Value.run m' g')
  obtain ⟨e0, e1, e2, e3, e4, e5, e6, e7, e8, e9, e10, e11, e12, e13⟩ := hm c
  refine ⟨(h c).1.trans ?_, (h c).2⟩
  exact (Cert.ReferenceIdeal.Read.val_main_v314_eq _).trans
    (Cert.Equation.arrays_eq' m c hp _ _ _ _ _ _ _ _ _ _ _ _ _ _ e0 e1 e2 e3 e4 e5 e6 e7 e8 e9 e10 e11 e12 e13)

/-- The input projection's reference leaves its arguments as they were; it declares no semaphore. -/
theorem frame_r2 : Cert.quiescent_InProjReferenceIdeal (hInProjReferenceIdeal := Cert.InProjReferenceIdeal.Gen.facts) := fun m ρ _ =>
  (θ_run Cert.InProjReferenceIdeal.defs _ _).mono (fun r h => ⟨fun c => (h c).2.2.2.2.2.2.2, sem_eq_zero_of_no_sems (by decide) r.2⟩)
    (Cert.InProjReferenceIdeal.Value.run (F := Ideal) m ρ)

open Cert.InProjReferenceIdeal.Read in
/-- The input projection's kernel and its reference leave the same seven results, and the arguments as they were. -/
theorem algebraic2 : Cert.algebraic_InProjIdeal_InProjReferenceIdeal (hInProjIdeal := Cert.InProjIdeal.Gen.facts)
    (hInProjReferenceIdeal := Cert.InProjReferenceIdeal.Gen.facts) := by
  intro m g m' g' _ hm
  refine ⟨_, _, _, _, _, _, _, Cert.InProjIdeal.Value.run_blocks m g, ?_⟩
  refine (θ_run _ _ _).mono (fun r h c => ?_) (Cert.InProjReferenceIdeal.Value.run m' g')
  obtain ⟨e0, e1, e2⟩ := hm c
  obtain ⟨q0, q1, q2, q3, q4, q5, q6⟩ := Cert.InProjEquation.arrays_eq m c _ _ _ e0 e1 e2
  obtain ⟨h0, h1, h2, h3, h4, h5, h6, hk⟩ := h c
  exact ⟨h0.trans ((val_main_v25_eq _ _ _).trans q0), h1.trans ((val_main_v26_eq _ _ _).trans q1), h2.trans ((val_main_v27_eq _ _ _).trans q2),
    h3.trans ((val_main_v28_eq _ _ _).trans q3), h4.trans ((val_main_v29_eq _ _ _).trans q4), h5.trans ((val_main_v30_eq _ _ _).trans q5),
    h6.trans ((val_main_v31_eq _ _ _).trans q6), hk⟩

/-- The attention's reference leaves its arguments as they were; it declares no semaphore. -/
theorem frame_r3 : Cert.quiescent_AttentionReferenceIdeal (hAttentionReferenceIdeal := Cert.AttentionReferenceIdeal.Gen.facts) := fun m ρ _ =>
  (θ_run Cert.AttentionReferenceIdeal.defs _ _).mono (fun r h => ⟨fun c => (h c).2, sem_eq_zero_of_no_sems (by decide) r.2⟩)
    (Cert.AttentionReferenceIdeal.Value.run (F := Ideal) m ρ)

/-- The attention's kernel and its reference leave the same result, and the arguments as they were. -/
theorem algebraic3 : Cert.algebraic_AttentionIdeal_AttentionReferenceIdeal_pre_attention_finite (hAttentionIdeal := Cert.AttentionIdeal.Gen.facts)
    (hAttentionReferenceIdeal := Cert.AttentionReferenceIdeal.Gen.facts) (hPre_attention_finite := Cert.AttnEquation.preFacts) := by
  intro m g m' g' hp hm
  refine ⟨fun c => (Cert.AttentionIdeal.Gen.dats m 0 c).arrAt 5 Cert.AttentionIdeal.cfg0.N, Cert.AttentionIdeal.Value.run_blocks m g, ?_⟩
  refine (θ_run _ _ _).mono (fun r h c => ?_) (Cert.AttentionReferenceIdeal.Value.run m' g')
  obtain ⟨e0, e1, e2, e3, e4⟩ := hm c
  refine ⟨(h c).1.trans ?_, (h c).2⟩
  exact (Cert.AttentionReferenceIdeal.Read.val_main_v71_eq _ _).trans (Cert.AttnEquation.arrays_eq m c hp _ _ _ _ _ e0 e1 e2 e3 e4)

/-- The preparation's reference leaves its arguments as they were; it declares no semaphore. -/
theorem frame_r4 : Cert.quiescent_AttnPrepReferenceIdeal (hAttnPrepReferenceIdeal := Cert.AttnPrepReferenceIdeal.Gen.facts) := fun m ρ _ =>
  (θ_run Cert.AttnPrepReferenceIdeal.defs _ _).mono (fun r h => ⟨fun c => (h c).2.2, sem_eq_zero_of_no_sems (by decide) r.2⟩)
    (Cert.AttnPrepReferenceIdeal.Value.run (F := Ideal) m ρ)

/-- The preparation's kernel and its reference leave the same keys and values, and the arguments as they were. -/
theorem algebraic4 : Cert.algebraic_AttnPrepIdeal_AttnPrepReferenceIdeal_pre_prep_finite (hAttnPrepIdeal := Cert.AttnPrepIdeal.Gen.facts)
    (hAttnPrepReferenceIdeal := Cert.AttnPrepReferenceIdeal.Gen.facts) (hPre_prep_finite := Cert.PrepEquation.preFacts) := by
  intro m g m' g' hp hm
  refine ⟨_, _, Cert.AttnPrepIdeal.Array.run_arrays m g, ?_⟩
  refine (θ_run _ _ _).mono (fun r h c => ?_) (Cert.AttnPrepReferenceIdeal.Value.run m' g')
  obtain ⟨e0, e1, e2⟩ := hm c
  obtain ⟨q0, q1⟩ := Cert.PrepEquation.arrays_eq m c hp _ _ e0 e2
  obtain ⟨h0, h1, hk⟩ := h c
  exact ⟨h0.trans ((Cert.AttnPrepReferenceIdeal.Read.val_main_v50_eq _ _).trans q0), h1.trans ((Cert.AttnPrepReferenceIdeal.Read.val_main_v3_eq _).trans q1), hk⟩

theorem claim : Cert.Claim :=
  ⟨Cert.Kernel.Gen.facts, Cert.KernelIdeal.Gen.facts, Cert.ReferenceIdeal.Gen.facts, Cert.InProj.Gen.facts, Cert.InProjIdeal.Gen.facts,
    Cert.InProjReferenceIdeal.Gen.facts, Cert.Attention.Gen.facts, Cert.AttentionIdeal.Gen.facts, Cert.AttentionReferenceIdeal.Gen.facts,
    Cert.AttnPrep.Gen.facts, Cert.AttnPrepIdeal.Gen.facts, Cert.AttnPrepReferenceIdeal.Gen.facts,
    Cert.Equation.preFacts, Cert.AttnEquation.preFacts, Cert.PrepEquation.preFacts,
    fun m ρ _ => Cert.Kernel.Gen.frame m ρ, fun m ρ _ => Cert.KernelIdeal.Gen.frame m ρ, fun m ρ _ => Cert.KernelIdeal.Gen.frame m ρ,
    frame_r, fun m ρ _ => frame_r m ρ trivial,
    fun m ρ _ => Cert.InProj.Gen.frame m ρ, fun m ρ _ => Cert.InProjIdeal.Gen.frame m ρ, frame_r2,
    fun m ρ _ => Cert.Attention.Gen.frame m ρ, fun m ρ _ => Cert.AttentionIdeal.Gen.frame m ρ, fun m ρ _ => Cert.AttentionIdeal.Gen.frame m ρ,
    frame_r3, fun m ρ _ => frame_r3 m ρ trivial,
    fun m ρ _ => Cert.AttnPrep.Gen.frame m ρ, fun m ρ _ => Cert.AttnPrepIdeal.Gen.frame m ρ, fun m ρ _ => Cert.AttnPrepIdeal.Gen.frame m ρ,
    frame_r4, fun m ρ _ => frame_r4 m ρ trivial,
    IdealRules.named_const.statement Cert.KernelIdeal.κ "mask" .f32 0xF149F2CA#32 ⊥ rfl, algebraic, trivial, algebraic2,
    ⟨IdealRules.named_const.statement Cert.AttentionIdeal.κ "mask" .f32 0xF149F2CA#32 ⊥ rfl,
      IdealRules.named_const.statement Cert.AttentionIdeal.κ "log2_scale" .f32 0x3E8293EE#32 _ rfl⟩, algebraic3, trivial, algebraic4⟩

end Cert.Proof

end
